-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S64x128 : Shape := ⟨2, ![64, 128]⟩
abbrev S64x8192x64 : Shape := ⟨3, ![64, 8192, 64]⟩
abbrev S64x8192 : Shape := ⟨2, ![64, 8192]⟩
abbrev S64x64 : Shape := ⟨2, ![64, 64]⟩
abbrev S192x256 : Shape := ⟨2, ![192, 256]⟩
abbrev S256 : Shape := ⟨1, ![256]⟩
abbrev S256x64 : Shape := ⟨2, ![256, 64]⟩
abbrev S64 : Shape := ⟨1, ![64]⟩
abbrev S256x1 : Shape := ⟨2, ![256, 1]⟩
abbrev S1 : Shape := ⟨1, ![1]⟩
abbrev S256x3 : Shape := ⟨2, ![256, 3]⟩
abbrev S3 : Shape := ⟨1, ![3]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64x8192x64 : S_.BroadcastsInDim S64x8192x64 (![] : Fin 0 → Fin S64x8192x64.rank)
  reducesTo_S64x8192x64_S_d0_1_2 : S64x8192x64.ReducesTo [0, 1, 2] S_
  bcast_S_S64x64 : S_.BroadcastsInDim S64x64 (![] : Fin 0 → Fin S64x64.rank)
  reducesTo_S64x64_S_d0_1 : S64x64.ReducesTo [0, 1] S_
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_

variable [Facts]

def fn_part9 {F : FTy → Type} [FloatOps F] (main_arg30 : FVec F S64 .f32) (main_v151 : IVec S_ 1) (main_v152 : FVec F S256x64 .f32) (main_cst_60 : FVec F S_ .f32) : IVec S_ 1 :=
  let main_v153 : FVec F S256x64 .f32 := broadcastInDim S256x64 ![] bcast_S_S256x64 main_cst_60
  let main_v154 : IVec S256x64 1 := cmpf .olt main_v152 main_v153
  let main_c_61 : IVec S_ 1 := constantI S_ 1 1#1
  let main_v155 : IVec S_ 1 := (fun x v => Host.reduce IntOp.andi x v reducesTo_S256x64_S_d0_1 h_S_) main_v154 main_c_61
  let main_v156 : IVec S_ 1 := andi main_v151 main_v155
  let main_v157 : FVec F S64 .f32 := Host.absf main_arg30
  let main_cst_62 : FVec F S_ .f32 := constant S_ .f32 0x7F800000#32
  let main_v158 : FVec F S64 .f32 := broadcastInDim S64 ![] bcast_S_S64 main_cst_62
  let main_v159 : IVec S64 1 := cmpf .olt main_v157 main_v158
  let main_c_63 : IVec S_ 1 := constantI S_ 1 1#1
  let main_v160 : IVec S_ 1 := (fun x v => Host.reduce IntOp.andi x v reducesTo_S64_S_d0 h_S_) main_v159 main_c_63
  let main_v161 : IVec S_ 1 := andi main_v156 main_v160
  main_v161

def fn_part8 {F : FTy → Type} [FloatOps F] (main_arg26 : FVec F S1 .f32) (main_arg27 : FVec F S256x64 .f32) (main_arg28 : FVec F S64 .f32) (main_arg29 : FVec F S256x64 .f32) (main_arg30 : FVec F S64 .f32) (main_v131 : IVec S_ 1) (main_v135 : IVec S_ 1) : IVec S_ 1 :=
  let main_v136 : IVec S_ 1 := andi main_v131 main_v135
  let main_v137 : FVec F S1 .f32 := Host.absf main_arg26
  let main_cst_54 : FVec F S_ .f32 := constant S_ .f32 0x7F800000#32
  let main_v138 : FVec F S1 .f32 := broadcastInDim S1 ![] bcast_S_S1 main_cst_54
  let main_v139 : IVec S1 1 := cmpf .olt main_v137 main_v138
  let main_c_55 : IVec S_ 1 := constantI S_ 1 1#1
  let main_v140 : IVec S_ 1 := (fun x v => Host.reduce IntOp.andi x v reducesTo_S1_S_d0 h_S_) main_v139 main_c_55
  let main_v141 : IVec S_ 1 := andi main_v136 main_v140
  let main_v142 : FVec F S256x64 .f32 := Host.absf main_arg27
  let main_cst_56 : FVec F S_ .f32 := constant S_ .f32 0x7F800000#32
  let main_v143 : FVec F S256x64 .f32 := broadcastInDim S256x64 ![] bcast_S_S256x64 main_cst_56
  let main_v144 : IVec S256x64 1 := cmpf .olt main_v142 main_v143
  let main_c_57 : IVec S_ 1 := constantI S_ 1 1#1
  let main_v145 : IVec S_ 1 := (fun x v => Host.reduce IntOp.andi x v reducesTo_S256x64_S_d0_1 h_S_) main_v144 main_c_57
  let main_v146 : IVec S_ 1 := andi main_v141 main_v145
  let main_v147 : FVec F S64 .f32 := Host.absf main_arg28
  let main_cst_58 : FVec F S_ .f32 := constant S_ .f32 0x7F800000#32
  let main_v148 : FVec F S64 .f32 := broadcastInDim S64 ![] bcast_S_S64 main_cst_58
  let main_v149 : IVec S64 1 := cmpf .olt main_v147 main_v148
  let main_c_59 : IVec S_ 1 := constantI S_ 1 1#1
  let main_v150 : IVec S_ 1 := (fun x v => Host.reduce IntOp.andi x v reducesTo_S64_S_d0 h_S_) main_v149 main_c_59
  let main_v151 : IVec S_ 1 := andi main_v146 main_v150
  let main_v152 : FVec F S256x64 .f32 := Host.absf main_arg29
  let main_cst_60 : FVec F S_ .f32 := constant S_ .f32 0x7F800000#32
  fn_part9 (F := F) main_arg30 main_v151 main_v152 main_cst_60

def fn_part7 {F : FTy → Type} [FloatOps F] (main_arg23 : FVec F S256x3 .f32) (main_arg24 : FVec F S3 .f32) (main_arg25 : FVec F S256x1 .f32) (main_arg26 : FVec F S1 .f32) (main_arg27 : FVec F S256x64 .f32) (main_arg28 : FVec F S64 .f32) (main_arg29 : FVec F S256x64 .f32) (main_arg30 : FVec F S64 .f32) (main_v116 : IVec S_ 1) (main_v117 : FVec F S1 .f32) (main_v118 : FVec F S1 .f32) : IVec S_ 1 :=
  let main_v119 : IVec S1 1 := cmpf .olt main_v117 main_v118
  let main_c_47 : IVec S_ 1 := constantI S_ 1 1#1
  let main_v120 : IVec S_ 1 := (fun x v => Host.reduce IntOp.andi x v reducesTo_S1_S_d0 h_S_) main_v119 main_c_47
  let main_v121 : IVec S_ 1 := andi main_v116 main_v120
  let main_v122 : FVec F S256x3 .f32 := Host.absf main_arg23
  let main_cst_48 : FVec F S_ .f32 := constant S_ .f32 0x7F800000#32
  let main_v123 : FVec F S256x3 .f32 := broadcastInDim S256x3 ![] bcast_S_S256x3 main_cst_48
  let main_v124 : IVec S256x3 1 := cmpf .olt main_v122 main_v123
  let main_c_49 : IVec S_ 1 := constantI S_ 1 1#1
  let main_v125 : IVec S_ 1 := (fun x v => Host.reduce IntOp.andi x v reducesTo_S256x3_S_d0_1 h_S_) main_v124 main_c_49
  let main_v126 : IVec S_ 1 := andi main_v121 main_v125
  let main_v127 : FVec F S3 .f32 := Host.absf main_arg24
  let main_cst_50 : FVec F S_ .f32 := constant S_ .f32 0x7F800000#32
  let main_v128 : FVec F S3 .f32 := broadcastInDim S3 ![] bcast_S_S3 main_cst_50
  let main_v129 : IVec S3 1 := cmpf .olt main_v127 main_v128
  let main_c_51 : IVec S_ 1 := constantI S_ 1 1#1
  let main_v130 : IVec S_ 1 := (fun x v => Host.reduce IntOp.andi x v reducesTo_S3_S_d0 h_S_) main_v129 main_c_51
  let main_v131 : IVec S_ 1 := andi main_v126 main_v130
  let main_v132 : FVec F S256x1 .f32 := Host.absf main_arg25
  let main_cst_52 : FVec F S_ .f32 := constant S_ .f32 0x7F800000#32
  let main_v133 : FVec F S256x1 .f32 := broadcastInDim S256x1 ![] bcast_S_S256x1 main_cst_52
  let main_v134 : IVec S256x1 1 := cmpf .olt main_v132 main_v133
  let main_c_53 : IVec S_ 1 := constantI S_ 1 1#1
  let main_v135 : IVec S_ 1 := (fun x v => Host.reduce IntOp.andi x v reducesTo_S256x1_S_d0_1 h_S_) main_v134 main_c_53
  fn_part8 (F := F) main_arg26 main_arg27 main_arg28 main_arg29 main_arg30 main_v131 main_v135

def fn_part6 {F : FTy → Type} [FloatOps F] (main_arg19 : FVec F S256x1 .f32) (main_arg20 : FVec F S1 .f32) (main_arg21 : FVec F S256x1 .f32) (main_arg22 : FVec F S1 .f32) (main_arg23 : FVec F S256x3 .f32) (main_arg24 : FVec F S3 .f32) (main_arg25 : FVec F S256x1 .f32) (main_arg26 : FVec F S1 .f32) (main_arg27 : FVec F S256x64 .f32) (main_arg28 : FVec F S64 .f32) (main_arg29 : FVec F S256x64 .f32) (main_arg30 : FVec F S64 .f32) (main_v101 : IVec S_ 1) : IVec S_ 1 :=
  let main_v102 : FVec F S256x1 .f32 := Host.absf main_arg19
  let main_cst_40 : FVec F S_ .f32 := constant S_ .f32 0x7F800000#32
  let main_v103 : FVec F S256x1 .f32 := broadcastInDim S256x1 ![] bcast_S_S256x1 main_cst_40
  let main_v104 : IVec S256x1 1 := cmpf .olt main_v102 main_v103
  let main_c_41 : IVec S_ 1 := constantI S_ 1 1#1
  let main_v105 : IVec S_ 1 := (fun x v => Host.reduce IntOp.andi x v reducesTo_S256x1_S_d0_1 h_S_) main_v104 main_c_41
  let main_v106 : IVec S_ 1 := andi main_v101 main_v105
  let main_v107 : FVec F S1 .f32 := Host.absf main_arg20
  let main_cst_42 : FVec F S_ .f32 := constant S_ .f32 0x7F800000#32
  let main_v108 : FVec F S1 .f32 := broadcastInDim S1 ![] bcast_S_S1 main_cst_42
  let main_v109 : IVec S1 1 := cmpf .olt main_v107 main_v108
  let main_c_43 : IVec S_ 1 := constantI S_ 1 1#1
  let main_v110 : IVec S_ 1 := (fun x v => Host.reduce IntOp.andi x v reducesTo_S1_S_d0 h_S_) main_v109 main_c_43
  let main_v111 : IVec S_ 1 := andi main_v106 main_v110
  let main_v112 : FVec F S256x1 .f32 := Host.absf main_arg21
  let main_cst_44 : FVec F S_ .f32 := constant S_ .f32 0x7F800000#32
  let main_v113 : FVec F S256x1 .f32 := broadcastInDim S256x1 ![] bcast_S_S256x1 main_cst_44
  let main_v114 : IVec S256x1 1 := cmpf .olt main_v112 main_v113
  let main_c_45 : IVec S_ 1 := constantI S_ 1 1#1
  let main_v115 : IVec S_ 1 := (fun x v => Host.reduce IntOp.andi x v reducesTo_S256x1_S_d0_1 h_S_) main_v114 main_c_45
  let main_v116 : IVec S_ 1 := andi main_v111 main_v115
  let main_v117 : FVec F S1 .f32 := Host.absf main_arg22
  let main_cst_46 : FVec F S_ .f32 := constant S_ .f32 0x7F800000#32
  let main_v118 : FVec F S1 .f32 := broadcastInDim S1 ![] bcast_S_S1 main_cst_46
  fn_part7 (F := F) main_arg23 main_arg24 main_arg25 main_arg26 main_arg27 main_arg28 main_arg29 main_arg30 main_v116 main_v117 main_v118

def fn_part5 {F : FTy → Type} [FloatOps F] (main_arg16 : FVec F S1 .f32) (main_arg17 : FVec F S256x64 .f32) (main_arg18 : FVec F S64 .f32) (main_arg19 : FVec F S256x1 .f32) (main_arg20 : FVec F S1 .f32) (main_arg21 : FVec F S256x1 .f32) (main_arg22 : FVec F S1 .f32) (main_arg23 : FVec F S256x3 .f32) (main_arg24 : FVec F S3 .f32) (main_arg25 : FVec F S256x1 .f32) (main_arg26 : FVec F S1 .f32) (main_arg27 : FVec F S256x64 .f32) (main_arg28 : FVec F S64 .f32) (main_arg29 : FVec F S256x64 .f32) (main_arg30 : FVec F S64 .f32) (main_v81 : IVec S_ 1) (main_v84 : IVec S256x1 1) : IVec S_ 1 :=
  let main_c_33 : IVec S_ 1 := constantI S_ 1 1#1
  let main_v85 : IVec S_ 1 := (fun x v => Host.reduce IntOp.andi x v reducesTo_S256x1_S_d0_1 h_S_) main_v84 main_c_33
  let main_v86 : IVec S_ 1 := andi main_v81 main_v85
  let main_v87 : FVec F S1 .f32 := Host.absf main_arg16
  let main_cst_34 : FVec F S_ .f32 := constant S_ .f32 0x7F800000#32
  let main_v88 : FVec F S1 .f32 := broadcastInDim S1 ![] bcast_S_S1 main_cst_34
  let main_v89 : IVec S1 1 := cmpf .olt main_v87 main_v88
  let main_c_35 : IVec S_ 1 := constantI S_ 1 1#1
  let main_v90 : IVec S_ 1 := (fun x v => Host.reduce IntOp.andi x v reducesTo_S1_S_d0 h_S_) main_v89 main_c_35
  let main_v91 : IVec S_ 1 := andi main_v86 main_v90
  let main_v92 : FVec F S256x64 .f32 := Host.absf main_arg17
  let main_cst_36 : FVec F S_ .f32 := constant S_ .f32 0x7F800000#32
  let main_v93 : FVec F S256x64 .f32 := broadcastInDim S256x64 ![] bcast_S_S256x64 main_cst_36
  let main_v94 : IVec S256x64 1 := cmpf .olt main_v92 main_v93
  let main_c_37 : IVec S_ 1 := constantI S_ 1 1#1
  let main_v95 : IVec S_ 1 := (fun x v => Host.reduce IntOp.andi x v reducesTo_S256x64_S_d0_1 h_S_) main_v94 main_c_37
  let main_v96 : IVec S_ 1 := andi main_v91 main_v95
  let main_v97 : FVec F S64 .f32 := Host.absf main_arg18
  let main_cst_38 : FVec F S_ .f32 := constant S_ .f32 0x7F800000#32
  let main_v98 : FVec F S64 .f32 := broadcastInDim S64 ![] bcast_S_S64 main_cst_38
  let main_v99 : IVec S64 1 := cmpf .olt main_v97 main_v98
  let main_c_39 : IVec S_ 1 := constantI S_ 1 1#1
  let main_v100 : IVec S_ 1 := (fun x v => Host.reduce IntOp.andi x v reducesTo_S64_S_d0 h_S_) main_v99 main_c_39
  let main_v101 : IVec S_ 1 := andi main_v96 main_v100
  fn_part6 (F := F) main_arg19 main_arg20 main_arg21 main_arg22 main_arg23 main_arg24 main_arg25 main_arg26 main_arg27 main_arg28 main_arg29 main_arg30 main_v101

def fn_part4 {F : FTy → Type} [FloatOps F] (main_arg13 : FVec F S256x3 .f32) (main_arg14 : FVec F S3 .f32) (main_arg15 : FVec F S256x1 .f32) (main_arg16 : FVec F S1 .f32) (main_arg17 : FVec F S256x64 .f32) (main_arg18 : FVec F S64 .f32) (main_arg19 : FVec F S256x1 .f32) (main_arg20 : FVec F S1 .f32) (main_arg21 : FVec F S256x1 .f32) (main_arg22 : FVec F S1 .f32) (main_arg23 : FVec F S256x3 .f32) (main_arg24 : FVec F S3 .f32) (main_arg25 : FVec F S256x1 .f32) (main_arg26 : FVec F S1 .f32) (main_arg27 : FVec F S256x64 .f32) (main_arg28 : FVec F S64 .f32) (main_arg29 : FVec F S256x64 .f32) (main_arg30 : FVec F S64 .f32) (main_v66 : IVec S_ 1) (main_v67 : FVec F S1 .f32) : IVec S_ 1 :=
  let main_cst_26 : FVec F S_ .f32 := constant S_ .f32 0x7F800000#32
  let main_v68 : FVec F S1 .f32 := broadcastInDim S1 ![] bcast_S_S1 main_cst_26
  let main_v69 : IVec S1 1 := cmpf .olt main_v67 main_v68
  let main_c_27 : IVec S_ 1 := constantI S_ 1 1#1
  let main_v70 : IVec S_ 1 := (fun x v => Host.reduce IntOp.andi x v reducesTo_S1_S_d0 h_S_) main_v69 main_c_27
  let main_v71 : IVec S_ 1 := andi main_v66 main_v70
  let main_v72 : FVec F S256x3 .f32 := Host.absf main_arg13
  let main_cst_28 : FVec F S_ .f32 := constant S_ .f32 0x7F800000#32
  let main_v73 : FVec F S256x3 .f32 := broadcastInDim S256x3 ![] bcast_S_S256x3 main_cst_28
  let main_v74 : IVec S256x3 1 := cmpf .olt main_v72 main_v73
  let main_c_29 : IVec S_ 1 := constantI S_ 1 1#1
  let main_v75 : IVec S_ 1 := (fun x v => Host.reduce IntOp.andi x v reducesTo_S256x3_S_d0_1 h_S_) main_v74 main_c_29
  let main_v76 : IVec S_ 1 := andi main_v71 main_v75
  let main_v77 : FVec F S3 .f32 := Host.absf main_arg14
  let main_cst_30 : FVec F S_ .f32 := constant S_ .f32 0x7F800000#32
  let main_v78 : FVec F S3 .f32 := broadcastInDim S3 ![] bcast_S_S3 main_cst_30
  let main_v79 : IVec S3 1 := cmpf .olt main_v77 main_v78
  let main_c_31 : IVec S_ 1 := constantI S_ 1 1#1
  let main_v80 : IVec S_ 1 := (fun x v => Host.reduce IntOp.andi x v reducesTo_S3_S_d0 h_S_) main_v79 main_c_31
  let main_v81 : IVec S_ 1 := andi main_v76 main_v80
  let main_v82 : FVec F S256x1 .f32 := Host.absf main_arg15
  let main_cst_32 : FVec F S_ .f32 := constant S_ .f32 0x7F800000#32
  let main_v83 : FVec F S256x1 .f32 := broadcastInDim S256x1 ![] bcast_S_S256x1 main_cst_32
  let main_v84 : IVec S256x1 1 := cmpf .olt main_v82 main_v83
  fn_part5 (F := F) main_arg16 main_arg17 main_arg18 main_arg19 main_arg20 main_arg21 main_arg22 main_arg23 main_arg24 main_arg25 main_arg26 main_arg27 main_arg28 main_arg29 main_arg30 main_v81 main_v84

def fn_part3 {F : FTy → Type} [FloatOps F] (main_arg9 : FVec F S256x1 .f32) (main_arg10 : FVec F S1 .f32) (main_arg11 : FVec F S256x1 .f32) (main_arg12 : FVec F S1 .f32) (main_arg13 : FVec F S256x3 .f32) (main_arg14 : FVec F S3 .f32) (main_arg15 : FVec F S256x1 .f32) (main_arg16 : FVec F S1 .f32) (main_arg17 : FVec F S256x64 .f32) (main_arg18 : FVec F S64 .f32) (main_arg19 : FVec F S256x1 .f32) (main_arg20 : FVec F S1 .f32) (main_arg21 : FVec F S256x1 .f32) (main_arg22 : FVec F S1 .f32) (main_arg23 : FVec F S256x3 .f32) (main_arg24 : FVec F S3 .f32) (main_arg25 : FVec F S256x1 .f32) (main_arg26 : FVec F S1 .f32) (main_arg27 : FVec F S256x64 .f32) (main_arg28 : FVec F S64 .f32) (main_arg29 : FVec F S256x64 .f32) (main_arg30 : FVec F S64 .f32) (main_v46 : IVec S_ 1) (main_v49 : IVec S64 1) (main_c_19 : IVec S_ 1) : IVec S_ 1 :=
  let main_v50 : IVec S_ 1 := (fun x v => Host.reduce IntOp.andi x v reducesTo_S64_S_d0 h_S_) main_v49 main_c_19
  let main_v51 : IVec S_ 1 := andi main_v46 main_v50
  let main_v52 : FVec F S256x1 .f32 := Host.absf main_arg9
  let main_cst_20 : FVec F S_ .f32 := constant S_ .f32 0x7F800000#32
  let main_v53 : FVec F S256x1 .f32 := broadcastInDim S256x1 ![] bcast_S_S256x1 main_cst_20
  let main_v54 : IVec S256x1 1 := cmpf .olt main_v52 main_v53
  let main_c_21 : IVec S_ 1 := constantI S_ 1 1#1
  let main_v55 : IVec S_ 1 := (fun x v => Host.reduce IntOp.andi x v reducesTo_S256x1_S_d0_1 h_S_) main_v54 main_c_21
  let main_v56 : IVec S_ 1 := andi main_v51 main_v55
  let main_v57 : FVec F S1 .f32 := Host.absf main_arg10
  let main_cst_22 : FVec F S_ .f32 := constant S_ .f32 0x7F800000#32
  let main_v58 : FVec F S1 .f32 := broadcastInDim S1 ![] bcast_S_S1 main_cst_22
  let main_v59 : IVec S1 1 := cmpf .olt main_v57 main_v58
  let main_c_23 : IVec S_ 1 := constantI S_ 1 1#1
  let main_v60 : IVec S_ 1 := (fun x v => Host.reduce IntOp.andi x v reducesTo_S1_S_d0 h_S_) main_v59 main_c_23
  let main_v61 : IVec S_ 1 := andi main_v56 main_v60
  let main_v62 : FVec F S256x1 .f32 := Host.absf main_arg11
  let main_cst_24 : FVec F S_ .f32 := constant S_ .f32 0x7F800000#32
  let main_v63 : FVec F S256x1 .f32 := broadcastInDim S256x1 ![] bcast_S_S256x1 main_cst_24
  let main_v64 : IVec S256x1 1 := cmpf .olt main_v62 main_v63
  let main_c_25 : IVec S_ 1 := constantI S_ 1 1#1
  let main_v65 : IVec S_ 1 := (fun x v => Host.reduce IntOp.andi x v reducesTo_S256x1_S_d0_1 h_S_) main_v64 main_c_25
  let main_v66 : IVec S_ 1 := andi main_v61 main_v65
  let main_v67 : FVec F S1 .f32 := Host.absf main_arg12
  fn_part4 (F := F) main_arg13 main_arg14 main_arg15 main_arg16 main_arg17 main_arg18 main_arg19 main_arg20 main_arg21 main_arg22 main_arg23 main_arg24 main_arg25 main_arg26 main_arg27 main_arg28 main_arg29 main_arg30 main_v66 main_v67

def fn_part2 {F : FTy → Type} [FloatOps F] (main_arg6 : FVec F S256 .f32) (main_arg7 : FVec F S256x64 .f32) (main_arg8 : FVec F S64 .f32) (main_arg9 : FVec F S256x1 .f32) (main_arg10 : FVec F S1 .f32) (main_arg11 : FVec F S256x1 .f32) (main_arg12 : FVec F S1 .f32) (main_arg13 : FVec F S256x3 .f32) (main_arg14 : FVec F S3 .f32) (main_arg15 : FVec F S256x1 .f32) (main_arg16 : FVec F S1 .f32) (main_arg17 : FVec F S256x64 .f32) (main_arg18 : FVec F S64 .f32) (main_arg19 : FVec F S256x1 .f32) (main_arg20 : FVec F S1 .f32) (main_arg21 : FVec F S256x1 .f32) (main_arg22 : FVec F S1 .f32) (main_arg23 : FVec F S256x3 .f32) (main_arg24 : FVec F S3 .f32) (main_arg25 : FVec F S256x1 .f32) (main_arg26 : FVec F S1 .f32) (main_arg27 : FVec F S256x64 .f32) (main_arg28 : FVec F S64 .f32) (main_arg29 : FVec F S256x64 .f32) (main_arg30 : FVec F S64 .f32) (main_v31 : IVec S_ 1) (main_v32 : FVec F S192x256 .f32) (main_cst_12 : FVec F S_ .f32) : IVec S_ 1 :=
  let main_v33 : FVec F S192x256 .f32 := broadcastInDim S192x256 ![] bcast_S_S192x256 main_cst_12
  let main_v34 : IVec S192x256 1 := cmpf .olt main_v32 main_v33
  let main_c_13 : IVec S_ 1 := constantI S_ 1 1#1
  let main_v35 : IVec S_ 1 := (fun x v => Host.reduce IntOp.andi x v reducesTo_S192x256_S_d0_1 h_S_) main_v34 main_c_13
  let main_v36 : IVec S_ 1 := andi main_v31 main_v35
  let main_v37 : FVec F S256 .f32 := Host.absf main_arg6
  let main_cst_14 : FVec F S_ .f32 := constant S_ .f32 0x7F800000#32
  let main_v38 : FVec F S256 .f32 := broadcastInDim S256 ![] bcast_S_S256 main_cst_14
  let main_v39 : IVec S256 1 := cmpf .olt main_v37 main_v38
  let main_c_15 : IVec S_ 1 := constantI S_ 1 1#1
  let main_v40 : IVec S_ 1 := (fun x v => Host.reduce IntOp.andi x v reducesTo_S256_S_d0 h_S_) main_v39 main_c_15
  let main_v41 : IVec S_ 1 := andi main_v36 main_v40
  let main_v42 : FVec F S256x64 .f32 := Host.absf main_arg7
  let main_cst_16 : FVec F S_ .f32 := constant S_ .f32 0x7F800000#32
  let main_v43 : FVec F S256x64 .f32 := broadcastInDim S256x64 ![] bcast_S_S256x64 main_cst_16
  let main_v44 : IVec S256x64 1 := cmpf .olt main_v42 main_v43
  let main_c_17 : IVec S_ 1 := constantI S_ 1 1#1
  let main_v45 : IVec S_ 1 := (fun x v => Host.reduce IntOp.andi x v reducesTo_S256x64_S_d0_1 h_S_) main_v44 main_c_17
  let main_v46 : IVec S_ 1 := andi main_v41 main_v45
  let main_v47 : FVec F S64 .f32 := Host.absf main_arg8
  let main_cst_18 : FVec F S_ .f32 := constant S_ .f32 0x7F800000#32
  let main_v48 : FVec F S64 .f32 := broadcastInDim S64 ![] bcast_S_S64 main_cst_18
  let main_v49 : IVec S64 1 := cmpf .olt main_v47 main_v48
  let main_c_19 : IVec S_ 1 := constantI S_ 1 1#1
  fn_part3 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v46 main_v49 main_c_19

def fn_part1 {F : FTy → Type} [FloatOps F] (main_arg2 : FVec F S64x8192 .f32) (main_arg3 : FVec F S64x8192 .f32) (main_arg4 : FVec F S64x64 .f32) (main_arg5 : FVec F S192x256 .f32) (main_arg6 : FVec F S256 .f32) (main_arg7 : FVec F S256x64 .f32) (main_arg8 : FVec F S64 .f32) (main_arg9 : FVec F S256x1 .f32) (main_arg10 : FVec F S1 .f32) (main_arg11 : FVec F S256x1 .f32) (main_arg12 : FVec F S1 .f32) (main_arg13 : FVec F S256x3 .f32) (main_arg14 : FVec F S3 .f32) (main_arg15 : FVec F S256x1 .f32) (main_arg16 : FVec F S1 .f32) (main_arg17 : FVec F S256x64 .f32) (main_arg18 : FVec F S64 .f32) (main_arg19 : FVec F S256x1 .f32) (main_arg20 : FVec F S1 .f32) (main_arg21 : FVec F S256x1 .f32) (main_arg22 : FVec F S1 .f32) (main_arg23 : FVec F S256x3 .f32) (main_arg24 : FVec F S3 .f32) (main_arg25 : FVec F S256x1 .f32) (main_arg26 : FVec F S1 .f32) (main_arg27 : FVec F S256x64 .f32) (main_arg28 : FVec F S64 .f32) (main_arg29 : FVec F S256x64 .f32) (main_arg30 : FVec F S64 .f32) (main_v11 : IVec S_ 1) (main_v15 : IVec S_ 1) : IVec S_ 1 :=
  let main_v16 : IVec S_ 1 := andi main_v11 main_v15
  let main_v17 : FVec F S64x8192 .f32 := Host.absf main_arg2
  let main_cst_6 : FVec F S_ .f32 := constant S_ .f32 0x7F800000#32
  let main_v18 : FVec F S64x8192 .f32 := broadcastInDim S64x8192 ![] bcast_S_S64x8192 main_cst_6
  let main_v19 : IVec S64x8192 1 := cmpf .olt main_v17 main_v18
  let main_c_7 : IVec S_ 1 := constantI S_ 1 1#1
  let main_v20 : IVec S_ 1 := (fun x v => Host.reduce IntOp.andi x v reducesTo_S64x8192_S_d0_1 h_S_) main_v19 main_c_7
  let main_v21 : IVec S_ 1 := andi main_v16 main_v20
  let main_v22 : FVec F S64x8192 .f32 := Host.absf main_arg3
  let main_cst_8 : FVec F S_ .f32 := constant S_ .f32 0x7F800000#32
  let main_v23 : FVec F S64x8192 .f32 := broadcastInDim S64x8192 ![] bcast_S_S64x8192 main_cst_8
  let main_v24 : IVec S64x8192 1 := cmpf .olt main_v22 main_v23
  let main_c_9 : IVec S_ 1 := constantI S_ 1 1#1
  let main_v25 : IVec S_ 1 := (fun x v => Host.reduce IntOp.andi x v reducesTo_S64x8192_S_d0_1 h_S_) main_v24 main_c_9
  let main_v26 : IVec S_ 1 := andi main_v21 main_v25
  let main_v27 : FVec F S64x64 .f32 := Host.absf main_arg4
  let main_cst_10 : FVec F S_ .f32 := constant S_ .f32 0x7F800000#32
  let main_v28 : FVec F S64x64 .f32 := broadcastInDim S64x64 ![] bcast_S_S64x64 main_cst_10
  let main_v29 : IVec S64x64 1 := cmpf .olt main_v27 main_v28
  let main_c_11 : IVec S_ 1 := constantI S_ 1 1#1
  let main_v30 : IVec S_ 1 := (fun x v => Host.reduce IntOp.andi x v reducesTo_S64x64_S_d0_1 h_S_) main_v29 main_c_11
  let main_v31 : IVec S_ 1 := andi main_v26 main_v30
  let main_v32 : FVec F S192x256 .f32 := Host.absf main_arg5
  let main_cst_12 : FVec F S_ .f32 := constant S_ .f32 0x7F800000#32
  fn_part2 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v31 main_v32 main_cst_12

def fn {F : FTy → Type} [FloatOps F] (main_arg0 : FVec F S64x128 .f32) (main_arg1 : FVec F S64x8192x64 .f32) (main_arg2 : FVec F S64x8192 .f32) (main_arg3 : FVec F S64x8192 .f32) (main_arg4 : FVec F S64x64 .f32) (main_arg5 : FVec F S192x256 .f32) (main_arg6 : FVec F S256 .f32) (main_arg7 : FVec F S256x64 .f32) (main_arg8 : FVec F S64 .f32) (main_arg9 : FVec F S256x1 .f32) (main_arg10 : FVec F S1 .f32) (main_arg11 : FVec F S256x1 .f32) (main_arg12 : FVec F S1 .f32) (main_arg13 : FVec F S256x3 .f32) (main_arg14 : FVec F S3 .f32) (main_arg15 : FVec F S256x1 .f32) (main_arg16 : FVec F S1 .f32) (main_arg17 : FVec F S256x64 .f32) (main_arg18 : FVec F S64 .f32) (main_arg19 : FVec F S256x1 .f32) (main_arg20 : FVec F S1 .f32) (main_arg21 : FVec F S256x1 .f32) (main_arg22 : FVec F S1 .f32) (main_arg23 : FVec F S256x3 .f32) (main_arg24 : FVec F S3 .f32) (main_arg25 : FVec F S256x1 .f32) (main_arg26 : FVec F S1 .f32) (main_arg27 : FVec F S256x64 .f32) (main_arg28 : FVec F S64 .f32) (main_arg29 : FVec F S256x64 .f32) (main_arg30 : FVec F S64 .f32) : IVec S_ 1 :=
  let main_cst : FVec F S_ .f32 := constant S_ .f32 0x00000000#32
  let main_v0 : FVec F S64x8192 .f32 := broadcastInDim S64x8192 ![] bcast_S_S64x8192 main_cst
  let main_v1 : IVec S64x8192 1 := cmpf .oge main_arg2 main_v0
  let main_c : IVec S_ 1 := constantI S_ 1 1#1
  let main_v2 : IVec S_ 1 := (fun x v => Host.reduce IntOp.andi x v reducesTo_S64x8192_S_d0_1 h_S_) main_v1 main_c
  let main_cst_0 : FVec F S_ .f32 := constant S_ .f32 0x00000000#32
  let main_v3 : FVec F S64x8192 .f32 := broadcastInDim S64x8192 ![] bcast_S_S64x8192 main_cst_0
  let main_v4 : IVec S64x8192 1 := cmpf .oge main_arg3 main_v3
  let main_c_1 : IVec S_ 1 := constantI S_ 1 1#1
  let main_v5 : IVec S_ 1 := (fun x v => Host.reduce IntOp.andi x v reducesTo_S64x8192_S_d0_1 h_S_) main_v4 main_c_1
  let main_v6 : IVec S_ 1 := andi main_v2 main_v5
  let main_v7 : FVec F S64x128 .f32 := Host.absf main_arg0
  let main_cst_2 : FVec F S_ .f32 := constant S_ .f32 0x7F800000#32
  let main_v8 : FVec F S64x128 .f32 := broadcastInDim S64x128 ![] bcast_S_S64x128 main_cst_2
  let main_v9 : IVec S64x128 1 := cmpf .olt main_v7 main_v8
  let main_c_3 : IVec S_ 1 := constantI S_ 1 1#1
  let main_v10 : IVec S_ 1 := (fun x v => Host.reduce IntOp.andi x v reducesTo_S64x128_S_d0_1 h_S_) main_v9 main_c_3
  let main_v11 : IVec S_ 1 := andi main_v6 main_v10
  let main_v12 : FVec F S64x8192x64 .f32 := Host.absf main_arg1
  let main_cst_4 : FVec F S_ .f32 := constant S_ .f32 0x7F800000#32
  let main_v13 : FVec F S64x8192x64 .f32 := broadcastInDim S64x8192x64 ![] bcast_S_S64x8192x64 main_cst_4
  let main_v14 : IVec S64x8192x64 1 := cmpf .olt main_v12 main_v13
  let main_c_5 : IVec S_ 1 := constantI S_ 1 1#1
  let main_v15 : IVec S_ 1 := (fun x v => Host.reduce IntOp.andi x v reducesTo_S64x8192x64_S_d0_1_2 h_S_) main_v14 main_c_5
  fn_part1 (F := F) main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v11 main_v15
-- ==== Kernel.lean ====
abbrev S64x128 : Shape := ⟨2, ![64, 128]⟩
abbrev S64x8192x64 : Shape := ⟨3, ![64, 8192, 64]⟩
abbrev S64x8192 : Shape := ⟨2, ![64, 8192]⟩
abbrev S64x64 : Shape := ⟨2, ![64, 64]⟩
abbrev S192x256 : Shape := ⟨2, ![192, 256]⟩
abbrev S256 : Shape := ⟨1, ![256]⟩
abbrev S256x64 : Shape := ⟨2, ![256, 64]⟩
abbrev S64 : Shape := ⟨1, ![64]⟩
abbrev S256x1 : Shape := ⟨2, ![256, 1]⟩
abbrev S1 : Shape := ⟨1, ![1]⟩
abbrev S256x3 : Shape := ⟨2, ![256, 3]⟩
abbrev S3 : Shape := ⟨1, ![3]⟩
abbrev S64x192 : Shape := ⟨2, ![64, 192]⟩
abbrev S256x6 : Shape := ⟨2, ![256, 6]⟩
abbrev S_ : Shape := ⟨0, ![]⟩
abbrev S256x128 : Shape := ⟨2, ![256, 128]⟩
abbrev S6 : Shape := ⟨1, ![6]⟩
abbrev S128 : Shape := ⟨1, ![128]⟩
abbrev S1x128 : Shape := ⟨2, ![1, 128]⟩
abbrev S1x256 : Shape := ⟨2, ![1, 256]⟩
abbrev S1x64 : Shape := ⟨2, ![1, 64]⟩
abbrev S64x256 : Shape := ⟨2, ![64, 256]⟩
abbrev S64x8x64 : Shape := ⟨3, ![64, 8, 64]⟩
abbrev S64x1x64 : Shape := ⟨3, ![64, 1, 64]⟩
abbrev S64x3x64 : Shape := ⟨3, ![64, 3, 64]⟩
abbrev S64x5x64 : Shape := ⟨3, ![64, 5, 64]⟩
abbrev S64x1 : Shape := ⟨2, ![64, 1]⟩
abbrev S64x3 : Shape := ⟨2, ![64, 3]⟩
abbrev S64x119 : Shape := ⟨2, ![64, 119]⟩
abbrev S64x121 : Shape := ⟨2, ![64, 121]⟩
abbrev S64x64x8192 : Shape := ⟨3, ![64, 64, 8192]⟩
abbrev S8x64x4096 : Shape := ⟨3, ![8, 64, 4096]⟩
abbrev S8x8x64 : Shape := ⟨3, ![8, 8, 64]⟩
abbrev S8x128 : Shape := ⟨2, ![8, 128]⟩
abbrev S8x8192 : Shape := ⟨2, ![8, 8192]⟩
abbrev S8x64 : Shape := ⟨2, ![8, 64]⟩
abbrev S8x8x8192 : Shape := ⟨3, ![8, 8, 8192]⟩
abbrev S8x1 : Shape := ⟨2, ![8, 1]⟩
abbrev S8x64x128 : Shape := ⟨3, ![8, 64, 128]⟩
abbrev S1x64x4096 : Shape := ⟨3, ![1, 64, 4096]⟩
abbrev S64x4096 : Shape := ⟨2, ![64, 4096]⟩
abbrev S1x8x64 : Shape := ⟨3, ![1, 8, 64]⟩
abbrev S8x4096 : Shape := ⟨2, ![8, 4096]⟩
abbrev S1x4096 : Shape := ⟨2, ![1, 4096]⟩
abbrev S1x1x4096 : Shape := ⟨3, ![1, 1, 4096]⟩
abbrev S1x8x8192 : Shape := ⟨3, ![1, 8, 8192]⟩
abbrev S8 : Shape := ⟨1, ![8]⟩
abbrev S8x8191 : Shape := ⟨2, ![8, 8191]⟩
abbrev S1x64x128 : Shape := ⟨3, ![1, 64, 128]⟩
abbrev S64x8 : Shape := ⟨2, ![64, 8]⟩
abbrev S64x320 : Shape := ⟨2, ![64, 320]⟩

abbrev nBuf : Space → Nat
  | .hbm => 65
  | .vmem => 48
  | .smem => 0
  | _ => 0

abbrev bufTy : (tb : Table) → Fin (tcTables nBuf tb) → BufTy
  | .hbm, ⟨0, _⟩ => ⟨S64x128, .f32⟩
  | .hbm, ⟨1, _⟩ => ⟨S64x8192x64, .f32⟩
  | .hbm, ⟨2, _⟩ => ⟨S64x8192, .f32⟩
  | .hbm, ⟨3, _⟩ => ⟨S64x8192, .f32⟩
  | .hbm, ⟨4, _⟩ => ⟨S64x64, .f32⟩
  | .hbm, ⟨5, _⟩ => ⟨S192x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S256x1, .f32⟩
  | .hbm, ⟨10, _⟩ => ⟨S1, .f32⟩
  | .hbm, ⟨11, _⟩ => ⟨S256x1, .f32⟩
  | .hbm, ⟨12, _⟩ => ⟨S1, .f32⟩
  | .hbm, ⟨13, _⟩ => ⟨S256x3, .f32⟩
  | .hbm, ⟨14, _⟩ => ⟨S3, .f32⟩
  | .hbm, ⟨15, _⟩ => ⟨S256x1, .f32⟩
  | .hbm, ⟨16, _⟩ => ⟨S1, .f32⟩
  | .hbm, ⟨17, _⟩ => ⟨S256x64, .f32⟩
  | .hbm, ⟨18, _⟩ => ⟨S64, .f32⟩
  | .hbm, ⟨19, _⟩ => ⟨S256x1, .f32⟩
  | .hbm, ⟨20, _⟩ => ⟨S1, .f32⟩
  | .hbm, ⟨21, _⟩ => ⟨S256x1, .f32⟩
  | .hbm, ⟨22, _⟩ => ⟨S1, .f32⟩
  | .hbm, ⟨23, _⟩ => ⟨S256x3, .f32⟩
  | .hbm, ⟨24, _⟩ => ⟨S3, .f32⟩
  | .hbm, ⟨25, _⟩ => ⟨S256x1, .f32⟩
  | .hbm, ⟨26, _⟩ => ⟨S1, .f32⟩
  | .hbm, ⟨27, _⟩ => ⟨S256x64, .f32⟩
  | .hbm, ⟨28, _⟩ => ⟨S64, .f32⟩
  | .hbm, ⟨29, _⟩ => ⟨S256x64, .f32⟩
  | .hbm, ⟨30, _⟩ => ⟨S64, .f32⟩
  | .hbm, ⟨31, _⟩ => ⟨S64x192, .f32⟩
  | .hbm, ⟨32, _⟩ => ⟨S256x6, .f32⟩
  | .hbm, ⟨33, _⟩ => ⟨S_, .i32⟩
  | .hbm, ⟨34, _⟩ => ⟨S_, .f32⟩
  | .hbm, ⟨35, _⟩ => ⟨S256x128, .f32⟩
  | .hbm, ⟨36, _⟩ => ⟨S6, .f32⟩
  | .hbm, ⟨37, _⟩ => ⟨S_, .i32⟩
  | .hbm, ⟨38, _⟩ => ⟨S_, .f32⟩
  | .hbm, ⟨39, _⟩ => ⟨S128, .f32⟩
  | .hbm, ⟨40, _⟩ => ⟨S1x128, .f32⟩
  | .hbm, ⟨41, _⟩ => ⟨S256x6, .f32⟩
  | .hbm, ⟨42, _⟩ => ⟨S_, .i32⟩
  | .hbm, ⟨43, _⟩ => ⟨S_, .f32⟩
  | .hbm, ⟨44, _⟩ => ⟨S256x128, .f32⟩
  | .hbm, ⟨45, _⟩ => ⟨S6, .f32⟩
  | .hbm, ⟨46, _⟩ => ⟨S_, .i32⟩
  | .hbm, ⟨47, _⟩ => ⟨S_, .f32⟩
  | .hbm, ⟨48, _⟩ => ⟨S128, .f32⟩
  | .hbm, ⟨49, _⟩ => ⟨S1x128, .f32⟩
  | .hbm, ⟨50, _⟩ => ⟨S1x256, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S64x256, .f32⟩
  | .hbm, ⟨56, _⟩ => ⟨S64x64, .f32⟩
  | .hbm, ⟨57, _⟩ => ⟨S64x64, .f32⟩
  | .hbm, ⟨58, _⟩ => ⟨S64x8x64, .bf16⟩
  | .hbm, ⟨59, _⟩ => ⟨S64x8x64, .bf16⟩
  | .hbm, ⟨60, _⟩ => ⟨S64x128, .f32⟩
  | .hbm, ⟨61, _⟩ => ⟨S64x128, .f32⟩
  | .hbm, ⟨62, _⟩ => ⟨S64x64x8192, .f32⟩
  | .hbm, ⟨63, _⟩ => ⟨S64x64, .f32⟩
  | .hbm, ⟨64, _⟩ => ⟨S64x320, .f32⟩
  | .local _ .vmem, ⟨0, _⟩ => ⟨S64x192, .f32⟩
  | .local _ .vmem, ⟨1, _⟩ => ⟨S192x256, .f32⟩
  | .local _ .vmem, ⟨2, _⟩ => ⟨S1x256, .f32⟩
  | .local _ .vmem, ⟨3, _⟩ => ⟨S256x64, .f32⟩
  | .local _ .vmem, ⟨4, _⟩ => ⟨S1x64, .f32⟩
  | .local _ .vmem, ⟨5, _⟩ => ⟨S256x64, .f32⟩
  | .local _ .vmem, ⟨6, _⟩ => ⟨S1x64, .f32⟩
  | .local _ .vmem, ⟨7, _⟩ => ⟨S256x64, .f32⟩
  | .local _ .vmem, ⟨8, _⟩ => ⟨S1x64, .f32⟩
  | .local _ .vmem, ⟨9, _⟩ => ⟨S256x64, .f32⟩
  | .local _ .vmem, ⟨10, _⟩ => ⟨S1x64, .f32⟩
  | .local _ .vmem, ⟨11, _⟩ => ⟨S256x128, .f32⟩
  | .local _ .vmem, ⟨12, _⟩ => ⟨S1x128, .f32⟩
  | .local _ .vmem, ⟨13, _⟩ => ⟨S256x128, .f32⟩
  | .local _ .vmem, ⟨14, _⟩ => ⟨S1x128, .f32⟩
  | .local _ .vmem, ⟨15, _⟩ => ⟨S64x256, .f32⟩
  | .local _ .vmem, ⟨16, _⟩ => ⟨S64x64, .f32⟩
  | .local _ .vmem, ⟨17, _⟩ => ⟨S64x64, .f32⟩
  | .local _ .vmem, ⟨18, _⟩ => ⟨S64x8x64, .bf16⟩
  | .local _ .vmem, ⟨19, _⟩ => ⟨S64x8x64, .bf16⟩
  | .local _ .vmem, ⟨20, _⟩ => ⟨S64x128, .f32⟩
  | .local _ .vmem, ⟨21, _⟩ => ⟨S64x128, .f32⟩
  | .local _ .vmem, ⟨22, _⟩ => ⟨S8x64x4096, .f32⟩
  | .local _ .vmem, ⟨23, _⟩ => ⟨S8x64x4096, .f32⟩
  | .local _ .vmem, ⟨24, _⟩ => ⟨S8x8x64, .bf16⟩
  | .local _ .vmem, ⟨25, _⟩ => ⟨S8x8x64, .bf16⟩
  | .local _ .vmem, ⟨26, _⟩ => ⟨S8x8x64, .bf16⟩
  | .local _ .vmem, ⟨27, _⟩ => ⟨S8x8x64, .bf16⟩
  | .local _ .vmem, ⟨28, _⟩ => ⟨S8x128, .f32⟩
  | .local _ .vmem, ⟨29, _⟩ => ⟨S8x128, .f32⟩
  | .local _ .vmem, ⟨30, _⟩ => ⟨S8x8192, .f32⟩
  | .local _ .vmem, ⟨31, _⟩ => ⟨S8x8192, .f32⟩
  | .local _ .vmem, ⟨32, _⟩ => ⟨S8x128, .f32⟩
  | .local _ .vmem, ⟨33, _⟩ => ⟨S8x128, .f32⟩
  | .local _ .vmem, ⟨34, _⟩ => ⟨S8x8192, .f32⟩
  | .local _ .vmem, ⟨35, _⟩ => ⟨S8x8192, .f32⟩
  | .local _ .vmem, ⟨36, _⟩ => ⟨S8x64, .f32⟩
  | .local _ .vmem, ⟨37, _⟩ => ⟨S8x64, .f32⟩
  | .local _ .vmem, ⟨38, _⟩ => ⟨S8x64, .f32⟩
  | .local _ .vmem, ⟨39, _⟩ => ⟨S8x64, .f32⟩
  | .local _ .vmem, ⟨40, _⟩ => ⟨S8x64, .f32⟩
  | .local _ .vmem, ⟨41, _⟩ => ⟨S8x64, .f32⟩
  | .local _ .vmem, ⟨42, _⟩ => ⟨S8x8x8192, .f32⟩
  | .local _ .vmem, ⟨43, _⟩ => ⟨S8x8192, .f32⟩
  | .local _ .vmem, ⟨44, _⟩ => ⟨S8x8192, .f32⟩
  | .local _ .vmem, ⟨45, _⟩ => ⟨S8x1, .f32⟩
  | .local _ .vmem, ⟨46, _⟩ => ⟨S8x64x128, .f32⟩
  | .local _ .vmem, ⟨47, _⟩ => ⟨S8x64x128, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_c : Ref sig .tc := ⟨.hbm, 33, rfl⟩
abbrev main_call0_v0 : Ref sig .tc := ⟨.hbm, 34, rfl⟩
abbrev main_v2 : Ref sig .tc := ⟨.hbm, 35, rfl⟩
abbrev main_v3 : Ref sig .tc := ⟨.hbm, 36, rfl⟩
abbrev main_c_0 : Ref sig .tc := ⟨.hbm, 37, rfl⟩
abbrev main_call1_v0 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_c_1 : Ref sig .tc := ⟨.hbm, 42, rfl⟩
abbrev main_call2_v0 : Ref sig .tc := ⟨.hbm, 43, rfl⟩
abbrev main_v7 : Ref sig .tc := ⟨.hbm, 44, rfl⟩
abbrev main_v8 : Ref sig .tc := ⟨.hbm, 45, rfl⟩
abbrev main_c_2 : Ref sig .tc := ⟨.hbm, 46, rfl⟩
abbrev main_call3_v0 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16_0 : Ref sig .tc := ⟨.hbm, 55, rfl⟩
abbrev main_v16_1 : Ref sig .tc := ⟨.hbm, 56, rfl⟩
abbrev main_v16_2 : Ref sig .tc := ⟨.hbm, 57, rfl⟩
abbrev main_v16_3 : Ref sig .tc := ⟨.hbm, 58, rfl⟩
abbrev main_v16_4 : Ref sig .tc := ⟨.hbm, 59, rfl⟩
abbrev main_v16_5 : Ref sig .tc := ⟨.hbm, 60, rfl⟩
abbrev main_v16_6 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_scratch0 : Ref sig .tc := ⟨.vmem, 42, rfl⟩
abbrev cc1_scratch1 : Ref sig .tc := ⟨.vmem, 43, rfl⟩
abbrev cc1_scratch2 : Ref sig .tc := ⟨.vmem, 44, rfl⟩
abbrev cc1_scratch3 : Ref sig .tc := ⟨.vmem, 45, rfl⟩
abbrev cc1_scratch4 : Ref sig .tc := ⟨.vmem, 46, rfl⟩
abbrev cc1_scratch5 : Ref sig .tc := ⟨.vmem, 47, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41

abbrev nD : Nat := 1
abbrev τ : Topo := Topo.v7x

variable {F : FTy → Type} [FloatOps F]

abbrev grid0 : Pipeline.Grid := .none

abbrev stage0_0 : Fin 1 → Memref sig .tc .vmem S64x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S64x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S64x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S64x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S64x8x64 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S64x8x64 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S64x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S64x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev grid1 : Pipeline.Grid := ⟨2, ![8, 4], ![false, false]⟩

def k1_mult1 (i : grid1.Coords) : BitVec 32 :=
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  v1
def k1_cond1 (i : grid1.Coords) : BitVec 1 :=
  let arg1 : BitVec 32 := BitVec.ofNat 32 (i 1).val
  let c2_i32_0 : BitVec 32 := 2#32
  let v3 : BitVec 1 := Scalar.cmpi .slt arg1 c2_i32_0
  let v4 : BitVec 32 := Scalar.extui v3
  let c0_i32 : BitVec 32 := 0#32
  let v5 : BitVec 1 := Scalar.cmpi .ne v4 c0_i32
  v5

def k1_off1 (i : grid1.Coords) : Fin 3 → Nat :=
  let c0_14 : Index := 0#32
  let c0_15 : Index := 0#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v26 : Index := Scalar.indexCast v2
  ![0, 0, v26.toNat]
def k1_off2 (i : grid1.Coords) : Fin 3 → Nat :=
  let c1 : Index := 1#32
  let c0_16 : Index := 0#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v31 : Index := Scalar.indexCast v2
  ![1, 0, v31.toNat]
def k1_off3 (i : grid1.Coords) : Fin 3 → Nat :=
  let c2 : Index := 2#32
  let c0_17 : Index := 0#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v36 : Index := Scalar.indexCast v2
  ![2, 0, v36.toNat]
def k1_off4 (i : grid1.Coords) : Fin 3 → Nat :=
  let c3 : Index := 3#32
  let c0_18 : Index := 0#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v41 : Index := Scalar.indexCast v2
  ![3, 0, v41.toNat]
def k1_off5 (i : grid1.Coords) : Fin 3 → Nat :=
  let c4 : Index := 4#32
  let c0_19 : Index := 0#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v46 : Index := Scalar.indexCast v2
  ![4, 0, v46.toNat]
def k1_off6 (i : grid1.Coords) : Fin 3 → Nat :=
  let c5 : Index := 5#32
  let c0_20 : Index := 0#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v51 : Index := Scalar.indexCast v2
  ![5, 0, v51.toNat]
def k1_off7 (i : grid1.Coords) : Fin 3 → Nat :=
  let c6 : Index := 6#32
  let c0_21 : Index := 0#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v56 : Index := Scalar.indexCast v2
  ![6, 0, v56.toNat]
def k1_off8 (i : grid1.Coords) : Fin 3 → Nat :=
  let c7 : Index := 7#32
  let c0_22 : Index := 0#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v61 : Index := Scalar.indexCast v2
  ![7, 0, v61.toNat]
def k1_off9 (i : grid1.Coords) : Fin 3 → Nat :=
  let c0_34 : Index := 0#32
  let c1_35 : Index := 1#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v76 : Index := Scalar.indexCast v2
  ![0, 1, v76.toNat]
def k1_off10 (i : grid1.Coords) : Fin 3 → Nat :=
  let c1_36 : Index := 1#32
  let c1_37 : Index := 1#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v81 : Index := Scalar.indexCast v2
  ![1, 1, v81.toNat]
def k1_off11 (i : grid1.Coords) : Fin 3 → Nat :=
  let c2_38 : Index := 2#32
  let c1_39 : Index := 1#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v86 : Index := Scalar.indexCast v2
  ![2, 1, v86.toNat]
def k1_off12 (i : grid1.Coords) : Fin 3 → Nat :=
  let c3_40 : Index := 3#32
  let c1_41 : Index := 1#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v91 : Index := Scalar.indexCast v2
  ![3, 1, v91.toNat]
def k1_off13 (i : grid1.Coords) : Fin 3 → Nat :=
  let c4_42 : Index := 4#32
  let c1_43 : Index := 1#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v96 : Index := Scalar.indexCast v2
  ![4, 1, v96.toNat]
def k1_off14 (i : grid1.Coords) : Fin 3 → Nat :=
  let c5_44 : Index := 5#32
  let c1_45 : Index := 1#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v101 : Index := Scalar.indexCast v2
  ![5, 1, v101.toNat]
def k1_off15 (i : grid1.Coords) : Fin 3 → Nat :=
  let c6_46 : Index := 6#32
  let c1_47 : Index := 1#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v106 : Index := Scalar.indexCast v2
  ![6, 1, v106.toNat]
def k1_off16 (i : grid1.Coords) : Fin 3 → Nat :=
  let c7_48 : Index := 7#32
  let c1_49 : Index := 1#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v111 : Index := Scalar.indexCast v2
  ![7, 1, v111.toNat]
def k1_off17 (i : grid1.Coords) : Fin 3 → Nat :=
  let c0_61 : Index := 0#32
  let c2_62 : Index := 2#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v126 : Index := Scalar.indexCast v2
  ![0, 2, v126.toNat]
def k1_off18 (i : grid1.Coords) : Fin 3 → Nat :=
  let c1_63 : Index := 1#32
  let c2_64 : Index := 2#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v131 : Index := Scalar.indexCast v2
  ![1, 2, v131.toNat]
def k1_off19 (i : grid1.Coords) : Fin 3 → Nat :=
  let c2_65 : Index := 2#32
  let c2_66 : Index := 2#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v136 : Index := Scalar.indexCast v2
  ![2, 2, v136.toNat]
def k1_off20 (i : grid1.Coords) : Fin 3 → Nat :=
  let c3_67 : Index := 3#32
  let c2_68 : Index := 2#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v141 : Index := Scalar.indexCast v2
  ![3, 2, v141.toNat]
def k1_off21 (i : grid1.Coords) : Fin 3 → Nat :=
  let c4_69 : Index := 4#32
  let c2_70 : Index := 2#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v146 : Index := Scalar.indexCast v2
  ![4, 2, v146.toNat]
def k1_off22 (i : grid1.Coords) : Fin 3 → Nat :=
  let c5_71 : Index := 5#32
  let c2_72 : Index := 2#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v151 : Index := Scalar.indexCast v2
  ![5, 2, v151.toNat]
def k1_off23 (i : grid1.Coords) : Fin 3 → Nat :=
  let c6_73 : Index := 6#32
  let c2_74 : Index := 2#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v156 : Index := Scalar.indexCast v2
  ![6, 2, v156.toNat]
def k1_off24 (i : grid1.Coords) : Fin 3 → Nat :=
  let c7_75 : Index := 7#32
  let c2_76 : Index := 2#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v161 : Index := Scalar.indexCast v2
  ![7, 2, v161.toNat]
def k1_off25 (i : grid1.Coords) : Fin 3 → Nat :=
  let c0_88 : Index := 0#32
  let c3_89 : Index := 3#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v176 : Index := Scalar.indexCast v2
  ![0, 3, v176.toNat]
def k1_off26 (i : grid1.Coords) : Fin 3 → Nat :=
  let c1_90 : Index := 1#32
  let c3_91 : Index := 3#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v181 : Index := Scalar.indexCast v2
  ![1, 3, v181.toNat]
def k1_off27 (i : grid1.Coords) : Fin 3 → Nat :=
  let c2_92 : Index := 2#32
  let c3_93 : Index := 3#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v186 : Index := Scalar.indexCast v2
  ![2, 3, v186.toNat]
def k1_off28 (i : grid1.Coords) : Fin 3 → Nat :=
  let c3_94 : Index := 3#32
  let c3_95 : Index := 3#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v191 : Index := Scalar.indexCast v2
  ![3, 3, v191.toNat]
def k1_off29 (i : grid1.Coords) : Fin 3 → Nat :=
  let c4_96 : Index := 4#32
  let c3_97 : Index := 3#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v196 : Index := Scalar.indexCast v2
  ![4, 3, v196.toNat]
def k1_off30 (i : grid1.Coords) : Fin 3 → Nat :=
  let c5_98 : Index := 5#32
  let c3_99 : Index := 3#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v201 : Index := Scalar.indexCast v2
  ![5, 3, v201.toNat]
def k1_off31 (i : grid1.Coords) : Fin 3 → Nat :=
  let c6_100 : Index := 6#32
  let c3_101 : Index := 3#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v206 : Index := Scalar.indexCast v2
  ![6, 3, v206.toNat]
def k1_off32 (i : grid1.Coords) : Fin 3 → Nat :=
  let c7_102 : Index := 7#32
  let c3_103 : Index := 3#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v211 : Index := Scalar.indexCast v2
  ![7, 3, v211.toNat]
def k1_off33 (i : grid1.Coords) : Fin 3 → Nat :=
  let c0_115 : Index := 0#32
  let c4_116 : Index := 4#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v226 : Index := Scalar.indexCast v2
  ![0, 4, v226.toNat]
def k1_off34 (i : grid1.Coords) : Fin 3 → Nat :=
  let c1_117 : Index := 1#32
  let c4_118 : Index := 4#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v231 : Index := Scalar.indexCast v2
  ![1, 4, v231.toNat]
def k1_off35 (i : grid1.Coords) : Fin 3 → Nat :=
  let c2_119 : Index := 2#32
  let c4_120 : Index := 4#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v236 : Index := Scalar.indexCast v2
  ![2, 4, v236.toNat]
def k1_off36 (i : grid1.Coords) : Fin 3 → Nat :=
  let c3_121 : Index := 3#32
  let c4_122 : Index := 4#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v241 : Index := Scalar.indexCast v2
  ![3, 4, v241.toNat]
def k1_off37 (i : grid1.Coords) : Fin 3 → Nat :=
  let c4_123 : Index := 4#32
  let c4_124 : Index := 4#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v246 : Index := Scalar.indexCast v2
  ![4, 4, v246.toNat]
def k1_off38 (i : grid1.Coords) : Fin 3 → Nat :=
  let c5_125 : Index := 5#32
  let c4_126 : Index := 4#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v251 : Index := Scalar.indexCast v2
  ![5, 4, v251.toNat]
def k1_off39 (i : grid1.Coords) : Fin 3 → Nat :=
  let c6_127 : Index := 6#32
  let c4_128 : Index := 4#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v256 : Index := Scalar.indexCast v2
  ![6, 4, v256.toNat]
def k1_off40 (i : grid1.Coords) : Fin 3 → Nat :=
  let c7_129 : Index := 7#32
  let c4_130 : Index := 4#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v261 : Index := Scalar.indexCast v2
  ![7, 4, v261.toNat]
def k1_off41 (i : grid1.Coords) : Fin 3 → Nat :=
  let c0_142 : Index := 0#32
  let c5_143 : Index := 5#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v276 : Index := Scalar.indexCast v2
  ![0, 5, v276.toNat]
def k1_off42 (i : grid1.Coords) : Fin 3 → Nat :=
  let c1_144 : Index := 1#32
  let c5_145 : Index := 5#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v281 : Index := Scalar.indexCast v2
  ![1, 5, v281.toNat]
def k1_off43 (i : grid1.Coords) : Fin 3 → Nat :=
  let c2_146 : Index := 2#32
  let c5_147 : Index := 5#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v286 : Index := Scalar.indexCast v2
  ![2, 5, v286.toNat]
def k1_off44 (i : grid1.Coords) : Fin 3 → Nat :=
  let c3_148 : Index := 3#32
  let c5_149 : Index := 5#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v291 : Index := Scalar.indexCast v2
  ![3, 5, v291.toNat]
def k1_off45 (i : grid1.Coords) : Fin 3 → Nat :=
  let c4_150 : Index := 4#32
  let c5_151 : Index := 5#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v296 : Index := Scalar.indexCast v2
  ![4, 5, v296.toNat]
def k1_off46 (i : grid1.Coords) : Fin 3 → Nat :=
  let c5_152 : Index := 5#32
  let c5_153 : Index := 5#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v301 : Index := Scalar.indexCast v2
  ![5, 5, v301.toNat]
def k1_off47 (i : grid1.Coords) : Fin 3 → Nat :=
  let c6_154 : Index := 6#32
  let c5_155 : Index := 5#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v306 : Index := Scalar.indexCast v2
  ![6, 5, v306.toNat]
def k1_off48 (i : grid1.Coords) : Fin 3 → Nat :=
  let c7_156 : Index := 7#32
  let c5_157 : Index := 5#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v311 : Index := Scalar.indexCast v2
  ![7, 5, v311.toNat]
def k1_off49 (i : grid1.Coords) : Fin 3 → Nat :=
  let c0_169 : Index := 0#32
  let c6_170 : Index := 6#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v326 : Index := Scalar.indexCast v2
  ![0, 6, v326.toNat]
def k1_off50 (i : grid1.Coords) : Fin 3 → Nat :=
  let c1_171 : Index := 1#32
  let c6_172 : Index := 6#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v331 : Index := Scalar.indexCast v2
  ![1, 6, v331.toNat]
def k1_off51 (i : grid1.Coords) : Fin 3 → Nat :=
  let c2_173 : Index := 2#32
  let c6_174 : Index := 6#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v336 : Index := Scalar.indexCast v2
  ![2, 6, v336.toNat]
def k1_off52 (i : grid1.Coords) : Fin 3 → Nat :=
  let c3_175 : Index := 3#32
  let c6_176 : Index := 6#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v341 : Index := Scalar.indexCast v2
  ![3, 6, v341.toNat]
def k1_off53 (i : grid1.Coords) : Fin 3 → Nat :=
  let c4_177 : Index := 4#32
  let c6_178 : Index := 6#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v346 : Index := Scalar.indexCast v2
  ![4, 6, v346.toNat]
def k1_off54 (i : grid1.Coords) : Fin 3 → Nat :=
  let c5_179 : Index := 5#32
  let c6_180 : Index := 6#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v351 : Index := Scalar.indexCast v2
  ![5, 6, v351.toNat]
def k1_off55 (i : grid1.Coords) : Fin 3 → Nat :=
  let c6_181 : Index := 6#32
  let c6_182 : Index := 6#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v356 : Index := Scalar.indexCast v2
  ![6, 6, v356.toNat]
def k1_off56 (i : grid1.Coords) : Fin 3 → Nat :=
  let c7_183 : Index := 7#32
  let c6_184 : Index := 6#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v361 : Index := Scalar.indexCast v2
  ![7, 6, v361.toNat]
def k1_off57 (i : grid1.Coords) : Fin 3 → Nat :=
  let c0_196 : Index := 0#32
  let c7_197 : Index := 7#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v376 : Index := Scalar.indexCast v2
  ![0, 7, v376.toNat]
def k1_off58 (i : grid1.Coords) : Fin 3 → Nat :=
  let c1_198 : Index := 1#32
  let c7_199 : Index := 7#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v381 : Index := Scalar.indexCast v2
  ![1, 7, v381.toNat]
def k1_off59 (i : grid1.Coords) : Fin 3 → Nat :=
  let c2_200 : Index := 2#32
  let c7_201 : Index := 7#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v386 : Index := Scalar.indexCast v2
  ![2, 7, v386.toNat]
def k1_off60 (i : grid1.Coords) : Fin 3 → Nat :=
  let c3_202 : Index := 3#32
  let c7_203 : Index := 7#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v391 : Index := Scalar.indexCast v2
  ![3, 7, v391.toNat]
def k1_off61 (i : grid1.Coords) : Fin 3 → Nat :=
  let c4_204 : Index := 4#32
  let c7_205 : Index := 7#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v396 : Index := Scalar.indexCast v2
  ![4, 7, v396.toNat]
def k1_off62 (i : grid1.Coords) : Fin 3 → Nat :=
  let c5_206 : Index := 5#32
  let c7_207 : Index := 7#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v401 : Index := Scalar.indexCast v2
  ![5, 7, v401.toNat]
def k1_off63 (i : grid1.Coords) : Fin 3 → Nat :=
  let c6_208 : Index := 6#32
  let c7_209 : Index := 7#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v406 : Index := Scalar.indexCast v2
  ![6, 7, v406.toNat]
def k1_off64 (i : grid1.Coords) : Fin 3 → Nat :=
  let c7_210 : Index := 7#32
  let c7_211 : Index := 7#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v411 : Index := Scalar.indexCast v2
  ![7, 7, v411.toNat]
def k1_cond3 (i : grid1.Coords) : BitVec 1 :=
  let arg1 : BitVec 32 := BitVec.ofNat 32 (i 1).val
  let c2_i32_2 : BitVec 32 := 2#32
  let v9 : BitVec 1 := Scalar.cmpi .sge arg1 c2_i32_2
  let v10 : BitVec 32 := Scalar.extui v9
  let c0_i32_3 : BitVec 32 := 0#32
  let v11 : BitVec 1 := Scalar.cmpi .ne v10 c0_i32_3
  v11

def k1_off65 (i : grid1.Coords) : Fin 2 → Nat :=
  let c0_7 : Index := 0#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v17 : Index := Scalar.indexCast v2
  ![0, v17.toNat]
def k1_off66 (i : grid1.Coords) : Fin 2 → Nat :=
  let c1_24 : Index := 1#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v169 : Index := Scalar.indexCast v2
  ![1, v169.toNat]
def k1_off67 (i : grid1.Coords) : Fin 2 → Nat :=
  let c2_42 : Index := 2#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v321 : Index := Scalar.indexCast v2
  ![2, v321.toNat]
def k1_off68 (i : grid1.Coords) : Fin 2 → Nat :=
  let c3_60 : Index := 3#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v473 : Index := Scalar.indexCast v2
  ![3, v473.toNat]
def k1_off69 (i : grid1.Coords) : Fin 2 → Nat :=
  let c4_78 : Index := 4#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v625 : Index := Scalar.indexCast v2
  ![4, v625.toNat]
def k1_off70 (i : grid1.Coords) : Fin 2 → Nat :=
  let c5_96 : Index := 5#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v777 : Index := Scalar.indexCast v2
  ![5, v777.toNat]
def k1_off71 (i : grid1.Coords) : Fin 2 → Nat :=
  let c6_114 : Index := 6#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v929 : Index := Scalar.indexCast v2
  ![6, v929.toNat]
def k1_off72 (i : grid1.Coords) : Fin 2 → Nat :=
  let c7_132 : Index := 7#32
  let arg1 : BitVec 32 := BitVec.ofNat 32 (i 1).val
  let c2_i32 : BitVec 32 := 2#32
  let v0 : BitVec 32 := Scalar.remsi arg1 c2_i32
  let c4096_i32 : BitVec 32 := 4096#32
  let v1 : BitVec 32 := Scalar.muli v0 c4096_i32
  let v2 : BitVec 32 := v1
  let v1081 : Index := Scalar.indexCast v2
  ![7, v1081.toNat]
def k1_cond4 (i : grid1.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_4 : BitVec 32 := 0#32
  let v14 : BitVec 1 := Scalar.cmpi .ne v13 c0_i32_4
  v14

def cc1_transform_0 (i : grid1.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, c0_i32_3.toNat, v9.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x8x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x8x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S8x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S8x8192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S8x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S8x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S8x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]
-- ==== ReferenceIdeal.lean ====
abbrev S64x128 : Shape := ⟨2, ![64, 128]⟩
abbrev S64x8192x64 : Shape := ⟨3, ![64, 8192, 64]⟩
abbrev S64x8192 : Shape := ⟨2, ![64, 8192]⟩
abbrev S64x64 : Shape := ⟨2, ![64, 64]⟩
abbrev S192x256 : Shape := ⟨2, ![192, 256]⟩
abbrev S256 : Shape := ⟨1, ![256]⟩
abbrev S256x64 : Shape := ⟨2, ![256, 64]⟩
abbrev S64 : Shape := ⟨1, ![64]⟩
abbrev S256x1 : Shape := ⟨2, ![256, 1]⟩
abbrev S1 : Shape := ⟨1, ![1]⟩
abbrev S256x3 : Shape := ⟨2, ![256, 3]⟩
abbrev S3 : Shape := ⟨1, ![3]⟩
abbrev S64x192 : Shape := ⟨2, ![64, 192]⟩
abbrev S64x256 : Shape := ⟨2, ![64, 256]⟩
abbrev S1x256 : Shape := ⟨2, ![1, 256]⟩
abbrev S_ : Shape := ⟨0, ![]⟩
abbrev S1x64 : Shape := ⟨2, ![1, 64]⟩
abbrev S64x1 : Shape := ⟨2, ![64, 1]⟩
abbrev S1x1 : Shape := ⟨2, ![1, 1]⟩
abbrev S64x3 : Shape := ⟨2, ![64, 3]⟩
abbrev S1x3 : Shape := ⟨2, ![1, 3]⟩
abbrev S64x8191 : Shape := ⟨2, ![64, 8191]⟩
abbrev S64x0 : Shape := ⟨2, ![64, 0]⟩
abbrev S64x8192x1 : Shape := ⟨3, ![64, 8192, 1]⟩
abbrev S64x1x64 : Shape := ⟨3, ![64, 1, 64]⟩
abbrev S64x320 : Shape := ⟨2, ![64, 320]⟩

abbrev nBuf : Space → Nat
  | .hbm => 364
  | .vmem => 0
  | .smem => 0
  | _ => 0

abbrev hbmTy0_0 (i : Nat) : BufTy := match i % 128 with
  | 0 => ⟨S64x128, .f32⟩
  | 1 => ⟨S64x8192x64, .f32⟩
  | 2 => ⟨S64x8192, .f32⟩
  | 3 => ⟨S64x8192, .f32⟩
  | 4 => ⟨S64x64, .f32⟩
  | 5 => ⟨S192x256, .f32⟩
  | 6 => ⟨S256, .f32⟩
  | 7 => ⟨S256x64, .f32⟩
  | 8 => ⟨S64, .f32⟩
  | 9 => ⟨S256x1, .f32⟩
  | 10 => ⟨S1, .f32⟩
  | 11 => ⟨S256x1, .f32⟩
  | 12 => ⟨S1, .f32⟩
  | 13 => ⟨S256x3, .f32⟩
  | 14 => ⟨S3, .f32⟩
  | 15 => ⟨S256x1, .f32⟩
  | 16 => ⟨S1, .f32⟩
  | 17 => ⟨S256x64, .f32⟩
  | 18 => ⟨S64, .f32⟩
  | 19 => ⟨S256x1, .f32⟩
  | 20 => ⟨S1, .f32⟩
  | 21 => ⟨S256x1, .f32⟩
  | 22 => ⟨S1, .f32⟩
  | 23 => ⟨S256x3, .f32⟩
  | 24 => ⟨S3, .f32⟩
  | 25 => ⟨S256x1, .f32⟩
  | 26 => ⟨S1, .f32⟩
  | 27 => ⟨S256x64, .f32⟩
  | 28 => ⟨S64, .f32⟩
  | 29 => ⟨S256x64, .f32⟩
  | 30 => ⟨S64, .f32⟩
  | 31 => ⟨S64x192, .f32⟩
  | 32 => ⟨S64x256, .f32⟩
  | 33 => ⟨S1x256, .f32⟩
  | 34 => ⟨S64x256, .f32⟩
  | 35 => ⟨S64x256, .f32⟩
  | 36 => ⟨S_, .f32⟩
  | 37 => ⟨S64x256, .f32⟩
  | 38 => ⟨S64x256, .f32⟩
  | 39 => ⟨S64x64, .f32⟩
  | 40 => ⟨S1x64, .f32⟩
  | 41 => ⟨S64x64, .f32⟩
  | 42 => ⟨S64x64, .f32⟩
  | 43 => ⟨S64x1, .f32⟩
  | 44 => ⟨S1x1, .f32⟩
  | 45 => ⟨S64x1, .f32⟩
  | 46 => ⟨S64x1, .f32⟩
  | 47 => ⟨S_, .f32⟩
  | 48 => ⟨S64x1, .f32⟩
  | 49 => ⟨S64x1, .f32⟩
  | 50 => ⟨S64x1, .f32⟩
  | 51 => ⟨S64x1, .f32⟩
  | 52 => ⟨S64x1, .i1⟩
  | 53 => ⟨S64x1, .f32⟩
  | 54 => ⟨S64x1, .f32⟩
  | 55 => ⟨S64x1, .f32⟩
  | 56 => ⟨S64x1, .f32⟩
  | 57 => ⟨S64x1, .f32⟩
  | 58 => ⟨S64x1, .f32⟩
  | 59 => ⟨S64x1, .f32⟩
  | 60 => ⟨S64x1, .f32⟩
  | 61 => ⟨S64x1, .f32⟩
  | 62 => ⟨S1x1, .f32⟩
  | 63 => ⟨S64x1, .f32⟩
  | 64 => ⟨S64x1, .f32⟩
  | 65 => ⟨S64x1, .f32⟩
  | 66 => ⟨S64x1, .f32⟩
  | 67 => ⟨S_, .f32⟩
  | 68 => ⟨S64x1, .f32⟩
  | 69 => ⟨S64x1, .f32⟩
  | 70 => ⟨S_, .f32⟩
  | 71 => ⟨S64x1, .f32⟩
  | 72 => ⟨S64x1, .f32⟩
  | 73 => ⟨S64x3, .f32⟩
  | 74 => ⟨S1x3, .f32⟩
  | 75 => ⟨S64x3, .f32⟩
  | 76 => ⟨S64x3, .f32⟩
  | 77 => ⟨S_, .f32⟩
  | 78 => ⟨S64, .f32⟩
  | 79 => ⟨S_, .f32⟩
  | 80 => ⟨S64, .f32⟩
  | 81 => ⟨S64, .f32⟩
  | 82 => ⟨S64x1, .f32⟩
  | 83 => ⟨S64x3, .f32⟩
  | 84 => ⟨S64x3, .f32⟩
  | 85 => ⟨S64x3, .f32⟩
  | 86 => ⟨S_, .f32⟩
  | 87 => ⟨S64, .f32⟩
  | 88 => ⟨S64x1, .f32⟩
  | 89 => ⟨S64x3, .f32⟩
  | 90 => ⟨S64x3, .f32⟩
  | 91 => ⟨S64x1, .f32⟩
  | 92 => ⟨S1x1, .f32⟩
  | 93 => ⟨S64x1, .f32⟩
  | 94 => ⟨S64x1, .f32⟩
  | 95 => ⟨S_, .f32⟩
  | 96 => ⟨S64x1, .f32⟩
  | 97 => ⟨S64x1, .f32⟩
  | 98 => ⟨S64x1, .f32⟩
  | 99 => ⟨S64x1, .f32⟩
  | 100 => ⟨S64x1, .i1⟩
  | 101 => ⟨S64x1, .f32⟩
  | 102 => ⟨S64x1, .f32⟩
  | 103 => ⟨S64x1, .f32⟩
  | 104 => ⟨S64x1, .f32⟩
  | 105 => ⟨S64x1, .f32⟩
  | 106 => ⟨S64x1, .f32⟩
  | 107 => ⟨S64x1, .f32⟩
  | 108 => ⟨S64x1, .f32⟩
  | 109 => ⟨S_, .f32⟩
  | 110 => ⟨S64x1, .f32⟩
  | 111 => ⟨S64x1, .f32⟩
  | 112 => ⟨S64x8192, .f32⟩
  | 113 => ⟨S64x8192x64, .f32⟩
  | 114 => ⟨S_, .f32⟩
  | 115 => ⟨S64x8192, .f32⟩
  | 116 => ⟨S64x8192, .f32⟩
  | 117 => ⟨S64x64, .f32⟩
  | 118 => ⟨S_, .f32⟩
  | 119 => ⟨S64, .f32⟩
  | 120 => ⟨S64x1, .f32⟩
  | 121 => ⟨S64x1, .f32⟩
  | 122 => ⟨S64x8192, .f32⟩
  | 123 => ⟨S64x8192, .f32⟩
  | 124 => ⟨S_, .f32⟩
  | 125 => ⟨S64x8192, .f32⟩
  | 126 => ⟨S64x8192, .f32⟩
  | 127 => ⟨S64x8192, .f32⟩
  | _ => ⟨S64x128, .f32⟩

abbrev hbmTy0_1 (i : Nat) : BufTy := match i % 128 with
  | 0 => ⟨S64x8192, .f32⟩
  | 1 => ⟨S64x8192, .f32⟩
  | 2 => ⟨S_, .f32⟩
  | 3 => ⟨S64, .f32⟩
  | 4 => ⟨S_, .f32⟩
  | 5 => ⟨S64, .f32⟩
  | 6 => ⟨S64, .f32⟩
  | 7 => ⟨S64x1, .f32⟩
  | 8 => ⟨S64x8192, .f32⟩
  | 9 => ⟨S64x8192, .f32⟩
  | 10 => ⟨S64x8192, .f32⟩
  | 11 => ⟨S_, .f32⟩
  | 12 => ⟨S64, .f32⟩
  | 13 => ⟨S64x1, .f32⟩
  | 14 => ⟨S64x8192, .f32⟩
  | 15 => ⟨S64x8192, .f32⟩
  | 16 => ⟨S64x8192, .f32⟩
  | 17 => ⟨S64x8192, .f32⟩
  | 18 => ⟨S_, .f32⟩
  | 19 => ⟨S64x1, .f32⟩
  | 20 => ⟨S64x1, .f32⟩
  | 21 => ⟨S64x8192, .f32⟩
  | 22 => ⟨S64x8192, .f32⟩
  | 23 => ⟨S64x8192, .f32⟩
  | 24 => ⟨S64x1, .f32⟩
  | 25 => ⟨S64x8191, .f32⟩
  | 26 => ⟨S64x1, .f32⟩
  | 27 => ⟨S64x8192, .f32⟩
  | 28 => ⟨S64x8192, .f32⟩
  | 29 => ⟨S64x8192, .f32⟩
  | 30 => ⟨S_, .f32⟩
  | 31 => ⟨S64x8192, .f32⟩
  | 32 => ⟨S64x8192, .f32⟩
  | 33 => ⟨S64x1, .f32⟩
  | 34 => ⟨S64x8192, .f32⟩
  | 35 => ⟨S64x0, .f32⟩
  | 36 => ⟨S64x8192, .f32⟩
  | 37 => ⟨S64x8192, .f32⟩
  | 38 => ⟨S64x8192, .f32⟩
  | 39 => ⟨S64x8192, .f32⟩
  | 40 => ⟨S64x1, .f32⟩
  | 41 => ⟨S64x1, .f32⟩
  | 42 => ⟨S64x8191, .f32⟩
  | 43 => ⟨S64x8192, .f32⟩
  | 44 => ⟨S64x8192, .f32⟩
  | 45 => ⟨S64x8192, .f32⟩
  | 46 => ⟨S64x8192, .f32⟩
  | 47 => ⟨S64x8192, .f32⟩
  | 48 => ⟨S64x8192, .f32⟩
  | 49 => ⟨S_, .f32⟩
  | 50 => ⟨S64, .f32⟩
  | 51 => ⟨S64x1, .f32⟩
  | 52 => ⟨S_, .f32⟩
  | 53 => ⟨S64x1, .f32⟩
  | 54 => ⟨S64x1, .f32⟩
  | 55 => ⟨S64x8192, .f32⟩
  | 56 => ⟨S64x8192, .f32⟩
  | 57 => ⟨S64x64, .f32⟩
  | 58 => ⟨S1x64, .f32⟩
  | 59 => ⟨S64x64, .f32⟩
  | 60 => ⟨S64x64, .f32⟩
  | 61 => ⟨S64x64, .f32⟩
  | 62 => ⟨S64x64, .f32⟩
  | 63 => ⟨S_, .f32⟩
  | 64 => ⟨S64x64, .f32⟩
  | 65 => ⟨S64x64, .f32⟩
  | 66 => ⟨S_, .f32⟩
  | 67 => ⟨S64x64, .f32⟩
  | 68 => ⟨S64x64, .f32⟩
  | 69 => ⟨S64x64, .f32⟩
  | 70 => ⟨S1x64, .f32⟩
  | 71 => ⟨S64x64, .f32⟩
  | 72 => ⟨S64x64, .f32⟩
  | 73 => ⟨S64x64, .f32⟩
  | 74 => ⟨S64x8192x1, .f32⟩
  | 75 => ⟨S64x1x64, .f32⟩
  | 76 => ⟨S64x8192x64, .f32⟩
  | 77 => ⟨S64x8192x64, .f32⟩
  | 78 => ⟨S64x8192x64, .f32⟩
  | 79 => ⟨S_, .f32⟩
  | 80 => ⟨S64x8192x64, .f32⟩
  | 81 => ⟨S64x8192x64, .f32⟩
  | 82 => ⟨S64x8192x64, .f32⟩
  | 83 => ⟨S64x1x64, .f32⟩
  | 84 => ⟨S64x8192x64, .f32⟩
  | 85 => ⟨S64x8192x64, .f32⟩
  | 86 => ⟨S64x8192x64, .f32⟩
  | 87 => ⟨S64x8192x64, .f32⟩
  | 88 => ⟨S64x64, .f32⟩
  | 89 => ⟨S1x64, .f32⟩
  | 90 => ⟨S64x64, .f32⟩
  | 91 => ⟨S64x64, .f32⟩
  | 92 => ⟨S64x1, .f32⟩
  | 93 => ⟨S1x1, .f32⟩
  | 94 => ⟨S64x1, .f32⟩
  | 95 => ⟨S64x1, .f32⟩
  | 96 => ⟨S_, .f32⟩
  | 97 => ⟨S64x1, .f32⟩
  | 98 => ⟨S64x1, .f32⟩
  | 99 => ⟨S64x1, .f32⟩
  | 100 => ⟨S64x1, .f32⟩
  | 101 => ⟨S64x1, .i1⟩
  | 102 => ⟨S64x1, .f32⟩
  | 103 => ⟨S64x1, .f32⟩
  | 104 => ⟨S64x1, .f32⟩
  | 105 => ⟨S64x1, .f32⟩
  | 106 => ⟨S64x1, .f32⟩
  | 107 => ⟨S64x1, .f32⟩
  | 108 => ⟨S64x1, .f32⟩
  | 109 => ⟨S64x1, .f32⟩
  | 110 => ⟨S64x1, .f32⟩
  | 111 => ⟨S1x1, .f32⟩
  | 112 => ⟨S64x1, .f32⟩
  | 113 => ⟨S64x1, .f32⟩
  | 114 => ⟨S64x1, .f32⟩
  | 115 => ⟨S64x1, .f32⟩
  | 116 => ⟨S_, .f32⟩
  | 117 => ⟨S64x1, .f32⟩
  | 118 => ⟨S64x1, .f32⟩
  | 119 => ⟨S_, .f32⟩
  | 120 => ⟨S64x1, .f32⟩
  | 121 => ⟨S64x1, .f32⟩
  | 122 => ⟨S64x3, .f32⟩
  | 123 => ⟨S1x3, .f32⟩
  | 124 => ⟨S64x3, .f32⟩
  | 125 => ⟨S64x3, .f32⟩
  | 126 => ⟨S_, .f32⟩
  | 127 => ⟨S64, .f32⟩
  | _ => ⟨S64x128, .f32⟩

abbrev hbmTy0_2 (i : Nat) : BufTy := match i % 128 with
  | 0 => ⟨S_, .f32⟩
  | 1 => ⟨S64, .f32⟩
  | 2 => ⟨S64, .f32⟩
  | 3 => ⟨S64x1, .f32⟩
  | 4 => ⟨S64x3, .f32⟩
  | 5 => ⟨S64x3, .f32⟩
  | 6 => ⟨S64x3, .f32⟩
  | 7 => ⟨S_, .f32⟩
  | 8 => ⟨S64, .f32⟩
  | 9 => ⟨S64x1, .f32⟩
  | 10 => ⟨S64x3, .f32⟩
  | 11 => ⟨S64x3, .f32⟩
  | 12 => ⟨S64x1, .f32⟩
  | 13 => ⟨S1x1, .f32⟩
  | 14 => ⟨S64x1, .f32⟩
  | 15 => ⟨S64x1, .f32⟩
  | 16 => ⟨S_, .f32⟩
  | 17 => ⟨S64x1, .f32⟩
  | 18 => ⟨S64x1, .f32⟩
  | 19 => ⟨S64x1, .f32⟩
  | 20 => ⟨S64x1, .f32⟩
  | 21 => ⟨S64x1, .i1⟩
  | 22 => ⟨S64x1, .f32⟩
  | 23 => ⟨S64x1, .f32⟩
  | 24 => ⟨S64x1, .f32⟩
  | 25 => ⟨S64x1, .f32⟩
  | 26 => ⟨S64x1, .f32⟩
  | 27 => ⟨S64x1, .f32⟩
  | 28 => ⟨S64x1, .f32⟩
  | 29 => ⟨S64x1, .f32⟩
  | 30 => ⟨S_, .f32⟩
  | 31 => ⟨S64x1, .f32⟩
  | 32 => ⟨S64x1, .f32⟩
  | 33 => ⟨S64x8192, .f32⟩
  | 34 => ⟨S64x8192x64, .f32⟩
  | 35 => ⟨S_, .f32⟩
  | 36 => ⟨S64x8192, .f32⟩
  | 37 => ⟨S64x8192, .f32⟩
  | 38 => ⟨S64x64, .f32⟩
  | 39 => ⟨S_, .f32⟩
  | 40 => ⟨S64, .f32⟩
  | 41 => ⟨S64x1, .f32⟩
  | 42 => ⟨S64x1, .f32⟩
  | 43 => ⟨S64x8192, .f32⟩
  | 44 => ⟨S64x8192, .f32⟩
  | 45 => ⟨S_, .f32⟩
  | 46 => ⟨S64x8192, .f32⟩
  | 47 => ⟨S64x8192, .f32⟩
  | 48 => ⟨S64x8192, .f32⟩
  | 49 => ⟨S64x8192, .f32⟩
  | 50 => ⟨S64x8192, .f32⟩
  | 51 => ⟨S_, .f32⟩
  | 52 => ⟨S64, .f32⟩
  | 53 => ⟨S_, .f32⟩
  | 54 => ⟨S64, .f32⟩
  | 55 => ⟨S64, .f32⟩
  | 56 => ⟨S64x1, .f32⟩
  | 57 => ⟨S64x8192, .f32⟩
  | 58 => ⟨S64x8192, .f32⟩
  | 59 => ⟨S64x8192, .f32⟩
  | 60 => ⟨S_, .f32⟩
  | 61 => ⟨S64, .f32⟩
  | 62 => ⟨S64x1, .f32⟩
  | 63 => ⟨S64x8192, .f32⟩
  | 64 => ⟨S64x8192, .f32⟩
  | 65 => ⟨S64x8192, .f32⟩
  | 66 => ⟨S64x8192, .f32⟩
  | 67 => ⟨S_, .f32⟩
  | 68 => ⟨S64x1, .f32⟩
  | 69 => ⟨S64x1, .f32⟩
  | 70 => ⟨S64x8192, .f32⟩
  | 71 => ⟨S64x8192, .f32⟩
  | 72 => ⟨S64x8192, .f32⟩
  | 73 => ⟨S64x1, .f32⟩
  | 74 => ⟨S64x8191, .f32⟩
  | 75 => ⟨S64x1, .f32⟩
  | 76 => ⟨S64x8192, .f32⟩
  | 77 => ⟨S64x8192, .f32⟩
  | 78 => ⟨S64x8192, .f32⟩
  | 79 => ⟨S_, .f32⟩
  | 80 => ⟨S64x8192, .f32⟩
  | 81 => ⟨S64x8192, .f32⟩
  | 82 => ⟨S64x1, .f32⟩
  | 83 => ⟨S64x8192, .f32⟩
  | 84 => ⟨S64x0, .f32⟩
  | 85 => ⟨S64x8192, .f32⟩
  | 86 => ⟨S64x8192, .f32⟩
  | 87 => ⟨S64x8192, .f32⟩
  | 88 => ⟨S64x8192, .f32⟩
  | 89 => ⟨S64x1, .f32⟩
  | 90 => ⟨S64x1, .f32⟩
  | 91 => ⟨S64x8191, .f32⟩
  | 92 => ⟨S64x8192, .f32⟩
  | 93 => ⟨S64x8192, .f32⟩
  | 94 => ⟨S64x8192, .f32⟩
  | 95 => ⟨S64x8192, .f32⟩
  | 96 => ⟨S64x8192, .f32⟩
  | 97 => ⟨S64x8192, .f32⟩
  | 98 => ⟨S_, .f32⟩
  | 99 => ⟨S64, .f32⟩
  | 100 => ⟨S64x1, .f32⟩
  | 101 => ⟨S_, .f32⟩
  | 102 => ⟨S64x1, .f32⟩
  | 103 => ⟨S64x1, .f32⟩
  | 104 => ⟨S64x8192, .f32⟩
  | 105 => ⟨S64x8192, .f32⟩
  | 106 => ⟨S64x64, .f32⟩
  | 107 => ⟨S64x320, .f32⟩
  | _ => ⟨S64x128, .f32⟩

abbrev hbmTy (i : Nat) : BufTy := match i / 128 with
  | 0 => hbmTy0_0 i
  | 1 => hbmTy0_1 i
  | 2 => hbmTy0_2 i
  | _ => ⟨S64x128, .f32⟩

abbrev bufTy : (tb : Table) → Fin (tcTables nBuf tb) → BufTy
  | .hbm, ⟨i, _⟩ => hbmTy i
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_call0_cst : Ref sig .tc := ⟨.hbm, 36, rfl⟩
abbrev main_call0_v0 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_cst : Ref sig .tc := ⟨.hbm, 67, rfl⟩
abbrev main_v21 : Ref sig .tc := ⟨.hbm, 68, rfl⟩
abbrev main_v22 : Ref sig .tc := ⟨.hbm, 69, rfl⟩
abbrev main_cst_0 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_cst_1 : Ref sig .tc := ⟨.hbm, 77, rfl⟩
abbrev main_v29 : Ref sig .tc := ⟨.hbm, 78, rfl⟩
abbrev main_cst_2 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_cst_3 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_call2_cst : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_v44 : Ref sig .tc := ⟨.hbm, 108, rfl⟩
abbrev main_cst_4 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_call3_v0 : Ref sig .tc := ⟨.hbm, 113, rfl⟩
abbrev main_call3_cst : Ref sig .tc := ⟨.hbm, 114, rfl⟩
abbrev main_call3_v1 : Ref sig .tc := ⟨.hbm, 115, rfl⟩
abbrev main_v48 : Ref sig .tc := ⟨.hbm, 116, rfl⟩
abbrev main_call4_v0 : Ref sig .tc := ⟨.hbm, 117, rfl⟩
abbrev main_call4_cst : Ref sig .tc := ⟨.hbm, 118, rfl⟩
abbrev main_call4_v1 : Ref sig .tc := ⟨.hbm, 119, rfl⟩
abbrev main_call4_v2 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_cst_5 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_cst_6 : Ref sig .tc := ⟨.hbm, 130, rfl⟩
abbrev main_v57 : Ref sig .tc := ⟨.hbm, 131, rfl⟩
abbrev main_cst_7 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_cst_8 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_cst_9 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_call5_v0 : Ref sig .tc := ⟨.hbm, 153, rfl⟩
abbrev main_call5_v1 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_cst_10 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_call6_v0 : Ref sig .tc := ⟨.hbm, 162, rfl⟩
abbrev main_call6_v1 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_call7_v0 : Ref sig .tc := ⟨.hbm, 169, rfl⟩
abbrev main_call7_v1 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_cst_11 : Ref sig .tc := ⟨.hbm, 177, rfl⟩
abbrev main_v93 : Ref sig .tc := ⟨.hbm, 178, rfl⟩
abbrev main_v94 : Ref sig .tc := ⟨.hbm, 179, rfl⟩
abbrev main_cst_12 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_cst_13 : Ref sig .tc := ⟨.hbm, 191, rfl⟩
abbrev main_v105 : Ref sig .tc := ⟨.hbm, 192, rfl⟩
abbrev main_v106 : Ref sig .tc := ⟨.hbm, 193, rfl⟩
abbrev main_cst_14 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_cst_15 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_call8_cst : Ref sig .tc := ⟨.hbm, 224, rfl⟩
abbrev main_call8_v0 : Ref sig .tc := ⟨.hbm, 225, rfl⟩
abbrev main_call8_v1 : Ref sig .tc := ⟨.hbm, 226, rfl⟩
abbrev main_call8_v2 : Ref sig .tc := ⟨.hbm, 227, rfl⟩
abbrev main_call8_v3 : Ref sig .tc := ⟨.hbm, 228, rfl⟩
abbrev main_call8_v4 : Ref sig .tc := ⟨.hbm, 229, rfl⟩
abbrev main_call8_v5 : Ref sig .tc := ⟨.hbm, 230, rfl⟩
abbrev main_call8_v6 : Ref sig .tc := ⟨.hbm, 231, rfl⟩
abbrev main_call8_v7 : Ref sig .tc := ⟨.hbm, 232, rfl⟩
abbrev main_call8_v8 : Ref sig .tc := ⟨.hbm, 233, rfl⟩
abbrev main_call8_v9 : Ref sig .tc := ⟨.hbm, 234, rfl⟩
abbrev main_call8_v10 : Ref sig .tc := ⟨.hbm, 235, rfl⟩
abbrev main_call8_v11 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_cst_16 : Ref sig .tc := ⟨.hbm, 244, rfl⟩
abbrev main_v142 : Ref sig .tc := ⟨.hbm, 245, rfl⟩
abbrev main_v143 : Ref sig .tc := ⟨.hbm, 246, rfl⟩
abbrev main_cst_17 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_cst_18 : Ref sig .tc := ⟨.hbm, 254, rfl⟩
abbrev main_v150 : Ref sig .tc := ⟨.hbm, 255, rfl⟩
abbrev main_cst_19 : Ref sig .tc := ⟨.hbm, 256, rfl⟩
abbrev main_v151 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_v156 : Ref sig .tc := ⟨.hbm, 262, rfl⟩
abbrev main_cst_20 : Ref sig .tc := ⟨.hbm, 263, rfl⟩
abbrev main_v157 : Ref sig .tc := ⟨.hbm, 264, rfl⟩
abbrev main_v158 : Ref sig .tc := ⟨.hbm, 265, rfl⟩
abbrev main_v159 : Ref sig .tc := ⟨.hbm, 266, rfl⟩
abbrev main_v160 : Ref sig .tc := ⟨.hbm, 267, rfl⟩
abbrev main_v161 : Ref sig .tc := ⟨.hbm, 268, rfl⟩
abbrev main_v162 : Ref sig .tc := ⟨.hbm, 269, rfl⟩
abbrev main_v163 : Ref sig .tc := ⟨.hbm, 270, rfl⟩
abbrev main_v164 : Ref sig .tc := ⟨.hbm, 271, rfl⟩
abbrev main_call9_cst : Ref sig .tc := ⟨.hbm, 272, rfl⟩
abbrev main_call9_v0 : Ref sig .tc := ⟨.hbm, 273, rfl⟩
abbrev main_call9_v1 : Ref sig .tc := ⟨.hbm, 274, rfl⟩
abbrev main_call9_v2 : Ref sig .tc := ⟨.hbm, 275, rfl⟩
abbrev main_call9_v3 : Ref sig .tc := ⟨.hbm, 276, rfl⟩
abbrev main_call9_v4 : Ref sig .tc := ⟨.hbm, 277, rfl⟩
abbrev main_call9_v5 : Ref sig .tc := ⟨.hbm, 278, rfl⟩
abbrev main_call9_v6 : Ref sig .tc := ⟨.hbm, 279, rfl⟩
abbrev main_call9_v7 : Ref sig .tc := ⟨.hbm, 280, rfl⟩
abbrev main_call9_v8 : Ref sig .tc := ⟨.hbm, 281, rfl⟩
abbrev main_call9_v9 : Ref sig .tc := ⟨.hbm, 282, rfl⟩
abbrev main_call9_v10 : Ref sig .tc := ⟨.hbm, 283, rfl⟩
abbrev main_call9_v11 : Ref sig .tc := ⟨.hbm, 284, rfl⟩
abbrev main_v165 : Ref sig .tc := ⟨.hbm, 285, rfl⟩
abbrev main_cst_21 : Ref sig .tc := ⟨.hbm, 286, rfl⟩
abbrev main_v166 : Ref sig .tc := ⟨.hbm, 287, rfl⟩
abbrev main_v167 : Ref sig .tc := ⟨.hbm, 288, rfl⟩
abbrev main_v168 : Ref sig .tc := ⟨.hbm, 289, rfl⟩
abbrev main_call10_v0 : Ref sig .tc := ⟨.hbm, 290, rfl⟩
abbrev main_call10_cst : Ref sig .tc := ⟨.hbm, 291, rfl⟩
abbrev main_call10_v1 : Ref sig .tc := ⟨.hbm, 292, rfl⟩
abbrev main_v169 : Ref sig .tc := ⟨.hbm, 293, rfl⟩
abbrev main_call11_v0 : Ref sig .tc := ⟨.hbm, 294, rfl⟩
abbrev main_call11_cst : Ref sig .tc := ⟨.hbm, 295, rfl⟩
abbrev main_call11_v1 : Ref sig .tc := ⟨.hbm, 296, rfl⟩
abbrev main_call11_v2 : Ref sig .tc := ⟨.hbm, 297, rfl⟩
abbrev main_v170 : Ref sig .tc := ⟨.hbm, 298, rfl⟩
abbrev main_v171 : Ref sig .tc := ⟨.hbm, 299, rfl⟩
abbrev main_v172 : Ref sig .tc := ⟨.hbm, 300, rfl⟩
abbrev main_cst_22 : Ref sig .tc := ⟨.hbm, 301, rfl⟩
abbrev main_v173 : Ref sig .tc := ⟨.hbm, 302, rfl⟩
abbrev main_v174 : Ref sig .tc := ⟨.hbm, 303, rfl⟩
abbrev main_v175 : Ref sig .tc := ⟨.hbm, 304, rfl⟩
abbrev main_v176 : Ref sig .tc := ⟨.hbm, 305, rfl⟩
abbrev main_v177 : Ref sig .tc := ⟨.hbm, 306, rfl⟩
abbrev main_cst_23 : Ref sig .tc := ⟨.hbm, 307, rfl⟩
abbrev main_v178 : Ref sig .tc := ⟨.hbm, 308, rfl⟩
abbrev main_cst_24 : Ref sig .tc := ⟨.hbm, 309, rfl⟩
abbrev main_v179 : Ref sig .tc := ⟨.hbm, 310, rfl⟩
abbrev main_v180 : Ref sig .tc := ⟨.hbm, 311, rfl⟩
abbrev main_v181 : Ref sig .tc := ⟨.hbm, 312, rfl⟩
abbrev main_v182 : Ref sig .tc := ⟨.hbm, 313, rfl⟩
abbrev main_v183 : Ref sig .tc := ⟨.hbm, 314, rfl⟩
abbrev main_v184 : Ref sig .tc := ⟨.hbm, 315, rfl⟩
abbrev main_cst_25 : Ref sig .tc := ⟨.hbm, 316, rfl⟩
abbrev main_v185 : Ref sig .tc := ⟨.hbm, 317, rfl⟩
abbrev main_v186 : Ref sig .tc := ⟨.hbm, 318, rfl⟩
abbrev main_v187 : Ref sig .tc := ⟨.hbm, 319, rfl⟩
abbrev main_v188 : Ref sig .tc := ⟨.hbm, 320, rfl⟩
abbrev main_v189 : Ref sig .tc := ⟨.hbm, 321, rfl⟩
abbrev main_v190 : Ref sig .tc := ⟨.hbm, 322, rfl⟩
abbrev main_cst_26 : Ref sig .tc := ⟨.hbm, 323, rfl⟩
abbrev main_v191 : Ref sig .tc := ⟨.hbm, 324, rfl⟩
abbrev main_v192 : Ref sig .tc := ⟨.hbm, 325, rfl⟩
abbrev main_v193 : Ref sig .tc := ⟨.hbm, 326, rfl⟩
abbrev main_v194 : Ref sig .tc := ⟨.hbm, 327, rfl⟩
abbrev main_v195 : Ref sig .tc := ⟨.hbm, 328, rfl⟩
abbrev main_v196 : Ref sig .tc := ⟨.hbm, 329, rfl⟩
abbrev main_call12_v0 : Ref sig .tc := ⟨.hbm, 330, rfl⟩
abbrev main_call12_v1 : Ref sig .tc := ⟨.hbm, 331, rfl⟩
abbrev main_v197 : Ref sig .tc := ⟨.hbm, 332, rfl⟩
abbrev main_v198 : Ref sig .tc := ⟨.hbm, 333, rfl⟩
abbrev main_v199 : Ref sig .tc := ⟨.hbm, 334, rfl⟩
abbrev main_cst_27 : Ref sig .tc := ⟨.hbm, 335, rfl⟩
abbrev main_v200 : Ref sig .tc := ⟨.hbm, 336, rfl⟩
abbrev main_v201 : Ref sig .tc := ⟨.hbm, 337, rfl⟩
abbrev main_v202 : Ref sig .tc := ⟨.hbm, 338, rfl⟩
abbrev main_call13_v0 : Ref sig .tc := ⟨.hbm, 339, rfl⟩
abbrev main_call13_v1 : Ref sig .tc := ⟨.hbm, 340, rfl⟩
abbrev main_v203 : Ref sig .tc := ⟨.hbm, 341, rfl⟩
abbrev main_v204 : Ref sig .tc := ⟨.hbm, 342, rfl⟩
abbrev main_v205 : Ref sig .tc := ⟨.hbm, 343, rfl⟩
abbrev main_v206 : Ref sig .tc := ⟨.hbm, 344, rfl⟩
abbrev main_v207 : Ref sig .tc := ⟨.hbm, 345, rfl⟩
abbrev main_call14_v0 : Ref sig .tc := ⟨.hbm, 346, rfl⟩
abbrev main_call14_v1 : Ref sig .tc := ⟨.hbm, 347, rfl⟩
abbrev main_v208 : Ref sig .tc := ⟨.hbm, 348, rfl⟩
abbrev main_v209 : Ref sig .tc := ⟨.hbm, 349, rfl⟩
abbrev main_v210 : Ref sig .tc := ⟨.hbm, 350, rfl⟩
abbrev main_v211 : Ref sig .tc := ⟨.hbm, 351, rfl⟩
abbrev main_v212 : Ref sig .tc := ⟨.hbm, 352, rfl⟩
abbrev main_v213 : Ref sig .tc := ⟨.hbm, 353, rfl⟩
abbrev main_cst_28 : Ref sig .tc := ⟨.hbm, 354, rfl⟩
abbrev main_v214 : Ref sig .tc := ⟨.hbm, 355, rfl⟩
abbrev main_v215 : Ref sig .tc := ⟨.hbm, 356, rfl⟩
abbrev main_cst_29 : Ref sig .tc := ⟨.hbm, 357, rfl⟩
abbrev main_v216 : Ref sig .tc := ⟨.hbm, 358, rfl⟩
abbrev main_v217 : Ref sig .tc := ⟨.hbm, 359, rfl⟩
abbrev main_v218 : Ref sig .tc := ⟨.hbm, 360, rfl⟩
abbrev main_v219 : Ref sig .tc := ⟨.hbm, 361, rfl⟩
abbrev main_v220 : Ref sig .tc := ⟨.hbm, 362, rfl⟩
abbrev main_v221 : Ref sig .tc := ⟨.hbm, 363, rfl⟩

abbrev nD : Nat := 1
abbrev τ : Topo := Topo.v7x

variable {F : FTy → Type} [FloatOps F]
-- ==== Proof.IRegion0.lean ====
/- The first call (the prologue, one point) at any entry contents `V`: what its seven outputs hold afterwards. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__prologue_kernel` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S64x192 := Rect.unit (s := S64x192) ![0, 0] S64x192.size inb_S64x192_S64x192_0_0
abbrev r0_1 : Rect S192x256 := Rect.unit (s := S192x256) ![0, 0] S192x256.size inb_S192x256_S192x256_0_0
abbrev r0_2 : Rect S1x256 := Rect.unit (s := S1x256) ![0, 0] S1x256.size inb_S1x256_S1x256_0_0
abbrev r0_3 : Rect S64x256 := Rect.unit (s := S64x256) ![0, 0] S64x256.size inb_S64x256_S64x256_0_0
abbrev r0_4 : Rect S256x64 := Rect.unit (s := S256x64) ![0, 0] S256x64.size inb_S256x64_S256x64_0_0
abbrev r0_5 : Rect S1x64 := Rect.unit (s := S1x64) ![0, 0] S1x64.size inb_S1x64_S1x64_0_0
abbrev r0_6 : Rect S64x64 := Rect.unit (s := S64x64) ![0, 0] S64x64.size inb_S64x64_S64x64_0_0
abbrev r0_7 : Rect S64x8x64 := Rect.unit (s := S64x8x64) ![0, 0, 0] S64x8x64.size inb_S64x8x64_S64x8x64_0_0_0
abbrev r0_8 : Rect S256x128 := Rect.unit (s := S256x128) ![0, 0] S256x128.size inb_S256x128_S256x128_0_0
abbrev r0_9 : Rect S1x128 := Rect.unit (s := S1x128) ![0, 0] S1x128.size inb_S1x128_S1x128_0_0
abbrev r0_10 : Rect S64x128 := Rect.unit (s := S64x128) ![0, 0] S64x128.size inb_S64x128_S64x128_0_0

/-! ## What the body leaves in each output window's buffer -/

/-! ### Values of the body that several stores share -/

def k0_pay28 (x0 : Vec F S64x192 .f32) (x1 : Vec F S192x256 .f32) (x2 : Vec F S1x256 .f32) (x3 : Vec F S256x64 .f32) (x4 : Vec F S1x64 .f32) (x5 : Vec F S256x64 .f32) (x6 : Vec F S1x64 .f32) (x7 : Vec F S256x64 .f32) (x8 : Vec F S1x64 .f32) (x9 : Vec F S256x64 .f32) (x10 : Vec F S1x64 .f32) (x11 : Vec F S256x128 .f32) (x12 : Vec F S1x128 .f32) (x13 : Vec F S256x128 .f32) (x14 : Vec F S1x128 .f32) : FVec F S64x64 .f32 :=
  constant S64x64 .f32 0x00000000#32 -- `cst_25`
def k0_pay29 (x0 : Vec F S64x192 .f32) (x1 : Vec F S192x256 .f32) (x2 : Vec F S1x256 .f32) (x3 : Vec F S256x64 .f32) (x4 : Vec F S1x64 .f32) (x5 : Vec F S256x64 .f32) (x6 : Vec F S1x64 .f32) (x7 : Vec F S256x64 .f32) (x8 : Vec F S1x64 .f32) (x9 : Vec F S256x64 .f32) (x10 : Vec F S1x64 .f32) (x11 : Vec F S256x128 .f32) (x12 : Vec F S1x128 .f32) (x13 : Vec F S256x128 .f32) (x14 : Vec F S1x128 .f32) : FVec F S64x256 .f32 :=
  k0_pay2 (View.ld x0 r0_0) (View.ld x1 r0_1) (View.ld x2 r0_2) -- `v9`
def k0_pay30 (x0 : Vec F S64x192 .f32) (x1 : Vec F S192x256 .f32) (x2 : Vec F S1x256 .f32) (x3 : Vec F S256x64 .f32) (x4 : Vec F S1x64 .f32) (x5 : Vec F S256x64 .f32) (x6 : Vec F S1x64 .f32) (x7 : Vec F S256x64 .f32) (x8 : Vec F S1x64 .f32) (x9 : Vec F S256x64 .f32) (x10 : Vec F S1x64 .f32) (x11 : Vec F S256x128 .f32) (x12 : Vec F S1x128 .f32) (x13 : Vec F S256x128 .f32) (x14 : Vec F S1x128 .f32) : FVec F S64x64 .f32 :=
  k0_pay3 (View.ld x0 r0_0) (View.ld x1 r0_1) (View.ld x2 r0_2) (View.ld x3 r0_4) (View.ld x4 r0_5) -- `v16`
def k0_pay31 (x0 : Vec F S64x192 .f32) (x1 : Vec F S192x256 .f32) (x2 : Vec F S1x256 .f32) (x3 : Vec F S256x64 .f32) (x4 : Vec F S1x64 .f32) (x5 : Vec F S256x64 .f32) (x6 : Vec F S1x64 .f32) (x7 : Vec F S256x64 .f32) (x8 : Vec F S1x64 .f32) (x9 : Vec F S256x64 .f32) (x10 : Vec F S1x64 .f32) (x11 : Vec F S256x128 .f32) (x12 : Vec F S1x128 .f32) (x13 : Vec F S256x128 .f32) (x14 : Vec F S1x128 .f32) : FVec F S64x64 .f32 :=
  k0_pay4 (View.ld x0 r0_0) (View.ld x1 r0_1) (View.ld x2 r0_2) (View.ld x5 r0_4) (View.ld x6 r0_5) -- `v22`
def k0_pay32 (x0 : Vec F S64x192 .f32) (x1 : Vec F S192x256 .f32) (x2 : Vec F S1x256 .f32) (x3 : Vec F S256x64 .f32) (x4 : Vec F S1x64 .f32) (x5 : Vec F S256x64 .f32) (x6 : Vec F S1x64 .f32) (x7 : Vec F S256x64 .f32) (x8 : Vec F S1x64 .f32) (x9 : Vec F S256x64 .f32) (x10 : Vec F S1x64 .f32) (x11 : Vec F S256x128 .f32) (x12 : Vec F S1x128 .f32) (x13 : Vec F S256x128 .f32) (x14 : Vec F S1x128 .f32) : FVec F S64x64 .f32 :=
  k0_pay5 (View.ld x0 r0_0) (View.ld x1 r0_1) (View.ld x2 r0_2) (View.ld x7 r0_4) (View.ld x8 r0_5) -- `v29`

/-- Window 15's staging buffer after the body: its one store. -/
def out0_15 (x0 : Vec F S64x192 .f32) (x1 : Vec F S192x256 .f32) (x2 : Vec F S1x256 .f32) (x3 : Vec F S256x64 .f32) (x4 : Vec F S1x64 .f32) (x5 : Vec F S256x64 .f32) (x6 : Vec F S1x64 .f32) (x7 : Vec F S256x64 .f32) (x8 : Vec F S1x64 .f32) (x9 : Vec F S256x64 .f32) (x10 : Vec F S1x64 .f32) (x11 : Vec F S256x128 .f32) (x12 : Vec F S1x128 .f32) (x13 : Vec F S256x128 .f32) (x14 : Vec F S1x128 .f32) : Vec F S64x256 .f32 :=
  View.canon [⟨r0_3, k0_pay2 (View.ld x0 r0_0) (View.ld x1 r0_1) (View.ld x2 r0_2)⟩]

theorem cover0_15 (p0 : Vec F S64x256 .f32) (y : S64x256.Idx) :
    ∃ pc ∈ ([⟨r0_3, p0⟩] : List (View.Piece (Elt F) S64x256 .f32)), y ∈ pc.1.set :=
  View.cover_of_tiled [⟨r0_3, p0⟩] S64x256.size (by rfl) y

/-- Window 16's staging buffer after the body: its one store. -/
def out0_16 (x0 : Vec F S64x192 .f32) (x1 : Vec F S192x256 .f32) (x2 : Vec F S1x256 .f32) (x3 : Vec F S256x64 .f32) (x4 : Vec F S1x64 .f32) (x5 : Vec F S256x64 .f32) (x6 : Vec F S1x64 .f32) (x7 : Vec F S256x64 .f32) (x8 : Vec F S1x64 .f32) (x9 : Vec F S256x64 .f32) (x10 : Vec F S1x64 .f32) (x11 : Vec F S256x128 .f32) (x12 : Vec F S1x128 .f32) (x13 : Vec F S256x128 .f32) (x14 : Vec F S1x128 .f32) : Vec F S64x64 .f32 :=
  View.canon [⟨r0_6, k0_pay32 x0 x1 x2 x3 x4 x5 x6 x7 x8 x9 x10 x11 x12 x13 x14⟩]

theorem cover0_16 (p0 : Vec F S64x64 .f32) (y : S64x64.Idx) :
    ∃ pc ∈ ([⟨r0_6, p0⟩] : List (View.Piece (Elt F) S64x64 .f32)), y ∈ pc.1.set :=
  View.cover_of_tiled [⟨r0_6, p0⟩] S64x64.size (by rfl) y

/-- Window 17's staging buffer after the body: its one store. -/
def out0_17 (x0 : Vec F S64x192 .f32) (x1 : Vec F S192x256 .f32) (x2 : Vec F S1x256 .f32) (x3 : Vec F S256x64 .f32) (x4 : Vec F S1x64 .f32) (x5 : Vec F S256x64 .f32) (x6 : Vec F S1x64 .f32) (x7 : Vec F S256x64 .f32) (x8 : Vec F S1x64 .f32) (x9 : Vec F S256x64 .f32) (x10 : Vec F S1x64 .f32) (x11 : Vec F S256x128 .f32) (x12 : Vec F S1x128 .f32) (x13 : Vec F S256x128 .f32) (x14 : Vec F S1x128 .f32) : Vec F S64x64 .f32 :=
  View.canon [⟨r0_6, k0_pay6 (k0_pay29 x0 x1 x2 x3 x4 x5 x6 x7 x8 x9 x10 x11 x12 x13 x14) (View.ld x9 r0_4) (k0_pay28 x0 x1 x2 x3 x4 x5 x6 x7 x8 x9 x10 x11 x12 x13 x14) (View.ld x10 r0_5)⟩]

theorem cover0_17 (p0 : Vec F S64x64 .f32) (y : S64x64.Idx) :
    ∃ pc ∈ ([⟨r0_6, p0⟩] : List (View.Piece (Elt F) S64x64 .f32)), y ∈ pc.1.set :=
  View.cover_of_tiled [⟨r0_6, p0⟩] S64x64.size (by rfl) y

/-- Window 18's staging buffer after the body: its one store. -/
def out0_18 (x0 : Vec F S64x192 .f32) (x1 : Vec F S192x256 .f32) (x2 : Vec F S1x256 .f32) (x3 : Vec F S256x64 .f32) (x4 : Vec F S1x64 .f32) (x5 : Vec F S256x64 .f32) (x6 : Vec F S1x64 .f32) (x7 : Vec F S256x64 .f32) (x8 : Vec F S1x64 .f32) (x9 : Vec F S256x64 .f32) (x10 : Vec F S1x64 .f32) (x11 : Vec F S256x128 .f32) (x12 : Vec F S1x128 .f32) (x13 : Vec F S256x128 .f32) (x14 : Vec F S1x128 .f32) : Vec F S64x8x64 .bf16 :=
  View.canon [⟨r0_7, k0_pay7 (k0_pay29 x0 x1 x2 x3 x4 x5 x6 x7 x8 x9 x10 x11 x12 x13 x14) (k0_pay30 x0 x1 x2 x3 x4 x5 x6 x7 x8 x9 x10 x11 x12 x13 x14) (k0_pay31 x0 x1 x2 x3 x4 x5 x6 x7 x8 x9 x10 x11 x12 x13 x14) (k0_pay32 x0 x1 x2 x3 x4 x5 x6 x7 x8 x9 x10 x11 x12 x13 x14) (View.ld x9 r0_4) (k0_pay28 x0 x1 x2 x3 x4 x5 x6 x7 x8 x9 x10 x11 x12 x13 x14) (View.ld x10 r0_5)⟩]

theorem cover0_18 (p0 : Vec F S64x8x64 .bf16) (y : S64x8x64.Idx) :
    ∃ pc ∈ ([⟨r0_7, p0⟩] : List (View.Piece (Elt F) S64x8x64 .bf16)), y ∈ pc.1.set :=
  View.cover_of_tiled [⟨r0_7, p0⟩] S64x8x64.size (by rfl) y

/-- Window 19's staging buffer after the body: its one store. -/
def out0_19 (x0 : Vec F S64x192 .f32) (x1 : Vec F S192x256 .f32) (x2 : Vec F S1x256 .f32) (x3 : Vec F S256x64 .f32) (x4 : Vec F S1x64 .f32) (x5 : Vec F S256x64 .f32) (x6 : Vec F S1x64 .f32) (x7 : Vec F S256x64 .f32) (x8 : Vec F S1x64 .f32) (x9 : Vec F S256x64 .f32) (x10 : Vec F S1x64 .f32) (x11 : Vec F S256x128 .f32) (x12 : Vec F S1x128 .f32) (x13 : Vec F S256x128 .f32) (x14 : Vec F S1x128 .f32) : Vec F S64x8x64 .bf16 :=
  View.canon [⟨r0_7, k0_pay8 (k0_pay32 x0 x1 x2 x3 x4 x5 x6 x7 x8 x9 x10 x11 x12 x13 x14)⟩]

theorem cover0_19 (p0 : Vec F S64x8x64 .bf16) (y : S64x8x64.Idx) :
    ∃ pc ∈ ([⟨r0_7, p0⟩] : List (View.Piece (Elt F) S64x8x64 .bf16)), y ∈ pc.1.set :=
  View.cover_of_tiled [⟨r0_7, p0⟩] S64x8x64.size (by rfl) y

/-- Window 20's staging buffer after the body: its one store. -/
def out0_20 (x0 : Vec F S64x192 .f32) (x1 : Vec F S192x256 .f32) (x2 : Vec F S1x256 .f32) (x3 : Vec F S256x64 .f32) (x4 : Vec F S1x64 .f32) (x5 : Vec F S256x64 .f32) (x6 : Vec F S1x64 .f32) (x7 : Vec F S256x64 .f32) (x8 : Vec F S1x64 .f32) (x9 : Vec F S256x64 .f32) (x10 : Vec F S1x64 .f32) (x11 : Vec F S256x128 .f32) (x12 : Vec F S1x128 .f32) (x13 : Vec F S256x128 .f32) (x14 : Vec F S1x128 .f32) : Vec F S64x128 .f32 :=
  View.canon [⟨r0_10, k0_pay19 (k0_pay9 (k0_pay30 x0 x1 x2 x3 x4 x5 x6 x7 x8 x9 x10 x11 x12 x13 x14)) (k0_pay11 (k0_pay29 x0 x1 x2 x3 x4 x5 x6 x7 x8 x9 x10 x11 x12 x13 x14) (k0_pay30 x0 x1 x2 x3 x4 x5 x6 x7 x8 x9 x10 x11 x12 x13 x14) (View.ld x9 r0_4) (k0_pay28 x0 x1 x2 x3 x4 x5 x6 x7 x8 x9 x10 x11 x12 x13 x14) (View.ld x10 r0_5)) (k0_pay13 (k0_pay12 (k0_pay29 x0 x1 x2 x3 x4 x5 x6 x7 x8 x9 x10 x11 x12 x13 x14) (View.ld x9 r0_4) (k0_pay28 x0 x1 x2 x3 x4 x5 x6 x7 x8 x9 x10 x11 x12 x13 x14) (View.ld x10 r0_5))) (k0_pay15 (k0_pay29 x0 x1 x2 x3 x4 x5 x6 x7 x8 x9 x10 x11 x12 x13 x14) (View.ld x11 r0_8) (View.ld x12 r0_9)) (k0_pay16 (k0_pay29 x0 x1 x2 x3 x4 x5 x6 x7 x8 x9 x10 x11 x12 x13 x14) (View.ld x11 r0_8) (View.ld x12 r0_9)) (k0_pay17 (k0_pay29 x0 x1 x2 x3 x4 x5 x6 x7 x8 x9 x10 x11 x12 x13 x14) (View.ld x11 r0_8) (View.ld x12 r0_9)) (k0_pay18 (k0_pay29 x0 x1 x2 x3 x4 x5 x6 x7 x8 x9 x10 x11 x12 x13 x14) (View.ld x11 r0_8) (View.ld x12 r0_9))⟩]

theorem cover0_20 (p0 : Vec F S64x128 .f32) (y : S64x128.Idx) :
    ∃ pc ∈ ([⟨r0_10, p0⟩] : List (View.Piece (Elt F) S64x128 .f32)), y ∈ pc.1.set :=
  View.cover_of_tiled [⟨r0_10, p0⟩] S64x128.size (by rfl) y

/-- Window 21's staging buffer after the body: its one store. -/
def out0_21 (x0 : Vec F S64x192 .f32) (x1 : Vec F S192x256 .f32) (x2 : Vec F S1x256 .f32) (x3 : Vec F S256x64 .f32) (x4 : Vec F S1x64 .f32) (x5 : Vec F S256x64 .f32) (x6 : Vec F S1x64 .f32) (x7 : Vec F S256x64 .f32) (x8 : Vec F S1x64 .f32) (x9 : Vec F S256x64 .f32) (x10 : Vec F S1x64 .f32) (x11 : Vec F S256x128 .f32) (x12 : Vec F S1x128 .f32) (x13 : Vec F S256x128 .f32) (x14 : Vec F S1x128 .f32) : Vec F S64x128 .f32 :=
  View.canon [⟨r0_10, k0_pay1 (k0_pay10 (k0_pay31 x0 x1 x2 x3 x4 x5 x6 x7 x8 x9 x10 x11 x12 x13 x14)) (k0_pay20 (k0_pay29 x0 x1 x2 x3 x4 x5 x6 x7 x8 x9 x10 x11 x12 x13 x14) (View.ld x13 r0_8) (View.ld x14 r0_9)) (k0_pay21 (k0_pay29 x0 x1 x2 x3 x4 x5 x6 x7 x8 x9 x10 x11 x12 x13 x14) (View.ld x13 r0_8) (View.ld x14 r0_9)) (k0_pay22 (k0_pay29 x0 x1 x2 x3 x4 x5 x6 x7 x8 x9 x10 x11 x12 x13 x14) (View.ld x13 r0_8) (View.ld x14 r0_9)) (k0_pay25 (k0_pay29 x0 x1 x2 x3 x4 x5 x6 x7 x8 x9 x10 x11 x12 x13 x14) (View.ld x13 r0_8) (View.ld x14 r0_9)) (k0_pay26 (k0_pay29 x0 x1 x2 x3 x4 x5 x6 x7 x8 x9 x10 x11 x12 x13 x14) (View.ld x13 r0_8) (View.ld x14 r0_9)) (k0_pay27 (k0_pay29 x0 x1 x2 x3 x4 x5 x6 x7 x8 x9 x10 x11 x12 x13 x14) (View.ld x13 r0_8) (View.ld x14 r0_9))⟩]

theorem cover0_21 (p0 : Vec F S64x128 .f32) (y : S64x128.Idx) :
    ∃ pc ∈ ([⟨r0_10, p0⟩] : List (View.Piece (Elt F) S64x128 .f32)), y ∈ pc.1.set :=
  View.cover_of_tiled [⟨r0_10, p0⟩] S64x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (arg0 : Memref sig .tc .vmem S64x192 .f32) (harg0 : arg0.IsWhole) (arg1 : Memref sig .tc .vmem S192x256 .f32) (harg1 : arg1.IsWhole) (arg2 : Memref sig .tc .vmem S1x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S256x64 .f32) (harg7 : arg7.IsWhole) (arg8 : Memref sig .tc .vmem S1x64 .f32) (harg8 : arg8.IsWhole) (arg9 : Memref sig .tc .vmem S256x64 .f32) (harg9 : arg9.IsWhole) (arg10 : Memref sig .tc .vmem S1x64 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x128 .f32) (harg13 : arg13.IsWhole) (arg14 : Memref sig .tc .vmem S1x128 .f32) (harg14 : arg14.IsWhole) (arg15 : Memref sig .tc .vmem S64x256 .f32) (harg15 : arg15.IsWhole) (arg16 : Memref sig .tc .vmem S64x64 .f32) (harg16 : arg16.IsWhole) (arg17 : Memref sig .tc .vmem S64x64 .f32) (harg17 : arg17.IsWhole) (arg18 : Memref sig .tc .vmem S64x8x64 .bf16) (harg18 : arg18.IsWhole) (arg19 : Memref sig .tc .vmem S64x8x64 .bf16) (harg19 : arg19.IsWhole) (arg20 : Memref sig .tc .vmem S64x128 .f32) (harg20 : arg20.IsWhole) (arg21 : Memref sig .tc .vmem S64x128 .f32) (harg21 : arg21.IsWhole)
    (x0 : Vec F S64x192 .f32) (x1 : Vec F S192x256 .f32) (x2 : Vec F S1x256 .f32) (x3 : Vec F S256x64 .f32) (x4 : Vec F S1x64 .f32) (x5 : Vec F S256x64 .f32) (x6 : Vec F S1x64 .f32) (x7 : Vec F S256x64 .f32) (x8 : Vec F S1x64 .f32) (x9 : Vec F S256x64 .f32) (x10 : Vec F S1x64 .f32) (x11 : Vec F S256x128 .f32) (x12 : Vec F S1x128 .f32) (x13 : Vec F S256x128 .f32) (x14 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (out0_15 x0 x1 x2 x3 x4 x5 x6 x7 x8 x9 x10 x11 x12 x13 x14) ∗ owns (c : Thread nD τ) arg16 fullShare (out0_16 x0 x1 x2 x3 x4 x5 x6 x7 x8 x9 x10 x11 x12 x13 x14) ∗ owns (c : Thread nD τ) arg17 fullShare (out0_17 x0 x1 x2 x3 x4 x5 x6 x7 x8 x9 x10 x11 x12 x13 x14) ∗ owns (c : Thread nD τ) arg18 fullShare (out0_18 x0 x1 x2 x3 x4 x5 x6 x7 x8 x9 x10 x11 x12 x13 x14) ∗ owns (c : Thread nD τ) arg19 fullShare (out0_19 x0 x1 x2 x3 x4 x5 x6 x7 x8 x9 x10 x11 x12 x13 x14) ∗ owns (c : Thread nD τ) arg20 fullShare (out0_20 x0 x1 x2 x3 x4 x5 x6 x7 x8 x9 x10 x11 x12 x13 x14) ∗ owns (c : Thread nD τ) arg21 fullShare (out0_21 x0 x1 x2 x3 x4 x5 x6 x7 x8 x9 x10 x11 x12 x13 x14)) -∗ K ⟨⟩))
      ⊢ wp frame (wpE (defs₀ (F := F)) Variants.none c none) E (cc0__prologue_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__prologue_kernel_eq_skeleton]; unfold cc0__prologue_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  iexists _; isplitr
  swap; · iexact H21
  ipureintro
  refine (View.read_writes_eq_canon _ _ _ (cover0_21 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨16, _⟩ => out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨17, _⟩ => out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨18, _⟩ => out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨19, _⟩ => out0_19 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨20, _⟩ => out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨21, _⟩ => out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨_ + 22, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_16 (c : Dev nD) (t : Fin cfg0.N) : (dat0 V c).after 16 t = out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_17 (c : Dev nD) (t : Fin cfg0.N) : (dat0 V c).after 17 t = out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_18 (c : Dev nD) (t : Fin cfg0.N) : (dat0 V c).after 18 t = out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_19 (c : Dev nD) (t : Fin cfg0.N) : (dat0 V c).after 19 t = out0_19 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_20 (c : Dev nD) (t : Fin cfg0.N) : (dat0 V c).after 20 t = out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_21 (c : Dev nD) (t : Fin cfg0.N) : (dat0 V c).after 21 t = out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel0 c Set.univ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Hand

end
-- ==== Proof.IRuns.lean ====
/- The second call (the addressing kernel, 8 × 4 points): its branch conditions in closed form, its windows' blocks
   at the entry contents `V`, and its staging and scratch memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The branch conditions -/

abbrev cond1_1 (i : grid1.Coords) : Prop := k1_cond1 i = 1#1
theorem hcond1_1 : ∀ t : Fin cfg1.N, cond1_1 (grid1.coords t) ↔ t.val % 4 ≤ 1 :=
  (by decide +kernel : ∀ t : Fin grid1.N, cond1_1 (grid1.coords t) ↔ t.val % 4 ≤ 1)
abbrev cond1_2 (i : grid1.Coords) : Prop := (Scalar.cmpi .ne (Scalar.extui (Scalar.cmpi .eq (BitVec.ofNat 32 (i 1).val) 1#32)) 0#32) = 1#1
theorem hcond1_2 : ∀ t : Fin cfg1.N, cond1_2 (grid1.coords t) ↔ t.val % 4 = 1 :=
  (by decide +kernel : ∀ t : Fin grid1.N, cond1_2 (grid1.coords t) ↔ t.val % 4 = 1)
abbrev cond1_3 (i : grid1.Coords) : Prop := k1_cond3 i = 1#1
theorem hcond1_3 : ∀ t : Fin cfg1.N, cond1_3 (grid1.coords t) ↔ 2 ≤ t.val % 4 :=
  (by decide +kernel : ∀ t : Fin grid1.N, cond1_3 (grid1.coords t) ↔ 2 ≤ t.val % 4)
abbrev cond1_4 (i : grid1.Coords) : Prop := k1_cond4 i = 1#1
theorem hcond1_4 : ∀ t : Fin cfg1.N, cond1_4 (grid1.coords t) ↔ t.val % 4 = 3 :=
  (by decide +kernel : ∀ t : Fin grid1.N, cond1_4 (grid1.coords t) ↔ t.val % 4 = 3)

/-- The output window is idle at every point of a group of four but the last. -/
theorem idle1_9 (t : Fin cfg1.N) (h : ¬ t.val % 4 = 3) : cfg1.idle 9 (grid1.coords t) = true := by
  have h' : ¬ k1_cond4 (grid1.coords t) = 1#1 := fun hc => h ((hcond1_4 t).1 hc)
  show (!(k1_cond4 (grid1.coords t) == 1#1)) = true
  simpa using h'
theorem live1_9 (t : Fin cfg1.N) (h : t.val % 4 = 3) : cfg1.idle 9 (grid1.coords t) = false := by
  have h' : k1_cond4 (grid1.coords t) = 1#1 := (hcond1_4 t).2 h
  show (!(k1_cond4 (grid1.coords t) == 1#1)) = false
  simpa using h'
/-- The output block is written back exactly at the last point of a group. -/
theorem flush1_9 : ∀ t : Fin cfg1.N, (cfg1.win 9).flush t = decide (t.val % 4 = 3) :=
  (by decide +kernel : ∀ t : Fin grid1.N, (cfg1.win 9).flush t = decide (t.val % 4 = 3))

/-! ## The staging and scratch memrefs -/

abbrev ms1_0 (t : Fin cfg1.N) : Memref sig .tc .vmem S8x64x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x8x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x8x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x8192 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x8192 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S8x64 .f32 := win1_9.stage (cfg1.slots t 9)
abbrev hs1_9 (t : Fin cfg1.N) : (ms1_9 t).IsWhole := hstage1_9 ((cfg1.slots t 9).cast nbuf1_9)
abbrev scM1_0 : Memref sig .tc .vmem S8x8x8192 .f32 := Memref.whole cc1_scratch0
abbrev scM1_1 : Memref sig .tc .vmem S8x8192 .f32 := Memref.whole cc1_scratch1
abbrev scM1_2 : Memref sig .tc .vmem S8x8192 .f32 := Memref.whole cc1_scratch2
abbrev scM1_3 : Memref sig .tc .vmem S8x1 .f32 := Memref.whole cc1_scratch3
abbrev scM1_4 : Memref sig .tc .vmem S8x64x128 .f32 := Memref.whole cc1_scratch4
abbrev scM1_5 : Memref sig .tc .vmem S8x64x128 .f32 := Memref.whole cc1_scratch5

/-- The remainder of the scoped buffers, unopened. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2, cc1_scratch3, cc1_scratch4, cc1_scratch5]

/-- The scoped buffers and the generator's register, with the scratch operands as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d)) ∗ restBut1 c) ∗ (∃ r, prngReg c r)) := by
  unfold Pipeline.ΦA; rw [scopedRest1_split]; simp only [scM1_0, scM1_1, scM1_2, scM1_3, scM1_4, scM1_5, owns_whole]; try rfl

end Cert.KernelIdeal.Hand

end
-- ==== Proof.IRunC.lean ====
/- The body of the second call run through its stores: the read phase alone (third point). -/
module

public import proofs.«01_k».proof.Proof.IRuns

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- What the stores of the read phase alone (third point) leave, as pieces (last first), with the run that finds them: on whole memrefs the
    inputs stay as they were and each buffer stored into ends with its pieces written. -/
noncomputable def kernelRun1_C (c : Dev nD) (i : grid1.Coords) (arg2 : Memref sig .tc .vmem S8x64x4096 .f32) (harg2 : arg2.IsWhole) (arg3 : Memref sig .tc .vmem S8x8x64 .bf16) (harg3 : arg3.IsWhole) (arg4 : Memref sig .tc .vmem S8x8x64 .bf16) (harg4 : arg4.IsWhole) (arg5 : Memref sig .tc .vmem S8x128 .f32) (harg5 : arg5.IsWhole) (arg6 : Memref sig .tc .vmem S8x8192 .f32) (harg6 : arg6.IsWhole) (arg7 : Memref sig .tc .vmem S8x128 .f32) (harg7 : arg7.IsWhole) (arg8 : Memref sig .tc .vmem S8x8192 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (arg12 : Memref sig .tc .vmem S8x8x8192 .f32) (harg12 : arg12.IsWhole) (arg13 : Memref sig .tc .vmem S8x8192 .f32) (harg13 : arg13.IsWhole) (arg14 : Memref sig .tc .vmem S8x8192 .f32) (harg14 : arg14.IsWhole) (arg15 : Memref sig .tc .vmem S8x1 .f32) (harg15 : arg15.IsWhole) (arg16 : Memref sig .tc .vmem S8x64x128 .f32) (harg16 : arg16.IsWhole) (arg17 : Memref sig .tc .vmem S8x64x128 .f32) (harg17 : arg17.IsWhole)
    (hc1 : ¬cond1_1 i) (hc2 : ¬cond1_2 i) (hc3 : cond1_3 i) (hc4 : ¬cond1_4 i)
    (x0 : Vec F S8x64x4096 .f32) (x1 : Vec F S8x8x64 .bf16) (x2 : Vec F S8x8x64 .bf16) (x3 : Vec F S8x128 .f32) (x4 : Vec F S8x8192 .f32) (x5 : Vec F S8x128 .f32) (x6 : Vec F S8x8192 .f32) (x7 : Vec F S8x64 .f32) (x8 : Vec F S8x64 .f32) (xs13 : Vec F S8x8192 .f32) (xs14 : Vec F S8x8192 .f32) (xs15 : Vec F S8x1 .f32) (xs16 : Vec F S8x64x128 .f32) (xs17 : Vec F S8x64x128 .f32) :
    Σ' (L16 : List (View.Piece (Elt F) S8x64x128 .f32)), { L17 : List (View.Piece (Elt F) S8x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare xs13 ∗ owns (c : Thread nD τ) arg14 fullShare xs14 ∗ owns (c : Thread nD τ) arg15 fullShare xs15 ∗ owns (c : Thread nD τ) arg16 fullShare xs16 ∗ owns (c : Thread nD τ) arg17 fullShare xs17
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare xs13 ∗ owns (c : Thread nD τ) arg14 fullShare xs14 ∗ owns (c : Thread nD τ) arg15 fullShare xs15 ∗ (arg16.view.loc (c : Thread nD τ) ↦[arg16.view.set]{fullShare} arg16.view.writes (Elt F) (harg16.unread xs16) L16) ∗ (arg17.view.loc (c : Thread nD τ) ↦[arg17.view.set]{fullShare} arg17.view.writes (Elt F) (harg17.unread xs17) L17)) -∗ K ⟨⟩))
        ⊢ wp frame (wpE (defs₀ (F := F)) Variants.none c none) E (cc1__mega_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc1__mega_kernel_eq_skeleton]; unfold cc1__mega_kernel_skel
    simp only [k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg13.eq_unread hf13
    obtain rfl := harg14.eq_unread hf14
    obtain rfl := harg15.eq_unread hf15
    obtain rfl := harg16.eq_unread hf16
    obtain rfl := harg17.eq_unread hf17
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexists _, _; isplitr; swap; · iexact H12
      ipureintro; rfl
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexact H16
    iexact H17

end Cert.KernelIdeal.Hand

end
-- ==== Proof.IRunD.lean ====
/- The body of the second call run through its stores: the read phase, then the output (last point). -/
module

public import proofs.«01_k».proof.Proof.IRunC

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- What the stores of the read phase, then the output (last point) leave, as pieces (last first), with the run that finds them: on whole memrefs the
    inputs stay as they were and each buffer stored into ends with its pieces written. -/
noncomputable def kernelRun1_D (c : Dev nD) (i : grid1.Coords) (arg2 : Memref sig .tc .vmem S8x64x4096 .f32) (harg2 : arg2.IsWhole) (arg3 : Memref sig .tc .vmem S8x8x64 .bf16) (harg3 : arg3.IsWhole) (arg4 : Memref sig .tc .vmem S8x8x64 .bf16) (harg4 : arg4.IsWhole) (arg5 : Memref sig .tc .vmem S8x128 .f32) (harg5 : arg5.IsWhole) (arg6 : Memref sig .tc .vmem S8x8192 .f32) (harg6 : arg6.IsWhole) (arg7 : Memref sig .tc .vmem S8x128 .f32) (harg7 : arg7.IsWhole) (arg8 : Memref sig .tc .vmem S8x8192 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (arg12 : Memref sig .tc .vmem S8x8x8192 .f32) (harg12 : arg12.IsWhole) (arg13 : Memref sig .tc .vmem S8x8192 .f32) (harg13 : arg13.IsWhole) (arg14 : Memref sig .tc .vmem S8x8192 .f32) (harg14 : arg14.IsWhole) (arg15 : Memref sig .tc .vmem S8x1 .f32) (harg15 : arg15.IsWhole) (arg16 : Memref sig .tc .vmem S8x64x128 .f32) (harg16 : arg16.IsWhole) (arg17 : Memref sig .tc .vmem S8x64x128 .f32) (harg17 : arg17.IsWhole)
    (hc1 : ¬cond1_1 i) (hc2 : ¬cond1_2 i) (hc3 : cond1_3 i) (hc4 : cond1_4 i)
    (x0 : Vec F S8x64x4096 .f32) (x1 : Vec F S8x8x64 .bf16) (x2 : Vec F S8x8x64 .bf16) (x3 : Vec F S8x128 .f32) (x4 : Vec F S8x8192 .f32) (x5 : Vec F S8x128 .f32) (x6 : Vec F S8x8192 .f32) (x7 : Vec F S8x64 .f32) (x8 : Vec F S8x64 .f32) (xs13 : Vec F S8x8192 .f32) (xs14 : Vec F S8x8192 .f32) (xs15 : Vec F S8x1 .f32) (xs16 : Vec F S8x64x128 .f32) (xs17 : Vec F S8x64x128 .f32) :
    Σ' (L11 : List (View.Piece (Elt F) S8x64 .f32)), Σ' (L16 : List (View.Piece (Elt F) S8x64x128 .f32)), { L17 : List (View.Piece (Elt F) S8x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare xs13 ∗ owns (c : Thread nD τ) arg14 fullShare xs14 ∗ owns (c : Thread nD τ) arg15 fullShare xs15 ∗ owns (c : Thread nD τ) arg16 fullShare xs16 ∗ owns (c : Thread nD τ) arg17 fullShare xs17
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L11) ∗ (∃ d, owns (c : Thread nD τ) arg12 fullShare d) ∗ owns (c : Thread nD τ) arg13 fullShare xs13 ∗ owns (c : Thread nD τ) arg14 fullShare xs14 ∗ owns (c : Thread nD τ) arg15 fullShare xs15 ∗ (arg16.view.loc (c : Thread nD τ) ↦[arg16.view.set]{fullShare} arg16.view.writes (Elt F) (harg16.unread xs16) L16) ∗ (arg17.view.loc (c : Thread nD τ) ↦[arg17.view.set]{fullShare} arg17.view.writes (Elt F) (harg17.unread xs17) L17)) -∗ K ⟨⟩))
        ⊢ wp frame (wpE (defs₀ (F := F)) Variants.none c none) E (cc1__mega_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc1__mega_kernel_eq_skeleton]; unfold cc1__mega_kernel_skel
    simp only [k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg13.eq_unread hf13
    obtain rfl := harg14.eq_unread hf14
    obtain rfl := harg15.eq_unread hf15
    obtain rfl := harg16.eq_unread hf16
    obtain rfl := harg17.eq_unread hf17
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _, _; isplitr; swap; · iexact H12
      ipureintro; rfl
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexact H16
    iexact H17

end Cert.KernelIdeal.Hand

end
-- ==== Proof.IRunA.lean ====
/- The body of the second call run through its stores: the family phase alone (first point of a group). -/
module

public import proofs.«01_k».proof.Proof.IRuns

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- What the stores of the family phase alone (first point of a group) leave, as pieces (last first), with the run that finds them: on whole memrefs the
    inputs stay as they were and each buffer stored into ends with its pieces written. -/
noncomputable def kernelRun1_A (c : Dev nD) (i : grid1.Coords) (arg2 : Memref sig .tc .vmem S8x64x4096 .f32) (harg2 : arg2.IsWhole) (arg3 : Memref sig .tc .vmem S8x8x64 .bf16) (harg3 : arg3.IsWhole) (arg4 : Memref sig .tc .vmem S8x8x64 .bf16) (harg4 : arg4.IsWhole) (arg5 : Memref sig .tc .vmem S8x128 .f32) (harg5 : arg5.IsWhole) (arg6 : Memref sig .tc .vmem S8x8192 .f32) (harg6 : arg6.IsWhole) (arg7 : Memref sig .tc .vmem S8x128 .f32) (harg7 : arg7.IsWhole) (arg8 : Memref sig .tc .vmem S8x8192 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (arg12 : Memref sig .tc .vmem S8x8x8192 .f32) (harg12 : arg12.IsWhole) (arg13 : Memref sig .tc .vmem S8x8192 .f32) (harg13 : arg13.IsWhole) (arg14 : Memref sig .tc .vmem S8x8192 .f32) (harg14 : arg14.IsWhole) (arg15 : Memref sig .tc .vmem S8x1 .f32) (harg15 : arg15.IsWhole) (arg16 : Memref sig .tc .vmem S8x64x128 .f32) (harg16 : arg16.IsWhole) (arg17 : Memref sig .tc .vmem S8x64x128 .f32) (harg17 : arg17.IsWhole)
    (hc1 : cond1_1 i) (hc2 : ¬cond1_2 i) (hc3 : ¬cond1_3 i) (hc4 : ¬cond1_4 i)
    (x0 : Vec F S8x64x4096 .f32) (x1 : Vec F S8x8x64 .bf16) (x2 : Vec F S8x8x64 .bf16) (x3 : Vec F S8x128 .f32) (x4 : Vec F S8x8192 .f32) (x5 : Vec F S8x128 .f32) (x6 : Vec F S8x8192 .f32) (x7 : Vec F S8x64 .f32) (x8 : Vec F S8x64 .f32) (xs12 : Vec F S8x8x8192 .f32) :
    { L12 : List (View.Piece (Elt F) S8x8x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (arg12.view.loc (c : Thread nD τ) ↦[arg12.view.set]{fullShare} arg12.view.writes (Elt F) (harg12.unread xs12) L12) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
        ⊢ wp frame (wpE (defs₀ (F := F)) Variants.none c none) E (cc1__mega_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc1__mega_kernel_eq_skeleton]; unfold cc1__mega_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg12.eq_unread hf12
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

end Cert.KernelIdeal.Hand

end
-- ==== Proof.IRunB.lean ====
/- The body of the second call run through its stores: the family phase, then the two addressings (second point). -/
module

public import proofs.«01_k».proof.Proof.IRunA

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- What the stores of the family phase, then the two addressings (second point) leave, as pieces (last first), with the run that finds them: on whole memrefs the
    inputs stay as they were and each buffer stored into ends with its pieces written. -/
noncomputable def kernelRun1_B (c : Dev nD) (i : grid1.Coords) (arg2 : Memref sig .tc .vmem S8x64x4096 .f32) (harg2 : arg2.IsWhole) (arg3 : Memref sig .tc .vmem S8x8x64 .bf16) (harg3 : arg3.IsWhole) (arg4 : Memref sig .tc .vmem S8x8x64 .bf16) (harg4 : arg4.IsWhole) (arg5 : Memref sig .tc .vmem S8x128 .f32) (harg5 : arg5.IsWhole) (arg6 : Memref sig .tc .vmem S8x8192 .f32) (harg6 : arg6.IsWhole) (arg7 : Memref sig .tc .vmem S8x128 .f32) (harg7 : arg7.IsWhole) (arg8 : Memref sig .tc .vmem S8x8192 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (arg12 : Memref sig .tc .vmem S8x8x8192 .f32) (harg12 : arg12.IsWhole) (arg13 : Memref sig .tc .vmem S8x8192 .f32) (harg13 : arg13.IsWhole) (arg14 : Memref sig .tc .vmem S8x8192 .f32) (harg14 : arg14.IsWhole) (arg15 : Memref sig .tc .vmem S8x1 .f32) (harg15 : arg15.IsWhole) (arg16 : Memref sig .tc .vmem S8x64x128 .f32) (harg16 : arg16.IsWhole) (arg17 : Memref sig .tc .vmem S8x64x128 .f32) (harg17 : arg17.IsWhole)
    (hc1 : cond1_1 i) (hc2 : cond1_2 i) (hc3 : ¬cond1_3 i) (hc4 : ¬cond1_4 i)
    (x0 : Vec F S8x64x4096 .f32) (x1 : Vec F S8x8x64 .bf16) (x2 : Vec F S8x8x64 .bf16) (x3 : Vec F S8x128 .f32) (x4 : Vec F S8x8192 .f32) (x5 : Vec F S8x128 .f32) (x6 : Vec F S8x8192 .f32) (x7 : Vec F S8x64 .f32) (x8 : Vec F S8x64 .f32) (xs12 : Vec F S8x8x8192 .f32) :
    Σ' (L12 : List (View.Piece (Elt F) S8x8x8192 .f32)), Σ' (L13 : List (View.Piece (Elt F) S8x8192 .f32)), Σ' (L14 : List (View.Piece (Elt F) S8x8192 .f32)), Σ' (L15 : List (View.Piece (Elt F) S8x1 .f32)), Σ' (L16 : List (View.Piece (Elt F) S8x64x128 .f32)), { L17 : List (View.Piece (Elt F) S8x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (arg12.view.loc (c : Thread nD τ) ↦[arg12.view.set]{fullShare} arg12.view.writes (Elt F) (harg12.unread xs12) L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
        ⊢ wp frame (wpE (defs₀ (F := F)) Variants.none c none) E (cc1__mega_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc1__mega_kernel_eq_skeleton]; unfold cc1__mega_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg12.eq_unread hf12
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexact H12
    isplitl [H13]
    · iexists _; iexact H13
    isplitl [H14]
    · iexists _; iexact H14
    isplitl [H15]
    · iexists _; iexact H15
    isplitl [H16]
    · iexists _; iexact H16
    iexists _; iexact H17

end Cert.KernelIdeal.Hand

end
-- ==== Proof.IFam.lean ====
/- The family buffer of the addressing kernel: what the family phase of a point leaves in it, as one array. -/
module

public import proofs.«01_k».proof.Proof.IRuns
public import Idealize.ShloMosaic.Lib.Pointwise

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Where a point's half of the family buffer starts, as the kernel computes it. -/
def offW (i : grid1.Coords) : ℕ := k1_off1 i 2

theorem offW_eq : ∀ t : Fin cfg1.N, t.val % 4 ≤ 1 → offW (grid1.coords t) = 4096 * (t.val % 4) :=
  (by decide +kernel : ∀ t : Fin grid1.N, t.val % 4 ≤ 1 → offW (grid1.coords t) = 4096 * (t.val % 4))

theorem offW_le (i : grid1.Coords) (h : k1_cond1 i = 1#1) : offW i + 4096 ≤ 8192 := k1_off1_inb i h 2

/-- Batch `b`'s memory block in a half, and its rows of the two coefficient matrices. -/
def blk0 (x0 : Vec F S8x64x4096 .f32) (b : Fin 8) : Vec F S1x64x4096 .f32 :=
  View.ld (Val := Elt F) x0 (Rect.unit (s := S8x64x4096) ![b.val, 0, 0] S1x64x4096.size (by decide +revert))
def row0 (x1 : Vec F S8x8x64 .bf16) (b : Fin 8) : Vec F S1x8x64 .bf16 :=
  View.ld (Val := Elt F) x1 (Rect.unit (s := S8x8x64) ![b.val, 0, 0] S1x8x64.size (by decide +revert))

/-- Row `f` of the family block of batch `b`: five rows of the product with the block, three of the product with its square. -/
def famRow (x0 : Vec F S8x64x4096 .f32) (x1 x2 : Vec F S8x8x64 .bf16) (f b : Fin 8) : Vec F S1x1x4096 .f32 :=
  if f.val < 5 then
    shapeCast S1x1x4096 (extractStridedSlice S1x4096 ![f.val, 0] (k1_pay21 (blk0 x0 b) (row0 x1 b)) (by decide +revert)) shapeCasts_S1x4096_S1x1x4096
  else
    shapeCast S1x1x4096 (extractStridedSlice S1x4096 ![f.val - 5, 0] (k1_pay22 (blk0 x0 b) (row0 x2 b)) (by decide +revert)) shapeCasts_S1x4096_S1x1x4096

theorem fam_inb (i : grid1.Coords) (h : k1_cond1 i = 1#1) (f b : Fin 8) (a : Fin 3) :
    (![f.val, b.val, offW i] : Fin 3 → ℕ) a + S1x1x4096.size a ≤ S8x8x8192.size a := by
  have := offW_le i h
  have := f.isLt
  have := b.isLt
  fin_cases a
  · show f.val + 1 ≤ 8; omega
  · show b.val + 1 ≤ 8; omega
  · show offW i + 4096 ≤ 8192; omega

/-- The write of row `f`, batch `b`. -/
def famPiece (i : grid1.Coords) (h : k1_cond1 i = 1#1) (x0 : Vec F S8x64x4096 .f32) (x1 x2 : Vec F S8x8x64 .bf16) (b f : Fin 8) :
    View.Piece (Elt F) S8x8x8192 .f32 :=
  ⟨Rect.unit (s := S8x8x8192) ![f.val, b.val, offW i] S1x1x4096.size (fam_inb i h f b), famRow x0 x1 x2 f b⟩

/-- Every write of the family phase, the last first. -/
def famPieces (i : grid1.Coords) (h : k1_cond1 i = 1#1) (x0 : Vec F S8x64x4096 .f32) (x1 x2 : Vec F S8x8x64 .bf16) :
    List (View.Piece (Elt F) S8x8x8192 .f32) :=
  ([7, 6, 5, 4, 3, 2, 1, 0] : List (Fin 8)).flatMap fun b => ([7, 6, 5, 4, 3, 2, 1, 0] : List (Fin 8)).map fun f => famPiece i h x0 x1 x2 b f

/-- The family rows of a half of the memory, as one array. -/
def famG (x0 : Vec F S8x64x4096 .f32) (x1 x2 : Vec F S8x8x64 .bf16) (o : ℕ) : Vec F S8x8x8192 .f32 :=
  fun y => famRow x0 x1 x2 (y 0) (y 1) (ix3 0 0 ⟨((y 2).val - o) % 4096, Nat.mod_lt _ (by decide)⟩)

/-- Both halves. -/
def famFull (x0 : Vec F S8x64x4096 .f32) (x1 x2 : Vec F S8x8x64 .bf16) (x0' : Vec F S8x64x4096 .f32) (x1' x2' : Vec F S8x8x64 .bf16) :
    Vec F S8x8x8192 .f32 :=
  fun y => if (y 2).val < 4096 then famG x0 x1 x2 0 y else famG x0' x1' x2' 4096 y

theorem mem_famPieces {i : grid1.Coords} {h : k1_cond1 i = 1#1} {x0 : Vec F S8x64x4096 .f32} {x1 x2 : Vec F S8x8x64 .bf16}
    {p : View.Piece (Elt F) S8x8x8192 .f32} : p ∈ famPieces i h x0 x1 x2 ↔ ∃ b f : Fin 8, famPiece i h x0 x1 x2 b f = p := by
  have hall : ∀ b : Fin 8, b ∈ ([7, 6, 5, 4, 3, 2, 1, 0] : List (Fin 8)) := by decide
  unfold famPieces
  simp only [List.mem_flatMap, List.mem_map]
  exact ⟨fun ⟨b, _, f, _, e⟩ => ⟨b, f, e⟩, fun ⟨b, f, e⟩ => ⟨b, hall b, f, hall f, e⟩⟩

theorem famPiece_emb (i : grid1.Coords) (h : k1_cond1 i = 1#1) (x0 : Vec F S8x64x4096 .f32) (x1 x2 : Vec F S8x8x64 .bf16) (b f : Fin 8)
    (x : S1x1x4096.Idx) : (famPiece i h x0 x1 x2 b f).2 x = famG x0 x1 x2 (offW i) ((famPiece i h x0 x1 x2 b f).1.emb x) := by
  have e0 : ((famPiece i h x0 x1 x2 b f).1.emb x) 0 = f := by
    apply Fin.ext
    show f.val + 1 * (x 0).val = f.val
    have : (x 0).val < 1 := (x 0).isLt
    omega
  have e1 : ((famPiece i h x0 x1 x2 b f).1.emb x) 1 = b := by
    apply Fin.ext
    show b.val + 1 * (x 1).val = b.val
    have : (x 1).val < 1 := (x 1).isLt
    omega
  have e2 : (((famPiece i h x0 x1 x2 b f).1.emb x) 2).val = offW i + (x 2).val := by
    show offW i + 1 * (x 2).val = _
    omega
  unfold famG
  rw [e0, e1]
  have ex : x = ix3 0 0 ⟨((((famPiece i h x0 x1 x2 b f).1.emb x) 2).val - offW i) % 4096, Nat.mod_lt _ (by decide)⟩ := by
    funext a
    apply Fin.ext
    have h0 : (x 0).val < 1 := (x 0).isLt
    have h1 : (x 1).val < 1 := (x 1).isLt
    have h2 : (x 2).val < 4096 := (x 2).isLt
    match a with
    | 0 => show (x 0).val = 0; omega
    | 1 => show (x 1).val = 0; omega
    | 2 =>
      show (x 2).val = ((((famPiece i h x0 x1 x2 b f).1.emb x) 2).val - offW i) % 4096
      rw [e2]; omega
  conv_lhs => rw [ex]
  rfl

theorem famPieces_covers (i : grid1.Coords) (h : k1_cond1 i = 1#1) (x0 : Vec F S8x64x4096 .f32) (x1 x2 : Vec F S8x8x64 .bf16)
    (y : S8x8x8192.Idx) (h1 : offW i ≤ (y 2).val) (h2 : (y 2).val < offW i + 4096) : ∃ p ∈ famPieces i h x0 x1 x2, y ∈ p.1.set := by
  refine ⟨famPiece i h x0 x1 x2 (y 1) (y 0), mem_famPieces.2 ⟨_, _, rfl⟩, ?_⟩
  refine (famPiece i h x0 x1 x2 (y 1) (y 0)).1.mem_set.mpr fun a => ?_
  match a with
  | 0 => exact ⟨0, (by decide : 0 < 1), (Nat.add_zero _).symm⟩
  | 1 => exact ⟨0, (by decide : 0 < 1), (Nat.add_zero _).symm⟩
  | 2 => exact ⟨(y 2).val - offW i, (by show _ < 4096; omega), (by show (y 2).val = offW i + 1 * _; omega)⟩

theorem famPieces_misses (i : grid1.Coords) (h : k1_cond1 i = 1#1) (x0 : Vec F S8x64x4096 .f32) (x1 x2 : Vec F S8x8x64 .bf16)
    (y : S8x8x8192.Idx) (hy : (y 2).val < offW i) : ∀ p ∈ famPieces i h x0 x1 x2, y ∉ p.1.set := by
  intro p hp hy'
  obtain ⟨b, f, rfl⟩ := mem_famPieces.1 hp
  obtain ⟨j, -, e⟩ := (famPiece i h x0 x1 x2 b f).1.mem_set.mp hy' 2
  have e : (y 2).val = offW i + 1 * j := e
  omega

variable {κ : Kind} {sp : Space} (v : View sig κ sp S8x8x8192 .f32) (g : v.ty.Contents (Elt F))

/-- Inside its half the phase leaves the family rows; -/
theorem read_famPieces (i : grid1.Coords) (h : k1_cond1 i = 1#1) (x0 : Vec F S8x64x4096 .f32) (x1 x2 : Vec F S8x8x64 .bf16)
    (y : S8x8x8192.Idx) (h1 : offW i ≤ (y 2).val) (h2 : (y 2).val < offW i + 4096) :
    v.read (Elt F) (v.writes (Elt F) g (famPieces i h x0 x1 x2)) y = famG x0 x1 x2 (offW i) y := by
  refine View.read_writes_apply_of_pieces v g (famG x0 x1 x2 (offW i)) _ ?_ y (famPieces_covers i h x0 x1 x2 y h1 h2)
  intro p hp x
  obtain ⟨b, f, rfl⟩ := mem_famPieces.1 hp
  exact famPiece_emb i h x0 x1 x2 b f x

/-- before it, what was there. -/
theorem read_famPieces_before (i : grid1.Coords) (h : k1_cond1 i = 1#1) (x0 : Vec F S8x64x4096 .f32) (x1 x2 : Vec F S8x8x64 .bf16)
    (y : S8x8x8192.Idx) (hy : (y 2).val < offW i) :
    v.read (Elt F) (v.writes (Elt F) g (famPieces i h x0 x1 x2)) y = v.read (Elt F) g y :=
  View.read_writes_apply_of_forall_not_mem v g y _ (famPieces_misses i h x0 x1 x2 y hy)

/-- So the second point completes the buffer. -/
theorem read_famPieces_full (i : grid1.Coords) (h : k1_cond1 i = 1#1) (hi : offW i = 4096) (x0 x0' : Vec F S8x64x4096 .f32)
    (x1 x2 x1' x2' : Vec F S8x8x64 .bf16) (hg : ∀ y : S8x8x8192.Idx, (y 2).val < 4096 → v.read (Elt F) g y = famG x0 x1 x2 0 y) :
    v.read (Elt F) (v.writes (Elt F) g (famPieces i h x0' x1' x2')) = famFull x0 x1 x2 x0' x1' x2' := by
  funext y
  unfold famFull
  split
  · next hy => rw [read_famPieces_before v g i h x0' x1' x2' y (by omega)]; exact hg y hy
  · next hy => rw [read_famPieces v g i h x0' x1' x2' y (by omega) (by have : (y 2).val < 8192 := (y 2).isLt; omega), hi]

end Cert.KernelIdeal.Hand

end
-- ==== Proof.IAddr.lean ====
/- The two addressings of the second call: what the second point of a group leaves, as functions of the family buffer. -/
module

public import proofs.«01_k».proof.Proof.IRunB
public import proofs.«01_k».proof.Proof.IFam

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (Fam : Vec F S8x8x8192 .f32) (x3 : Vec F S8x128 .f32) (x4 : Vec F S8x8192 .f32) (x5 : Vec F S8x128 .f32) (x6 : Vec F S8x8192 .f32)

/-- Row `f` of the family, for every batch. -/
def famSlab (f : Fin 8) : Vec F S1x8x8192 .f32 :=
  View.ld (Val := Elt F) Fam (Rect.unit (s := S8x8x8192) ![f.val, 0, 0] S1x8x8192.size (by decide +revert))
/-- The parameters and the previous weights, read whole. -/
def par0 (x : Vec F S8x128 .f32) : Vec F S8x128 .f32 := View.ld (Val := Elt F) x (Rect.unit (s := S8x128) ![0, 0] S8x128.size inb_S8x128_S8x128_0_0)
def wts0 (x : Vec F S8x8192 .f32) : Vec F S8x8192 .f32 := View.ld (Val := Elt F) x (Rect.unit (s := S8x8192) ![0, 0] S8x8192.size inb_S8x8192_S8x8192_0_0)

/-- The write head's content weights before their normalisation, and the write weights in their two uses. -/
def wSim : FVec F S8x8192 .f32 := k1_pay113 (famSlab Fam 0) (famSlab Fam 5) (par0 x3)
def wwVal : FVec F S8x8192 .f32 :=
  k1_pay115 (wts0 x4) (k1_pay109 (par0 x3)) (k1_pay110 (par0 x3)) (k1_pay111 (par0 x3)) (k1_pay112 (par0 x3)) (wSim Fam x3) (k1_pay114 (par0 x3))
def ww2Val : FVec F S8x8192 .f32 :=
  k1_pay116 (wts0 x4) (k1_pay109 (par0 x3)) (k1_pay110 (par0 x3)) (k1_pay111 (par0 x3)) (k1_pay112 (par0 x3)) (wSim Fam x3) (k1_pay114 (par0 x3))
/-- The read head's dot products with the new memory, the beginning of its squared norms, and its content weights before their
    normalisation with their row maxima. -/
def dotsVal : FVec F S8x8192 .f32 :=
  k1_pay117 (k1_pay105 (par0 x5)) (wts0 x4) (k1_pay109 (par0 x3)) (k1_pay110 (par0 x3)) (k1_pay111 (par0 x3)) (k1_pay112 (par0 x3)) (wSim Fam x3) (k1_pay114 (par0 x3)) (famSlab Fam 1) (famSlab Fam 2)
def sqnVal : FVec F S8x8192 .f32 :=
  k1_pay118 (wts0 x4) (k1_pay109 (par0 x3)) (k1_pay110 (par0 x3)) (k1_pay111 (par0 x3)) (k1_pay112 (par0 x3)) (wSim Fam x3) (k1_pay114 (par0 x3)) (famSlab Fam 5) (famSlab Fam 6)
def rSim : FVec F S8x8192 .f32 :=
  k1_pay124 (k1_pay104 (par0 x5)) (k1_pay106 (par0 x5)) (wwVal Fam x3 x4) (ww2Val Fam x3 x4) (dotsVal Fam x3 x4 x5) (sqnVal Fam x3 x4) (famSlab Fam 7) (famSlab Fam 3) (famSlab Fam 4)
def rMax : FVec F S8 .f32 :=
  k1_pay125 (k1_pay104 (par0 x5)) (k1_pay106 (par0 x5)) (wwVal Fam x3 x4) (ww2Val Fam x3 x4) (dotsVal Fam x3 x4 x5) (sqnVal Fam x3 x4) (famSlab Fam 7) (famSlab Fam 3) (famSlab Fam 4)
/-- What the second point keeps: the read weights, their product with the write weights, and that product's sum. -/
def wrVal : Vec F S8x8192 .f32 :=
  k1_pay127 (wts0 x6) (k1_pay119 (k1_pay104 (par0 x5))) (k1_pay120 (k1_pay104 (par0 x5))) (k1_pay121 (k1_pay104 (par0 x5))) (k1_pay122 (k1_pay104 (par0 x5))) (k1_pay123 (k1_pay104 (par0 x5))) (rSim Fam x3 x4 x5) (rMax Fam x3 x4 x5)
def wrwwVal : Vec F S8x8192 .f32 :=
  k1_pay129 (wwVal Fam x3 x4) (wts0 x6) (k1_pay119 (k1_pay104 (par0 x5))) (k1_pay120 (k1_pay104 (par0 x5))) (k1_pay121 (k1_pay104 (par0 x5))) (k1_pay122 (k1_pay104 (par0 x5))) (k1_pay123 (k1_pay104 (par0 x5))) (rSim Fam x3 x4 x5) (rMax Fam x3 x4 x5)
def swrVal : Vec F S8x1 .f32 :=
  k1_pay130 (wwVal Fam x3 x4) (wts0 x6) (k1_pay119 (k1_pay104 (par0 x5))) (k1_pay120 (k1_pay104 (par0 x5))) (k1_pay121 (k1_pay104 (par0 x5))) (k1_pay122 (k1_pay104 (par0 x5))) (k1_pay123 (k1_pay104 (par0 x5))) (rSim Fam x3 x4 x5) (rMax Fam x3 x4 x5)
/-- The accumulators, cleared. -/
def acc0 : Vec F S8x64x128 .f32 := k1_pay5

end

theorem runA_pieces (c : Dev nD) (i : grid1.Coords) (arg2 : Memref sig .tc .vmem S8x64x4096 .f32) (harg2 : arg2.IsWhole) (arg3 : Memref sig .tc .vmem S8x8x64 .bf16) (harg3 : arg3.IsWhole) (arg4 : Memref sig .tc .vmem S8x8x64 .bf16) (harg4 : arg4.IsWhole) (arg5 : Memref sig .tc .vmem S8x128 .f32) (harg5 : arg5.IsWhole) (arg6 : Memref sig .tc .vmem S8x8192 .f32) (harg6 : arg6.IsWhole) (arg7 : Memref sig .tc .vmem S8x128 .f32) (harg7 : arg7.IsWhole) (arg8 : Memref sig .tc .vmem S8x8192 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (arg12 : Memref sig .tc .vmem S8x8x8192 .f32) (harg12 : arg12.IsWhole) (arg13 : Memref sig .tc .vmem S8x8192 .f32) (harg13 : arg13.IsWhole) (arg14 : Memref sig .tc .vmem S8x8192 .f32) (harg14 : arg14.IsWhole) (arg15 : Memref sig .tc .vmem S8x1 .f32) (harg15 : arg15.IsWhole) (arg16 : Memref sig .tc .vmem S8x64x128 .f32) (harg16 : arg16.IsWhole) (arg17 : Memref sig .tc .vmem S8x64x128 .f32) (harg17 : arg17.IsWhole) (hc1 : cond1_1 i) (hc2 : ¬cond1_2 i) (hc3 : ¬cond1_3 i) (hc4 : ¬cond1_4 i)
    (x0 : Vec F S8x64x4096 .f32) (x1 : Vec F S8x8x64 .bf16) (x2 : Vec F S8x8x64 .bf16) (x3 : Vec F S8x128 .f32) (x4 : Vec F S8x8192 .f32) (x5 : Vec F S8x128 .f32) (x6 : Vec F S8x8192 .f32) (x7 : Vec F S8x64 .f32) (x8 : Vec F S8x64 .f32) (xs12 : Vec F S8x8x8192 .f32) :
    (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 x8 xs12).1 = famPieces i hc1 x0 x1 x2 := by
  unfold kernelRun1_A; dsimp only
  conv_rhs => rw [← harg2.read_unread x0, ← harg3.read_unread x1, ← harg4.read_unread x2]
  rfl
theorem runB_fam (c : Dev nD) (i : grid1.Coords) (arg2 : Memref sig .tc .vmem S8x64x4096 .f32) (harg2 : arg2.IsWhole) (arg3 : Memref sig .tc .vmem S8x8x64 .bf16) (harg3 : arg3.IsWhole) (arg4 : Memref sig .tc .vmem S8x8x64 .bf16) (harg4 : arg4.IsWhole) (arg5 : Memref sig .tc .vmem S8x128 .f32) (harg5 : arg5.IsWhole) (arg6 : Memref sig .tc .vmem S8x8192 .f32) (harg6 : arg6.IsWhole) (arg7 : Memref sig .tc .vmem S8x128 .f32) (harg7 : arg7.IsWhole) (arg8 : Memref sig .tc .vmem S8x8192 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (arg12 : Memref sig .tc .vmem S8x8x8192 .f32) (harg12 : arg12.IsWhole) (arg13 : Memref sig .tc .vmem S8x8192 .f32) (harg13 : arg13.IsWhole) (arg14 : Memref sig .tc .vmem S8x8192 .f32) (harg14 : arg14.IsWhole) (arg15 : Memref sig .tc .vmem S8x1 .f32) (harg15 : arg15.IsWhole) (arg16 : Memref sig .tc .vmem S8x64x128 .f32) (harg16 : arg16.IsWhole) (arg17 : Memref sig .tc .vmem S8x64x128 .f32) (harg17 : arg17.IsWhole) (hc1 : cond1_1 i) (hc2 : cond1_2 i) (hc3 : ¬cond1_3 i) (hc4 : ¬cond1_4 i)
    (x0 : Vec F S8x64x4096 .f32) (x1 : Vec F S8x8x64 .bf16) (x2 : Vec F S8x8x64 .bf16) (x3 : Vec F S8x128 .f32) (x4 : Vec F S8x8192 .f32) (x5 : Vec F S8x128 .f32) (x6 : Vec F S8x8192 .f32) (x7 : Vec F S8x64 .f32) (x8 : Vec F S8x64 .f32) (xs12 : Vec F S8x8x8192 .f32) :
    (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 x8 xs12).1 = famPieces i hc1 x0 x1 x2 := by
  unfold kernelRun1_B; dsimp only
  conv_rhs => rw [← harg2.read_unread x0, ← harg3.read_unread x1, ← harg4.read_unread x2]
  rfl
theorem runB_wr (c : Dev nD) (i : grid1.Coords) (arg2 : Memref sig .tc .vmem S8x64x4096 .f32) (harg2 : arg2.IsWhole) (arg3 : Memref sig .tc .vmem S8x8x64 .bf16) (harg3 : arg3.IsWhole) (arg4 : Memref sig .tc .vmem S8x8x64 .bf16) (harg4 : arg4.IsWhole) (arg5 : Memref sig .tc .vmem S8x128 .f32) (harg5 : arg5.IsWhole) (arg6 : Memref sig .tc .vmem S8x8192 .f32) (harg6 : arg6.IsWhole) (arg7 : Memref sig .tc .vmem S8x128 .f32) (harg7 : arg7.IsWhole) (arg8 : Memref sig .tc .vmem S8x8192 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (arg12 : Memref sig .tc .vmem S8x8x8192 .f32) (harg12 : arg12.IsWhole) (arg13 : Memref sig .tc .vmem S8x8192 .f32) (harg13 : arg13.IsWhole) (arg14 : Memref sig .tc .vmem S8x8192 .f32) (harg14 : arg14.IsWhole) (arg15 : Memref sig .tc .vmem S8x1 .f32) (harg15 : arg15.IsWhole) (arg16 : Memref sig .tc .vmem S8x64x128 .f32) (harg16 : arg16.IsWhole) (arg17 : Memref sig .tc .vmem S8x64x128 .f32) (harg17 : arg17.IsWhole) (hc1 : cond1_1 i) (hc2 : cond1_2 i) (hc3 : ¬cond1_3 i) (hc4 : ¬cond1_4 i)
    (x0 : Vec F S8x64x4096 .f32) (x1 : Vec F S8x8x64 .bf16) (x2 : Vec F S8x8x64 .bf16) (x3 : Vec F S8x128 .f32) (x4 : Vec F S8x8192 .f32) (x5 : Vec F S8x128 .f32) (x6 : Vec F S8x8192 .f32) (x7 : Vec F S8x64 .f32) (x8 : Vec F S8x64 .f32) (xs12 : Vec F S8x8x8192 .f32) :
    (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 x8 xs12).2.1 = [⟨(Rect.unit (s := S8x8192) ![0, 0] S8x8192.size inb_S8x8192_S8x8192_0_0), wrVal (arg12.view.read (Elt F) (arg12.view.writes (Elt F) (harg12.unread xs12) (famPieces i hc1 x0 x1 x2))) x3 x4 x5 x6⟩] := by
  unfold kernelRun1_B; dsimp only
  conv_rhs => rw [← harg2.read_unread x0, ← harg3.read_unread x1, ← harg4.read_unread x2, ← harg5.read_unread x3, ← harg6.read_unread x4, ← harg7.read_unread x5, ← harg8.read_unread x6]
  rfl
theorem runB_wrww (c : Dev nD) (i : grid1.Coords) (arg2 : Memref sig .tc .vmem S8x64x4096 .f32) (harg2 : arg2.IsWhole) (arg3 : Memref sig .tc .vmem S8x8x64 .bf16) (harg3 : arg3.IsWhole) (arg4 : Memref sig .tc .vmem S8x8x64 .bf16) (harg4 : arg4.IsWhole) (arg5 : Memref sig .tc .vmem S8x128 .f32) (harg5 : arg5.IsWhole) (arg6 : Memref sig .tc .vmem S8x8192 .f32) (harg6 : arg6.IsWhole) (arg7 : Memref sig .tc .vmem S8x128 .f32) (harg7 : arg7.IsWhole) (arg8 : Memref sig .tc .vmem S8x8192 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (arg12 : Memref sig .tc .vmem S8x8x8192 .f32) (harg12 : arg12.IsWhole) (arg13 : Memref sig .tc .vmem S8x8192 .f32) (harg13 : arg13.IsWhole) (arg14 : Memref sig .tc .vmem S8x8192 .f32) (harg14 : arg14.IsWhole) (arg15 : Memref sig .tc .vmem S8x1 .f32) (harg15 : arg15.IsWhole) (arg16 : Memref sig .tc .vmem S8x64x128 .f32) (harg16 : arg16.IsWhole) (arg17 : Memref sig .tc .vmem S8x64x128 .f32) (harg17 : arg17.IsWhole) (hc1 : cond1_1 i) (hc2 : cond1_2 i) (hc3 : ¬cond1_3 i) (hc4 : ¬cond1_4 i)
    (x0 : Vec F S8x64x4096 .f32) (x1 : Vec F S8x8x64 .bf16) (x2 : Vec F S8x8x64 .bf16) (x3 : Vec F S8x128 .f32) (x4 : Vec F S8x8192 .f32) (x5 : Vec F S8x128 .f32) (x6 : Vec F S8x8192 .f32) (x7 : Vec F S8x64 .f32) (x8 : Vec F S8x64 .f32) (xs12 : Vec F S8x8x8192 .f32) :
    (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 x8 xs12).2.2.1 = [⟨(Rect.unit (s := S8x8192) ![0, 0] S8x8192.size inb_S8x8192_S8x8192_0_0), wrwwVal (arg12.view.read (Elt F) (arg12.view.writes (Elt F) (harg12.unread xs12) (famPieces i hc1 x0 x1 x2))) x3 x4 x5 x6⟩] := by
  unfold kernelRun1_B; dsimp only
  conv_rhs => rw [← harg2.read_unread x0, ← harg3.read_unread x1, ← harg4.read_unread x2, ← harg5.read_unread x3, ← harg6.read_unread x4, ← harg7.read_unread x5, ← harg8.read_unread x6]
  rfl
theorem runB_swr (c : Dev nD) (i : grid1.Coords) (arg2 : Memref sig .tc .vmem S8x64x4096 .f32) (harg2 : arg2.IsWhole) (arg3 : Memref sig .tc .vmem S8x8x64 .bf16) (harg3 : arg3.IsWhole) (arg4 : Memref sig .tc .vmem S8x8x64 .bf16) (harg4 : arg4.IsWhole) (arg5 : Memref sig .tc .vmem S8x128 .f32) (harg5 : arg5.IsWhole) (arg6 : Memref sig .tc .vmem S8x8192 .f32) (harg6 : arg6.IsWhole) (arg7 : Memref sig .tc .vmem S8x128 .f32) (harg7 : arg7.IsWhole) (arg8 : Memref sig .tc .vmem S8x8192 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (arg12 : Memref sig .tc .vmem S8x8x8192 .f32) (harg12 : arg12.IsWhole) (arg13 : Memref sig .tc .vmem S8x8192 .f32) (harg13 : arg13.IsWhole) (arg14 : Memref sig .tc .vmem S8x8192 .f32) (harg14 : arg14.IsWhole) (arg15 : Memref sig .tc .vmem S8x1 .f32) (harg15 : arg15.IsWhole) (arg16 : Memref sig .tc .vmem S8x64x128 .f32) (harg16 : arg16.IsWhole) (arg17 : Memref sig .tc .vmem S8x64x128 .f32) (harg17 : arg17.IsWhole) (hc1 : cond1_1 i) (hc2 : cond1_2 i) (hc3 : ¬cond1_3 i) (hc4 : ¬cond1_4 i)
    (x0 : Vec F S8x64x4096 .f32) (x1 : Vec F S8x8x64 .bf16) (x2 : Vec F S8x8x64 .bf16) (x3 : Vec F S8x128 .f32) (x4 : Vec F S8x8192 .f32) (x5 : Vec F S8x128 .f32) (x6 : Vec F S8x8192 .f32) (x7 : Vec F S8x64 .f32) (x8 : Vec F S8x64 .f32) (xs12 : Vec F S8x8x8192 .f32) :
    (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 x8 xs12).2.2.2.1 = [⟨(Rect.unit (s := S8x1) ![0, 0] S8x1.size inb_S8x1_S8x1_0_0), swrVal (arg12.view.read (Elt F) (arg12.view.writes (Elt F) (harg12.unread xs12) (famPieces i hc1 x0 x1 x2))) x3 x4 x5 x6⟩] := by
  unfold kernelRun1_B; dsimp only
  conv_rhs => rw [← harg2.read_unread x0, ← harg3.read_unread x1, ← harg4.read_unread x2, ← harg5.read_unread x3, ← harg6.read_unread x4, ← harg7.read_unread x5, ← harg8.read_unread x6]
  rfl
theorem runB_acc1 (c : Dev nD) (i : grid1.Coords) (arg2 : Memref sig .tc .vmem S8x64x4096 .f32) (harg2 : arg2.IsWhole) (arg3 : Memref sig .tc .vmem S8x8x64 .bf16) (harg3 : arg3.IsWhole) (arg4 : Memref sig .tc .vmem S8x8x64 .bf16) (harg4 : arg4.IsWhole) (arg5 : Memref sig .tc .vmem S8x128 .f32) (harg5 : arg5.IsWhole) (arg6 : Memref sig .tc .vmem S8x8192 .f32) (harg6 : arg6.IsWhole) (arg7 : Memref sig .tc .vmem S8x128 .f32) (harg7 : arg7.IsWhole) (arg8 : Memref sig .tc .vmem S8x8192 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (arg12 : Memref sig .tc .vmem S8x8x8192 .f32) (harg12 : arg12.IsWhole) (arg13 : Memref sig .tc .vmem S8x8192 .f32) (harg13 : arg13.IsWhole) (arg14 : Memref sig .tc .vmem S8x8192 .f32) (harg14 : arg14.IsWhole) (arg15 : Memref sig .tc .vmem S8x1 .f32) (harg15 : arg15.IsWhole) (arg16 : Memref sig .tc .vmem S8x64x128 .f32) (harg16 : arg16.IsWhole) (arg17 : Memref sig .tc .vmem S8x64x128 .f32) (harg17 : arg17.IsWhole) (hc1 : cond1_1 i) (hc2 : cond1_2 i) (hc3 : ¬cond1_3 i) (hc4 : ¬cond1_4 i)
    (x0 : Vec F S8x64x4096 .f32) (x1 : Vec F S8x8x64 .bf16) (x2 : Vec F S8x8x64 .bf16) (x3 : Vec F S8x128 .f32) (x4 : Vec F S8x8192 .f32) (x5 : Vec F S8x128 .f32) (x6 : Vec F S8x8192 .f32) (x7 : Vec F S8x64 .f32) (x8 : Vec F S8x64 .f32) (xs12 : Vec F S8x8x8192 .f32) :
    (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 x8 xs12).2.2.2.2.1 = [⟨(Rect.unit (s := S8x64x128) ![0, 0, 0] S8x64x128.size inb_S8x64x128_S8x64x128_0_0_0), acc0⟩] := by
  unfold kernelRun1_B; dsimp only
  rfl
theorem runB_acc2 (c : Dev nD) (i : grid1.Coords) (arg2 : Memref sig .tc .vmem S8x64x4096 .f32) (harg2 : arg2.IsWhole) (arg3 : Memref sig .tc .vmem S8x8x64 .bf16) (harg3 : arg3.IsWhole) (arg4 : Memref sig .tc .vmem S8x8x64 .bf16) (harg4 : arg4.IsWhole) (arg5 : Memref sig .tc .vmem S8x128 .f32) (harg5 : arg5.IsWhole) (arg6 : Memref sig .tc .vmem S8x8192 .f32) (harg6 : arg6.IsWhole) (arg7 : Memref sig .tc .vmem S8x128 .f32) (harg7 : arg7.IsWhole) (arg8 : Memref sig .tc .vmem S8x8192 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (arg12 : Memref sig .tc .vmem S8x8x8192 .f32) (harg12 : arg12.IsWhole) (arg13 : Memref sig .tc .vmem S8x8192 .f32) (harg13 : arg13.IsWhole) (arg14 : Memref sig .tc .vmem S8x8192 .f32) (harg14 : arg14.IsWhole) (arg15 : Memref sig .tc .vmem S8x1 .f32) (harg15 : arg15.IsWhole) (arg16 : Memref sig .tc .vmem S8x64x128 .f32) (harg16 : arg16.IsWhole) (arg17 : Memref sig .tc .vmem S8x64x128 .f32) (harg17 : arg17.IsWhole) (hc1 : cond1_1 i) (hc2 : cond1_2 i) (hc3 : ¬cond1_3 i) (hc4 : ¬cond1_4 i)
    (x0 : Vec F S8x64x4096 .f32) (x1 : Vec F S8x8x64 .bf16) (x2 : Vec F S8x8x64 .bf16) (x3 : Vec F S8x128 .f32) (x4 : Vec F S8x8192 .f32) (x5 : Vec F S8x128 .f32) (x6 : Vec F S8x8192 .f32) (x7 : Vec F S8x64 .f32) (x8 : Vec F S8x64 .f32) (xs12 : Vec F S8x8x8192 .f32) :
    (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 x8 xs12).2.2.2.2.2.1 = [⟨(Rect.unit (s := S8x64x128) ![0, 0, 0] S8x64x128.size inb_S8x64x128_S8x64x128_0_0_0), acc0⟩] := by
  unfold kernelRun1_B; dsimp only
  rfl

end Cert.KernelIdeal.Hand

end
-- ==== Proof.IAcc.lean ====
/- The read phase of the second call: what a point leaves in the accumulators and in the output, as functions of what it finds. -/
module

public import proofs.«01_k».proof.Proof.IRunD
public import proofs.«01_k».proof.Proof.IAddr

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Where a point's half starts, as the read phase computes it. -/
def offR (i : grid1.Coords) : ℕ := k1_off65 i 1

theorem offR_eq : ∀ t : Fin cfg1.N, 2 ≤ t.val % 4 → offR (grid1.coords t) = 4096 * (t.val % 4 - 2) :=
  (by decide +kernel : ∀ t : Fin grid1.N, 2 ≤ t.val % 4 → offR (grid1.coords t) = 4096 * (t.val % 4 - 2))

theorem offR_inb (i : grid1.Coords) (h : k1_cond3 i = 1#1) (b : Fin 8) (a : Fin 2) :
    (![b.val, offR i] : Fin 2 → ℕ) a + S1x4096.size a ≤ S8x8192.size a := by
  have := b.isLt
  have h8 : offR i + 4096 ≤ 8192 := k1_off65_inb i h 1
  fin_cases a
  · show b.val + 1 ≤ 8; omega
  · show offR i + 4096 ≤ 8192; omega

theorem chunk_slices : ∀ n : ℕ, n + 1 ≤ 32 → S64x4096.Slices ![0, 128 * n] S64x128 := by
  intro n hn
  refine ⟨rfl, fun a => ?_⟩
  match a with
  | 0 => show 0 + 64 ≤ 64; omega
  | 1 => show 128 * n + 128 ≤ 4096; omega

/-- The sum of the first `n` chunks of 128 lanes. -/
def chunkSum (p : FVec F S64x4096 .f32) : (n : ℕ) → n ≤ 32 → FVec F S64x128 .f32
  | 0, _ => broadcast S64x128 (Scalar.ofBits .f32 0x00000000#32)
  | n + 1, h => addf (chunkSum p n (Nat.le_of_succ_le h)) (extractStridedSlice S64x128 ![0, 128 * n] p (chunk_slices n h))

/-- Batch `b`'s product of the memory block with a row of weights. -/
def prodAt (i : grid1.Coords) (h : k1_cond3 i = 1#1) (x0 : Vec F S8x64x4096 .f32) (w : Vec F S8x8192 .f32) (b : Fin 8) : FVec F S64x4096 .f32 :=
  mulf (shapeCast S64x4096 (blk0 x0 b) shapeCasts_S1x64x4096_S64x4096)
    (broadcastTo S64x4096 (View.ld (Val := Elt F) w (Rect.unit (s := S8x8192) ![b.val, offR i] S1x4096.size (offR_inb i h b)) : Vec F S1x4096 .f32) broadcasts_S1x4096_S64x4096)

def accSlab (acc : Vec F S8x64x128 .f32) (b : Fin 8) : Vec F S1x64x128 .f32 :=
  View.ld (Val := Elt F) acc (Rect.unit (s := S8x64x128) ![b.val, 0, 0] S1x64x128.size (by decide +revert))

/-- Batch `b`'s accumulator after a point. -/
def accRow (i : grid1.Coords) (h : k1_cond3 i = 1#1) (x0 : Vec F S8x64x4096 .f32) (w : Vec F S8x8192 .f32) (acc : Vec F S8x64x128 .f32) (b : Fin 8) :
    Vec F S1x64x128 .f32 :=
  shapeCast S1x64x128 (addf (shapeCast S64x128 (accSlab acc b) shapeCasts_S1x64x128_S64x128) (chunkSum (prodAt i h x0 w b) 32 (Nat.le_refl 32))) shapeCasts_S64x128_S1x64x128

def accPiece (i : grid1.Coords) (h : k1_cond3 i = 1#1) (x0 : Vec F S8x64x4096 .f32) (w : Vec F S8x8192 .f32) (acc : Vec F S8x64x128 .f32) (b : Fin 8) :
    View.Piece (Elt F) S8x64x128 .f32 :=
  ⟨Rect.unit (s := S8x64x128) ![b.val, 0, 0] S1x64x128.size (by decide +revert), accRow i h x0 w acc b⟩

/-- Every write of the read phase into an accumulator, the last first. -/
def accPieces (i : grid1.Coords) (h : k1_cond3 i = 1#1) (x0 : Vec F S8x64x4096 .f32) (w : Vec F S8x8192 .f32) (acc : Vec F S8x64x128 .f32) :
    List (View.Piece (Elt F) S8x64x128 .f32) :=
  ([7, 6, 5, 4, 3, 2, 1, 0] : List (Fin 8)).map fun b => accPiece i h x0 w acc b

/-- The accumulator after a point. -/
def accVal (i : grid1.Coords) (h : k1_cond3 i = 1#1) (x0 : Vec F S8x64x4096 .f32) (w : Vec F S8x8192 .f32) (acc : Vec F S8x64x128 .f32) :
    Vec F S8x64x128 .f32 := fun y => accRow i h x0 w acc (y 0) (ix3 0 (y 1) (y 2))

theorem read_accPieces {κ : Kind} {sp : Space} (v : View sig κ sp S8x64x128 .f32) (g : v.ty.Contents (Elt F)) (i : grid1.Coords)
    (h : k1_cond3 i = 1#1) (x0 : Vec F S8x64x4096 .f32) (w : Vec F S8x8192 .f32) (acc : Vec F S8x64x128 .f32) :
    v.read (Elt F) (v.writes (Elt F) g (accPieces i h x0 w acc)) = accVal i h x0 w acc := by
  have hall : ∀ b : Fin 8, b ∈ ([7, 6, 5, 4, 3, 2, 1, 0] : List (Fin 8)) := by decide
  funext y
  refine View.read_writes_apply_of_pieces v g (accVal i h x0 w acc) _ ?_ y ?_
  · intro p hp x
    obtain ⟨b, -, rfl⟩ := List.mem_map.1 hp
    have h0 : (x 0).val < 1 := (x 0).isLt
    have e0 : ((accPiece i h x0 w acc b).1.emb x) 0 = b := by
      apply Fin.ext
      show b.val + 1 * (x 0).val = b.val
      omega
    have e1 : ((accPiece i h x0 w acc b).1.emb x) 1 = x 1 := by
      apply Fin.ext
      show 0 + 1 * (x 1).val = (x 1).val
      omega
    have e2 : ((accPiece i h x0 w acc b).1.emb x) 2 = x 2 := by
      apply Fin.ext
      show 0 + 1 * (x 2).val = (x 2).val
      omega
    have ex : x = ix3 0 (x 1) (x 2) := by
      funext a
      apply Fin.ext
      match a with
      | 0 => show (x 0).val = 0; omega
      | 1 => rfl
      | 2 => rfl
    unfold accVal
    rw [e0, e1, e2]
    conv_lhs => rw [ex]
    rfl
  · refine ⟨accPiece i h x0 w acc (y 0), List.mem_map.2 ⟨_, hall _, rfl⟩, (accPiece i h x0 w acc (y 0)).1.mem_set.mpr fun a => ?_⟩
    match a with
    | 0 => exact ⟨0, (by decide : 0 < 1), (Nat.add_zero _).symm⟩
    | 1 => exact ⟨(y 1).val, (y 1).isLt, (by show (y 1).val = 0 + 1 * _; omega)⟩
    | 2 => exact ⟨(y 2).val, (y 2).isLt, (by show (y 2).val = 0 + 1 * _; omega)⟩

/-- The output of the last point of a group. -/
def outVal (A1 A2 : Vec F S8x64x128 .f32) (s : Vec F S8x1 .f32) (x7 x8 : Vec F S8x64 .f32) : Vec F S8x64 .f32 :=
  k1_pay8 (k1_pay468 (accSlab A1 0)) (k1_pay469 (accSlab A1 1)) (k1_pay470 (accSlab A1 2)) (k1_pay471 (accSlab A1 3)) (k1_pay472 (accSlab A1 4)) (k1_pay473 (accSlab A1 5)) (k1_pay474 (accSlab A1 6)) (k1_pay475 (accSlab A1 7))
    (k1_pay7 (k1_pay476 (accSlab A2 0)) (k1_pay477 (accSlab A2 1)) (k1_pay478 (accSlab A2 2)) (k1_pay479 (accSlab A2 3)) (k1_pay480 (accSlab A2 4)) (k1_pay481 (accSlab A2 5)) (k1_pay482 (accSlab A2 6)) (accSlab A2 7)
      (View.ld (Val := Elt F) x7 (Rect.unit (s := S8x64) ![0, 0] S8x64.size inb_S8x64_S8x64_0_0)))
    (View.ld (Val := Elt F) s (Rect.unit (s := S8x1) ![0, 0] S8x1.size inb_S8x1_S8x1_0_0))
    (View.ld (Val := Elt F) x8 (Rect.unit (s := S8x64) ![0, 0] S8x64.size inb_S8x64_S8x64_0_0))

set_option maxRecDepth 65536 in
theorem runC_acc1 (c : Dev nD) (i : grid1.Coords) (arg2 : Memref sig .tc .vmem S8x64x4096 .f32) (harg2 : arg2.IsWhole) (arg3 : Memref sig .tc .vmem S8x8x64 .bf16) (harg3 : arg3.IsWhole) (arg4 : Memref sig .tc .vmem S8x8x64 .bf16) (harg4 : arg4.IsWhole) (arg5 : Memref sig .tc .vmem S8x128 .f32) (harg5 : arg5.IsWhole) (arg6 : Memref sig .tc .vmem S8x8192 .f32) (harg6 : arg6.IsWhole) (arg7 : Memref sig .tc .vmem S8x128 .f32) (harg7 : arg7.IsWhole) (arg8 : Memref sig .tc .vmem S8x8192 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (arg12 : Memref sig .tc .vmem S8x8x8192 .f32) (harg12 : arg12.IsWhole) (arg13 : Memref sig .tc .vmem S8x8192 .f32) (harg13 : arg13.IsWhole) (arg14 : Memref sig .tc .vmem S8x8192 .f32) (harg14 : arg14.IsWhole) (arg15 : Memref sig .tc .vmem S8x1 .f32) (harg15 : arg15.IsWhole) (arg16 : Memref sig .tc .vmem S8x64x128 .f32) (harg16 : arg16.IsWhole) (arg17 : Memref sig .tc .vmem S8x64x128 .f32) (harg17 : arg17.IsWhole) (hc1 : ¬cond1_1 i) (hc2 : ¬cond1_2 i) (hc3 : cond1_3 i) (hc4 : ¬cond1_4 i)
    (x0 : Vec F S8x64x4096 .f32) (x1 : Vec F S8x8x64 .bf16) (x2 : Vec F S8x8x64 .bf16) (x3 : Vec F S8x128 .f32) (x4 : Vec F S8x8192 .f32) (x5 : Vec F S8x128 .f32) (x6 : Vec F S8x8192 .f32) (x7 : Vec F S8x64 .f32) (x8 : Vec F S8x64 .f32) (xs13 : Vec F S8x8192 .f32)  (xs14 : Vec F S8x8192 .f32)  (xs15 : Vec F S8x1 .f32)  (xs16 : Vec F S8x64x128 .f32)  (xs17 : Vec F S8x64x128 .f32) :
    (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 x8 xs13 xs14 xs15 xs16 xs17).1 = accPieces i hc3 x0 xs13 xs16 := by
  unfold kernelRun1_C; dsimp only
  conv_rhs => rw [← harg2.read_unread x0, ← harg13.read_unread xs13, ← harg16.read_unread xs16]
  rfl
set_option maxRecDepth 65536 in
theorem runC_acc2 (c : Dev nD) (i : grid1.Coords) (arg2 : Memref sig .tc .vmem S8x64x4096 .f32) (harg2 : arg2.IsWhole) (arg3 : Memref sig .tc .vmem S8x8x64 .bf16) (harg3 : arg3.IsWhole) (arg4 : Memref sig .tc .vmem S8x8x64 .bf16) (harg4 : arg4.IsWhole) (arg5 : Memref sig .tc .vmem S8x128 .f32) (harg5 : arg5.IsWhole) (arg6 : Memref sig .tc .vmem S8x8192 .f32) (harg6 : arg6.IsWhole) (arg7 : Memref sig .tc .vmem S8x128 .f32) (harg7 : arg7.IsWhole) (arg8 : Memref sig .tc .vmem S8x8192 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (arg12 : Memref sig .tc .vmem S8x8x8192 .f32) (harg12 : arg12.IsWhole) (arg13 : Memref sig .tc .vmem S8x8192 .f32) (harg13 : arg13.IsWhole) (arg14 : Memref sig .tc .vmem S8x8192 .f32) (harg14 : arg14.IsWhole) (arg15 : Memref sig .tc .vmem S8x1 .f32) (harg15 : arg15.IsWhole) (arg16 : Memref sig .tc .vmem S8x64x128 .f32) (harg16 : arg16.IsWhole) (arg17 : Memref sig .tc .vmem S8x64x128 .f32) (harg17 : arg17.IsWhole) (hc1 : ¬cond1_1 i) (hc2 : ¬cond1_2 i) (hc3 : cond1_3 i) (hc4 : ¬cond1_4 i)
    (x0 : Vec F S8x64x4096 .f32) (x1 : Vec F S8x8x64 .bf16) (x2 : Vec F S8x8x64 .bf16) (x3 : Vec F S8x128 .f32) (x4 : Vec F S8x8192 .f32) (x5 : Vec F S8x128 .f32) (x6 : Vec F S8x8192 .f32) (x7 : Vec F S8x64 .f32) (x8 : Vec F S8x64 .f32) (xs13 : Vec F S8x8192 .f32)  (xs14 : Vec F S8x8192 .f32)  (xs15 : Vec F S8x1 .f32)  (xs16 : Vec F S8x64x128 .f32)  (xs17 : Vec F S8x64x128 .f32) :
    (kernelRun1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 x8 xs13 xs14 xs15 xs16 xs17).2.1 = accPieces i hc3 x0 xs14 xs17 := by
  unfold kernelRun1_C; dsimp only
  conv_rhs => rw [← harg2.read_unread x0, ← harg14.read_unread xs14, ← harg17.read_unread xs17]
  rfl
set_option maxRecDepth 65536 in
theorem runD_acc1 (c : Dev nD) (i : grid1.Coords) (arg2 : Memref sig .tc .vmem S8x64x4096 .f32) (harg2 : arg2.IsWhole) (arg3 : Memref sig .tc .vmem S8x8x64 .bf16) (harg3 : arg3.IsWhole) (arg4 : Memref sig .tc .vmem S8x8x64 .bf16) (harg4 : arg4.IsWhole) (arg5 : Memref sig .tc .vmem S8x128 .f32) (harg5 : arg5.IsWhole) (arg6 : Memref sig .tc .vmem S8x8192 .f32) (harg6 : arg6.IsWhole) (arg7 : Memref sig .tc .vmem S8x128 .f32) (harg7 : arg7.IsWhole) (arg8 : Memref sig .tc .vmem S8x8192 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (arg12 : Memref sig .tc .vmem S8x8x8192 .f32) (harg12 : arg12.IsWhole) (arg13 : Memref sig .tc .vmem S8x8192 .f32) (harg13 : arg13.IsWhole) (arg14 : Memref sig .tc .vmem S8x8192 .f32) (harg14 : arg14.IsWhole) (arg15 : Memref sig .tc .vmem S8x1 .f32) (harg15 : arg15.IsWhole) (arg16 : Memref sig .tc .vmem S8x64x128 .f32) (harg16 : arg16.IsWhole) (arg17 : Memref sig .tc .vmem S8x64x128 .f32) (harg17 : arg17.IsWhole) (hc1 : ¬cond1_1 i) (hc2 : ¬cond1_2 i) (hc3 : cond1_3 i) (hc4 : cond1_4 i)
    (x0 : Vec F S8x64x4096 .f32) (x1 : Vec F S8x8x64 .bf16) (x2 : Vec F S8x8x64 .bf16) (x3 : Vec F S8x128 .f32) (x4 : Vec F S8x8192 .f32) (x5 : Vec F S8x128 .f32) (x6 : Vec F S8x8192 .f32) (x7 : Vec F S8x64 .f32) (x8 : Vec F S8x64 .f32) (xs13 : Vec F S8x8192 .f32)  (xs14 : Vec F S8x8192 .f32)  (xs15 : Vec F S8x1 .f32)  (xs16 : Vec F S8x64x128 .f32)  (xs17 : Vec F S8x64x128 .f32) :
    (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 x8 xs13 xs14 xs15 xs16 xs17).2.1 = accPieces i hc3 x0 xs13 xs16 := by
  unfold kernelRun1_D; dsimp only
  conv_rhs => rw [← harg2.read_unread x0, ← harg13.read_unread xs13, ← harg16.read_unread xs16]
  rfl
set_option maxRecDepth 65536 in
theorem runD_acc2 (c : Dev nD) (i : grid1.Coords) (arg2 : Memref sig .tc .vmem S8x64x4096 .f32) (harg2 : arg2.IsWhole) (arg3 : Memref sig .tc .vmem S8x8x64 .bf16) (harg3 : arg3.IsWhole) (arg4 : Memref sig .tc .vmem S8x8x64 .bf16) (harg4 : arg4.IsWhole) (arg5 : Memref sig .tc .vmem S8x128 .f32) (harg5 : arg5.IsWhole) (arg6 : Memref sig .tc .vmem S8x8192 .f32) (harg6 : arg6.IsWhole) (arg7 : Memref sig .tc .vmem S8x128 .f32) (harg7 : arg7.IsWhole) (arg8 : Memref sig .tc .vmem S8x8192 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (arg12 : Memref sig .tc .vmem S8x8x8192 .f32) (harg12 : arg12.IsWhole) (arg13 : Memref sig .tc .vmem S8x8192 .f32) (harg13 : arg13.IsWhole) (arg14 : Memref sig .tc .vmem S8x8192 .f32) (harg14 : arg14.IsWhole) (arg15 : Memref sig .tc .vmem S8x1 .f32) (harg15 : arg15.IsWhole) (arg16 : Memref sig .tc .vmem S8x64x128 .f32) (harg16 : arg16.IsWhole) (arg17 : Memref sig .tc .vmem S8x64x128 .f32) (harg17 : arg17.IsWhole) (hc1 : ¬cond1_1 i) (hc2 : ¬cond1_2 i) (hc3 : cond1_3 i) (hc4 : cond1_4 i)
    (x0 : Vec F S8x64x4096 .f32) (x1 : Vec F S8x8x64 .bf16) (x2 : Vec F S8x8x64 .bf16) (x3 : Vec F S8x128 .f32) (x4 : Vec F S8x8192 .f32) (x5 : Vec F S8x128 .f32) (x6 : Vec F S8x8192 .f32) (x7 : Vec F S8x64 .f32) (x8 : Vec F S8x64 .f32) (xs13 : Vec F S8x8192 .f32)  (xs14 : Vec F S8x8192 .f32)  (xs15 : Vec F S8x1 .f32)  (xs16 : Vec F S8x64x128 .f32)  (xs17 : Vec F S8x64x128 .f32) :
    (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 x8 xs13 xs14 xs15 xs16 xs17).2.2.1 = accPieces i hc3 x0 xs14 xs17 := by
  unfold kernelRun1_D; dsimp only
  conv_rhs => rw [← harg2.read_unread x0, ← harg14.read_unread xs14, ← harg17.read_unread xs17]
  rfl
set_option maxRecDepth 65536 in
theorem runD_out (c : Dev nD) (i : grid1.Coords) (arg2 : Memref sig .tc .vmem S8x64x4096 .f32) (harg2 : arg2.IsWhole) (arg3 : Memref sig .tc .vmem S8x8x64 .bf16) (harg3 : arg3.IsWhole) (arg4 : Memref sig .tc .vmem S8x8x64 .bf16) (harg4 : arg4.IsWhole) (arg5 : Memref sig .tc .vmem S8x128 .f32) (harg5 : arg5.IsWhole) (arg6 : Memref sig .tc .vmem S8x8192 .f32) (harg6 : arg6.IsWhole) (arg7 : Memref sig .tc .vmem S8x128 .f32) (harg7 : arg7.IsWhole) (arg8 : Memref sig .tc .vmem S8x8192 .f32) (harg8 : arg8.IsWhole) (arg9 : Memref sig .tc .vmem S8x64 .f32) (harg9 : arg9.IsWhole) (arg10 : Memref sig .tc .vmem S8x64 .f32) (harg10 : arg10.IsWhole) (arg11 : Memref sig .tc .vmem S8x64 .f32) (harg11 : arg11.IsWhole) (arg12 : Memref sig .tc .vmem S8x8x8192 .f32) (harg12 : arg12.IsWhole) (arg13 : Memref sig .tc .vmem S8x8192 .f32) (harg13 : arg13.IsWhole) (arg14 : Memref sig .tc .vmem S8x8192 .f32) (harg14 : arg14.IsWhole) (arg15 : Memref sig .tc .vmem S8x1 .f32) (harg15 : arg15.IsWhole) (arg16 : Memref sig .tc .vmem S8x64x128 .f32) (harg16 : arg16.IsWhole) (arg17 : Memref sig .tc .vmem S8x64x128 .f32) (harg17 : arg17.IsWhole) (hc1 : ¬cond1_1 i) (hc2 : ¬cond1_2 i) (hc3 : cond1_3 i) (hc4 : cond1_4 i)
    (x0 : Vec F S8x64x4096 .f32) (x1 : Vec F S8x8x64 .bf16) (x2 : Vec F S8x8x64 .bf16) (x3 : Vec F S8x128 .f32) (x4 : Vec F S8x8192 .f32) (x5 : Vec F S8x128 .f32) (x6 : Vec F S8x8192 .f32) (x7 : Vec F S8x64 .f32) (x8 : Vec F S8x64 .f32) (xs13 : Vec F S8x8192 .f32)  (xs14 : Vec F S8x8192 .f32)  (xs15 : Vec F S8x1 .f32)  (xs16 : Vec F S8x64x128 .f32)  (xs17 : Vec F S8x64x128 .f32) :
    (kernelRun1_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x0 x1 x2 x3 x4 x5 x6 x7 x8 xs13 xs14 xs15 xs16 xs17).1 = [⟨(Rect.unit (s := S8x64) ![0, 0] S8x64.size inb_S8x64_S8x64_0_0), outVal (accVal i hc3 x0 xs13 xs16) (accVal i hc3 x0 xs14 xs17) xs15 x7 x8⟩] := by
  unfold kernelRun1_D; dsimp only
  conv_rhs => rw [← read_accPieces arg16.view arg16.view.junk, ← read_accPieces arg17.view arg17.view.junk, ← harg2.read_unread x0, ← harg13.read_unread xs13, ← harg16.read_unread xs16, ← harg14.read_unread xs14, ← harg17.read_unread xs17, ← harg15.read_unread xs15, ← harg9.read_unread x7, ← harg10.read_unread x8]
  rfl

end Cert.KernelIdeal.Hand

end
-- ==== Proof.IRegion1.lean ====
/- The second call at any entry contents `V`: what it carries from point to point, and its body obligation. -/
module

public import proofs.«01_k».proof.Proof.IAcc
public import Idealize.ShloMosaic.Lib.VecWindow

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer whose one write covers it whole reads as that write's payload. -/
theorem read_whole {s : Shape} {e : EltTy} {κ : Kind} {sp : Space} (v : View sig κ sp s e) (f : v.ty.Contents (Elt F)) {off : Fin s.rank → ℕ}
    (inb : ∀ a, off a + s.size a ≤ s.size a) (w : (Rect.unit off s.size inb).shape.Idx → Elt F e) :
    v.read (Elt F) (v.writes (Elt F) f [⟨Rect.unit off s.size inb, w⟩]) = w :=
  (View.readAt_full v _ inb).symm.trans (View.readAt_writes_full v f inb inb w [])

section Regions
variable (V : (c : Dev nD) → (b : Ref sig .tc) → Buf (Elt F) ((c : Thread nD τ).loc b))

/-- Point number `n`. -/
def pt1 (n : ℕ) : Fin cfg1.N := ⟨n % 32, lt_of_lt_of_eq (Nat.mod_lt _ (by decide)) (show 32 = cfg1.N from N_1.symm)⟩

theorem pt1_val (t : Fin cfg1.N) : pt1 t.val = t :=
  Fin.ext (Nat.mod_eq_of_lt (lt_of_lt_of_eq t.isLt (show cfg1.N = 32 from N_1)))

abbrev bl0 (c : Dev nD) (t : Fin cfg1.N) : Vec F S8x64x4096 .f32 := iblk1 V c 0 t
abbrev bl1 (c : Dev nD) (t : Fin cfg1.N) : Vec F S8x8x64 .bf16 := iblk1 V c 1 t
abbrev bl2 (c : Dev nD) (t : Fin cfg1.N) : Vec F S8x8x64 .bf16 := iblk1 V c 2 t
abbrev bl3 (c : Dev nD) (t : Fin cfg1.N) : Vec F S8x128 .f32 := iblk1 V c 3 t
abbrev bl4 (c : Dev nD) (t : Fin cfg1.N) : Vec F S8x8192 .f32 := iblk1 V c 4 t
abbrev bl5 (c : Dev nD) (t : Fin cfg1.N) : Vec F S8x128 .f32 := iblk1 V c 5 t
abbrev bl6 (c : Dev nD) (t : Fin cfg1.N) : Vec F S8x8192 .f32 := iblk1 V c 6 t
abbrev bl7 (c : Dev nD) (t : Fin cfg1.N) : Vec F S8x64 .f32 := iblk1 V c 7 t
abbrev bl8 (c : Dev nD) (t : Fin cfg1.N) : Vec F S8x64 .f32 := iblk1 V c 8 t

/-- The family buffer of the group that starts at point `n`, its read weights, their product with the write weights, and its sum. -/
def FamAt (c : Dev nD) (n : ℕ) : Vec F S8x8x8192 .f32 :=
  famFull (bl0 V c (pt1 n)) (bl1 V c (pt1 n)) (bl2 V c (pt1 n)) (bl0 V c (pt1 (n + 1))) (bl1 V c (pt1 (n + 1))) (bl2 V c (pt1 (n + 1)))
def WrAt (c : Dev nD) (n : ℕ) : Vec F S8x8192 .f32 :=
  wrVal (FamAt V c n) (bl3 V c (pt1 (n + 1))) (bl4 V c (pt1 (n + 1))) (bl5 V c (pt1 (n + 1))) (bl6 V c (pt1 (n + 1)))
def WrwwAt (c : Dev nD) (n : ℕ) : Vec F S8x8192 .f32 :=
  wrwwVal (FamAt V c n) (bl3 V c (pt1 (n + 1))) (bl4 V c (pt1 (n + 1))) (bl5 V c (pt1 (n + 1))) (bl6 V c (pt1 (n + 1)))
def SwrAt (c : Dev nD) (n : ℕ) : Vec F S8x1 .f32 :=
  swrVal (FamAt V c n) (bl3 V c (pt1 (n + 1))) (bl4 V c (pt1 (n + 1))) (bl5 V c (pt1 (n + 1))) (bl6 V c (pt1 (n + 1)))

/-- An accumulator after point `t`, found at `acc`. -/
def accAt (t : Fin cfg1.N) (x0 : Vec F S8x64x4096 .f32) (w : Vec F S8x8192 .f32) (acc : Vec F S8x64x128 .f32) : Vec F S8x64x128 .f32 :=
  if h : k1_cond3 (grid1.coords t) = 1#1 then accVal (grid1.coords t) h x0 w acc else acc

theorem accAt_of (t : Fin cfg1.N) (h : k1_cond3 (grid1.coords t) = 1#1) (x0 : Vec F S8x64x4096 .f32) (w : Vec F S8x8192 .f32) (acc : Vec F S8x64x128 .f32) :
    accAt t x0 w acc = accVal (grid1.coords t) h x0 w acc := by
  unfold accAt; rw [dif_pos h]

/-- The accumulators of the group that starts at `n` after its third point, -/
def Acc1At (c : Dev nD) (n : ℕ) : Vec F S8x64x128 .f32 := accAt (pt1 (n + 2)) (bl0 V c (pt1 (n + 2))) (WrAt V c n) acc0
def Acc2At (c : Dev nD) (n : ℕ) : Vec F S8x64x128 .f32 := accAt (pt1 (n + 2)) (bl0 V c (pt1 (n + 2))) (WrwwAt V c n) acc0
/-- and its output, at its last point `t`. -/
def OutAt (c : Dev nD) (t : Fin cfg1.N) : Vec F S8x64 .f32 :=
  outVal (accAt t (bl0 V c t) (WrAt V c (t.val - 3)) (Acc1At V c (t.val - 3))) (accAt t (bl0 V c t) (WrwwAt V c (t.val - 3)) (Acc2At V c (t.val - 3)))
    (SwrAt V c (t.val - 3)) (bl7 V c t) (bl8 V c t)

/-! ## The invariant -/

/-- The scratch buffers before a group's second point: the first half of the family. -/
def Sc1 (c : Dev nD) (n : ℕ) : sProp 𝕄 :=
  iprop((∃ X, ⌜∀ y : S8x8x8192.Idx, (y 2).val < 4096 → X y = famG (bl0 V c (pt1 n)) (bl1 V c (pt1 n)) (bl2 V c (pt1 n)) 0 y⌝ ∗ owns (c : Thread nD τ) scM1_0 fullShare X)
    ∗ (∃ d, owns (c : Thread nD τ) scM1_1 fullShare d) ∗ (∃ d, owns (c : Thread nD τ) scM1_2 fullShare d) ∗ (∃ d, owns (c : Thread nD τ) scM1_3 fullShare d)
    ∗ (∃ d, owns (c : Thread nD τ) scM1_4 fullShare d) ∗ (∃ d, owns (c : Thread nD τ) scM1_5 fullShare d))
/-- Before the third and the fourth: the weights, and the accumulators. -/
def Sc2 (c : Dev nD) (n : ℕ) (a1 a2 : Vec F S8x64x128 .f32) : sProp 𝕄 :=
  iprop((∃ d, owns (c : Thread nD τ) scM1_0 fullShare d) ∗ owns (c : Thread nD τ) scM1_1 fullShare (WrAt V c n) ∗ owns (c : Thread nD τ) scM1_2 fullShare (WrwwAt V c n)
    ∗ owns (c : Thread nD τ) scM1_3 fullShare (SwrAt V c n) ∗ owns (c : Thread nD τ) scM1_4 fullShare a1 ∗ owns (c : Thread nD τ) scM1_5 fullShare a2)

/-- The scratch buffers before point `n`. -/
def Scr (c : Dev nD) (n : ℕ) : sProp 𝕄 :=
  if n % 4 = 1 then Sc1 V c (n - 1)
  else if n % 4 = 2 then Sc2 V c (n - 2) acc0 acc0
  else if n % 4 = 3 then Sc2 V c (n - 3) (Acc1At V c (n - 3)) (Acc2At V c (n - 3))
  else iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d))

theorem Scr_0 (c : Dev nD) (n : ℕ) (h : n % 4 = 0) : Scr V c n = iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d)) := by
  unfold Scr; rw [if_neg (by omega), if_neg (by omega), if_neg (by omega)]
theorem Scr_1 (c : Dev nD) (n : ℕ) (h : n % 4 = 1) : Scr V c n = Sc1 V c (n - 1) := by unfold Scr; rw [if_pos h]
theorem Scr_2 (c : Dev nD) (n : ℕ) (h : n % 4 = 2) : Scr V c n = Sc2 V c (n - 2) acc0 acc0 := by unfold Scr; rw [if_neg (by omega), if_pos h]
theorem Scr_3 (c : Dev nD) (n : ℕ) (h : n % 4 = 3) : Scr V c n = Sc2 V c (n - 3) (Acc1At V c (n - 3)) (Acc2At V c (n - 3)) := by
  unfold Scr; rw [if_neg (by omega), if_neg (by omega), if_pos h]

def PhiS1 (c : Dev nD) (n : ℕ) (_ : n ≤ cfg1.N) : sProp 𝕄 := iprop(iprop(Scr V c n ∗ restBut1 c) ∗ (∃ r, prngReg c r))

theorem PhiS1_A (c : Dev nD) (n : ℕ) (hn : n ≤ cfg1.N) (h : n % 4 = 0) : PhiS1 V c n hn = Pipeline.ΦA spec1 c := by
  unfold PhiS1; rw [Scr_0 V c n h, PhiA1_eq]

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => OutAt V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem PhiS1_castSucc (c : Dev nD) (t : Fin cfg1.N) : (dat1 V c).Φ t.castSucc = PhiS1 V c t.val (Nat.le_of_lt t.isLt) := by
  dsimp only [dat1]; exact Pipeline.Dat.Φ_castSucc (PhiS1 V c) t
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = OutAt V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- The output's buffer is untouched until the last point of a group. -/
theorem before1_9 (c : Dev nD) : ∀ (n : ℕ) (t : Fin cfg1.N) (_ : t.val = n) (d), (dat1 V c).before 9 t d = d := by
  intro n
  induction n with
  | zero => intro t ht d; unfold Dat.before; rw [if_neg (by rw [show (cfg1.win 9).fetch t = false from rfl]; exact Bool.false_ne_true), if_pos ht]
  | succ n ih =>
    intro t ht d
    rw [Dat.before_of_pos _ 9 t (by omega) rfl]
    rw [flush1_9]
    by_cases h : (t.val - 1) % 4 = 3
    · rw [if_pos (by simpa using h)]
    · rw [if_neg (by simpa using h)]
      unfold Dat.left
      rw [idle1_9 _ h]
      exact ih _ (by show t.val - 1 = n; omega) d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ (dat1 V c).leavesExact 9 t)

set_option maxHeartbeats 4000000 in
/-- The body at a point 0 of a group. -/
theorem sound_body1_A (c : Dev nD) (t : Fin cfg1.N) (h : t.val % 4 = 0) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  unfold bodyPre1 bodyPost1 bodyAt1
  simp only [before1_0, before1_1, before1_2, before1_3, before1_4, before1_5, before1_6, before1_7, before1_8, before1_9 V c t.val t rfl]
  rw [show (dat1 V c).owesAt () t.succ = (dat1 V c).owesAt () t.castSucc from rfl,
    show (dat1 V c).Φ t.succ = PhiS1 V c (t.val + 1) t.isLt from rfl, PhiS1_castSucc V c t, after1_0, after1_1, after1_2, after1_3, after1_4, after1_5, after1_6, after1_7, after1_8]
  rw [show (dat1 V c).leavesExact 9 t = iprop(∃ d, owns (c : Thread nD τ) (ms1_9 t) fullShare d) from by
    unfold Dat.leavesExact; rw [idle1_9 t (by omega), flush1_9 t, decide_eq_false (by omega)]; simp only [before1_9 V c t.val t rfl]; rfl]
  unfold PhiS1
  rw [Scr_0 V c t.val h, Scr_1 V c (t.val + 1) (by omega)]
  unfold Sc1
  iintro ⟨⟨⟨⟨⟨%X, HS0⟩, HS1, HS2, HS3, HS4, HS5⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_1 t).2 (by omega)) (fun h => absurd ((hcond1_2 t).1 h) (by omega)) (fun h => absurd ((hcond1_3 t).1 h) (by omega)) (fun h => absurd ((hcond1_4 t).1 h) (by omega)) (iblk1 V c 0 t) (iblk1 V c 1 t) (iblk1 V c 2 t) (iblk1 V c 3 t) (iblk1 V c 4 t) (iblk1 V c 5 t) (iblk1 V c 6 t) (iblk1 V c 7 t) (iblk1 V c 8 t) X).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, HS0, HS1, HS2, HS3, HS4, HS5⟩
  isplitl [HS0 HS1 HS2 HS3 HS4 HS5 HR Hg]
  · isplitl [HS0 HS1 HS2 HS3 HS4 HS5 HR]
    · isplitl [HS0 HS1 HS2 HS3 HS4 HS5]
      isplitl [HS0]
      · iexists _; isplitr; swap
        · unfold owns; iexists _; isplitr; swap; · iexact HS0
          ipureintro; rfl
        ipureintro; intro y hy
        have ho : offW (grid1.coords t) = 0 := by rw [offW_eq t (by omega), h]
        rw [runA_pieces c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_1 t).2 (by omega)) (fun h => absurd ((hcond1_2 t).1 h) (by omega)) (fun h => absurd ((hcond1_3 t).1 h) (by omega)) (fun h => absurd ((hcond1_4 t).1 h) (by omega)) (iblk1 V c 0 t) (iblk1 V c 1 t) (iblk1 V c 2 t) (iblk1 V c 3 t) (iblk1 V c 4 t) (iblk1 V c 5 t) (iblk1 V c 6 t) (iblk1 V c 7 t) (iblk1 V c 8 t) X]
        have e := read_famPieces scM1_0.view ((Memref.isWhole_whole _).unread X) (grid1.coords t) ((hcond1_1 t).2 (by omega)) (iblk1 V c 0 t) (iblk1 V c 1 t) (iblk1 V c 2 t) y (by omega) (by omega)
        rw [ho] at e; rw [show t.val + 1 - 1 = t.val from rfl, pt1_val]; exact e
      isplitl [HS1]
      · iexact HS1
      isplitl [HS2]
      · iexact HS2
      isplitl [HS3]
      · iexact HS3
      isplitl [HS4]
      · iexact HS4
      iexact HS5
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4000000 in
/-- The body at a point 1 of a group. -/
theorem sound_body1_B (c : Dev nD) (t : Fin cfg1.N) (h : t.val % 4 = 1) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  unfold bodyPre1 bodyPost1 bodyAt1
  simp only [before1_0, before1_1, before1_2, before1_3, before1_4, before1_5, before1_6, before1_7, before1_8, before1_9 V c t.val t rfl]
  rw [show (dat1 V c).owesAt () t.succ = (dat1 V c).owesAt () t.castSucc from rfl,
    show (dat1 V c).Φ t.succ = PhiS1 V c (t.val + 1) t.isLt from rfl, PhiS1_castSucc V c t, after1_0, after1_1, after1_2, after1_3, after1_4, after1_5, after1_6, after1_7, after1_8]
  rw [show (dat1 V c).leavesExact 9 t = iprop(∃ d, owns (c : Thread nD τ) (ms1_9 t) fullShare d) from by
    unfold Dat.leavesExact; rw [idle1_9 t (by omega), flush1_9 t, decide_eq_false (by omega)]; simp only [before1_9 V c t.val t rfl]; rfl]
  unfold PhiS1
  rw [Scr_1 V c t.val h, Scr_2 V c (t.val + 1) (by omega)]
  unfold Sc1 Sc2
  iintro ⟨⟨⟨⟨⟨%X, %hX, HS0⟩, HS1, HS2, HS3, HS4, HS5⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_1 t).2 (by omega)) ((hcond1_2 t).2 (by omega)) (fun h => absurd ((hcond1_3 t).1 h) (by omega)) (fun h => absurd ((hcond1_4 t).1 h) (by omega)) (iblk1 V c 0 t) (iblk1 V c 1 t) (iblk1 V c 2 t) (iblk1 V c 3 t) (iblk1 V c 4 t) (iblk1 V c 5 t) (iblk1 V c 6 t) (iblk1 V c 7 t) (iblk1 V c 8 t) X).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, HS0, ⟨%e1, HS1⟩, ⟨%e2, HS2⟩, ⟨%e3, HS3⟩, ⟨%e4, HS4⟩, ⟨%e5, HS5⟩⟩
  isplitl [HS0 HS1 HS2 HS3 HS4 HS5 HR Hg]
  · isplitl [HS0 HS1 HS2 HS3 HS4 HS5 HR]
    · isplitl [HS0 HS1 HS2 HS3 HS4 HS5]
      isplitl [HS0]
      · unfold owns; iexists _, _; isplitr
        swap; · iexact HS0
        ipureintro; rfl
      isplitl [HS1]
      · unfold owns; iexists _; isplitr
        swap; · iexact HS1
        ipureintro; have e : t.val + 1 - 2 = t.val - 1 := by omega
        have e2 : t.val - 1 + 1 = t.val := by omega
        have hF := read_famPieces_full scM1_0.view ((Memref.isWhole_whole _).unread X) (grid1.coords t) ((hcond1_1 t).2 (by omega)) (by rw [offW_eq t (by omega), h]) _ (iblk1 V c 0 t) _ _ (iblk1 V c 1 t) (iblk1 V c 2 t) (fun y hy => by rw [(Memref.isWhole_whole _).read_unread]; exact hX y hy)
        rw [e, runB_wr c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_1 t).2 (by omega)) ((hcond1_2 t).2 (by omega)) (fun h => absurd ((hcond1_3 t).1 h) (by omega)) (fun h => absurd ((hcond1_4 t).1 h) (by omega)) (iblk1 V c 0 t) (iblk1 V c 1 t) (iblk1 V c 2 t) (iblk1 V c 3 t) (iblk1 V c 4 t) (iblk1 V c 5 t) (iblk1 V c 6 t) (iblk1 V c 7 t) (iblk1 V c 8 t) X, hF, read_whole]; unfold WrAt FamAt; rw [e2, pt1_val]
      isplitl [HS2]
      · unfold owns; iexists _; isplitr
        swap; · iexact HS2
        ipureintro; have e : t.val + 1 - 2 = t.val - 1 := by omega
        have e2 : t.val - 1 + 1 = t.val := by omega
        have hF := read_famPieces_full scM1_0.view ((Memref.isWhole_whole _).unread X) (grid1.coords t) ((hcond1_1 t).2 (by omega)) (by rw [offW_eq t (by omega), h]) _ (iblk1 V c 0 t) _ _ (iblk1 V c 1 t) (iblk1 V c 2 t) (fun y hy => by rw [(Memref.isWhole_whole _).read_unread]; exact hX y hy)
        rw [e, runB_wrww c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_1 t).2 (by omega)) ((hcond1_2 t).2 (by omega)) (fun h => absurd ((hcond1_3 t).1 h) (by omega)) (fun h => absurd ((hcond1_4 t).1 h) (by omega)) (iblk1 V c 0 t) (iblk1 V c 1 t) (iblk1 V c 2 t) (iblk1 V c 3 t) (iblk1 V c 4 t) (iblk1 V c 5 t) (iblk1 V c 6 t) (iblk1 V c 7 t) (iblk1 V c 8 t) X, hF, read_whole]; unfold WrwwAt FamAt; rw [e2, pt1_val]
      isplitl [HS3]
      · unfold owns; iexists _; isplitr
        swap; · iexact HS3
        ipureintro; have e : t.val + 1 - 2 = t.val - 1 := by omega
        have e2 : t.val - 1 + 1 = t.val := by omega
        have hF := read_famPieces_full scM1_0.view ((Memref.isWhole_whole _).unread X) (grid1.coords t) ((hcond1_1 t).2 (by omega)) (by rw [offW_eq t (by omega), h]) _ (iblk1 V c 0 t) _ _ (iblk1 V c 1 t) (iblk1 V c 2 t) (fun y hy => by rw [(Memref.isWhole_whole _).read_unread]; exact hX y hy)
        rw [e, runB_swr c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_1 t).2 (by omega)) ((hcond1_2 t).2 (by omega)) (fun h => absurd ((hcond1_3 t).1 h) (by omega)) (fun h => absurd ((hcond1_4 t).1 h) (by omega)) (iblk1 V c 0 t) (iblk1 V c 1 t) (iblk1 V c 2 t) (iblk1 V c 3 t) (iblk1 V c 4 t) (iblk1 V c 5 t) (iblk1 V c 6 t) (iblk1 V c 7 t) (iblk1 V c 8 t) X, hF, read_whole]; unfold SwrAt FamAt; rw [e2, pt1_val]
      isplitl [HS4]
      · unfold owns; iexists _; isplitr
        swap; · iexact HS4
        ipureintro; rw [runB_acc1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_1 t).2 (by omega)) ((hcond1_2 t).2 (by omega)) (fun h => absurd ((hcond1_3 t).1 h) (by omega)) (fun h => absurd ((hcond1_4 t).1 h) (by omega)) (iblk1 V c 0 t) (iblk1 V c 1 t) (iblk1 V c 2 t) (iblk1 V c 3 t) (iblk1 V c 4 t) (iblk1 V c 5 t) (iblk1 V c 6 t) (iblk1 V c 7 t) (iblk1 V c 8 t) X, read_whole]
      unfold owns; iexists _; isplitr
      swap; · iexact HS5
      ipureintro; rw [runB_acc2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_1 t).2 (by omega)) ((hcond1_2 t).2 (by omega)) (fun h => absurd ((hcond1_3 t).1 h) (by omega)) (fun h => absurd ((hcond1_4 t).1 h) (by omega)) (iblk1 V c 0 t) (iblk1 V c 1 t) (iblk1 V c 2 t) (iblk1 V c 3 t) (iblk1 V c 4 t) (iblk1 V c 5 t) (iblk1 V c 6 t) (iblk1 V c 7 t) (iblk1 V c 8 t) X, read_whole]
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4000000 in
/-- The body at a point 2 of a group. -/
theorem sound_body1_C (c : Dev nD) (t : Fin cfg1.N) (h : t.val % 4 = 2) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  unfold bodyPre1 bodyPost1 bodyAt1
  simp only [before1_0, before1_1, before1_2, before1_3, before1_4, before1_5, before1_6, before1_7, before1_8, before1_9 V c t.val t rfl]
  rw [show (dat1 V c).owesAt () t.succ = (dat1 V c).owesAt () t.castSucc from rfl,
    show (dat1 V c).Φ t.succ = PhiS1 V c (t.val + 1) t.isLt from rfl, PhiS1_castSucc V c t, after1_0, after1_1, after1_2, after1_3, after1_4, after1_5, after1_6, after1_7, after1_8]
  rw [show (dat1 V c).leavesExact 9 t = iprop(∃ d, owns (c : Thread nD τ) (ms1_9 t) fullShare d) from by
    unfold Dat.leavesExact; rw [idle1_9 t (by omega), flush1_9 t, decide_eq_false (by omega)]; simp only [before1_9 V c t.val t rfl]; rfl]
  unfold PhiS1
  rw [Scr_2 V c t.val h, Scr_3 V c (t.val + 1) (by omega)]
  unfold Sc2
  iintro ⟨⟨⟨⟨HS0, HS1, HS2, HS3, HS4, HS5⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => absurd ((hcond1_1 t).1 h) (by omega)) (fun h => absurd ((hcond1_2 t).1 h) (by omega)) ((hcond1_3 t).2 (by omega)) (fun h => absurd ((hcond1_4 t).1 h) (by omega)) (iblk1 V c 0 t) (iblk1 V c 1 t) (iblk1 V c 2 t) (iblk1 V c 3 t) (iblk1 V c 4 t) (iblk1 V c 5 t) (iblk1 V c 6 t) (iblk1 V c 7 t) (iblk1 V c 8 t) (WrAt V c (t.val - 2)) (WrwwAt V c (t.val - 2)) (SwrAt V c (t.val - 2)) acc0 acc0).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, HS0, HS1, HS2, HS3, HS4, HS5⟩
  isplitl [HS0 HS1 HS2 HS3 HS4 HS5 HR Hg]
  · isplitl [HS0 HS1 HS2 HS3 HS4 HS5 HR]
    · isplitl [HS0 HS1 HS2 HS3 HS4 HS5]
      isplitl [HS0]
      · iexact HS0
      isplitl [HS1]
      · rw [show t.val + 1 - 3 = t.val - 2 from by omega]; iexact HS1
      isplitl [HS2]
      · rw [show t.val + 1 - 3 = t.val - 2 from by omega]; iexact HS2
      isplitl [HS3]
      · rw [show t.val + 1 - 3 = t.val - 2 from by omega]; iexact HS3
      isplitl [HS4]
      · unfold owns; iexists _; isplitr
        swap; · iexact HS4
        ipureintro; rw [runC_acc1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => absurd ((hcond1_1 t).1 h) (by omega)) (fun h => absurd ((hcond1_2 t).1 h) (by omega)) ((hcond1_3 t).2 (by omega)) (fun h => absurd ((hcond1_4 t).1 h) (by omega)) (iblk1 V c 0 t) (iblk1 V c 1 t) (iblk1 V c 2 t) (iblk1 V c 3 t) (iblk1 V c 4 t) (iblk1 V c 5 t) (iblk1 V c 6 t) (iblk1 V c 7 t) (iblk1 V c 8 t) (WrAt V c (t.val - 2)) (WrwwAt V c (t.val - 2)) (SwrAt V c (t.val - 2)) acc0 acc0, read_accPieces, show t.val + 1 - 3 = t.val - 2 from by omega]; unfold Acc1At; rw [show t.val - 2 + 2 = t.val from by omega, pt1_val, accAt_of t ((hcond1_3 t).2 (by omega))]
      unfold owns; iexists _; isplitr
      swap; · iexact HS5
      ipureintro; rw [runC_acc2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => absurd ((hcond1_1 t).1 h) (by omega)) (fun h => absurd ((hcond1_2 t).1 h) (by omega)) ((hcond1_3 t).2 (by omega)) (fun h => absurd ((hcond1_4 t).1 h) (by omega)) (iblk1 V c 0 t) (iblk1 V c 1 t) (iblk1 V c 2 t) (iblk1 V c 3 t) (iblk1 V c 4 t) (iblk1 V c 5 t) (iblk1 V c 6 t) (iblk1 V c 7 t) (iblk1 V c 8 t) (WrAt V c (t.val - 2)) (WrwwAt V c (t.val - 2)) (SwrAt V c (t.val - 2)) acc0 acc0, read_accPieces, show t.val + 1 - 3 = t.val - 2 from by omega]; unfold Acc2At; rw [show t.val - 2 + 2 = t.val from by omega, pt1_val, accAt_of t ((hcond1_3 t).2 (by omega))]
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4000000 in
/-- The body at a point 3 of a group. -/
theorem sound_body1_D (c : Dev nD) (t : Fin cfg1.N) (h : t.val % 4 = 3) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  unfold bodyPre1 bodyPost1 bodyAt1
  simp only [before1_0, before1_1, before1_2, before1_3, before1_4, before1_5, before1_6, before1_7, before1_8, before1_9 V c t.val t rfl]
  rw [show (dat1 V c).owesAt () t.succ = (dat1 V c).owesAt () t.castSucc from rfl,
    show (dat1 V c).Φ t.succ = PhiS1 V c (t.val + 1) t.isLt from rfl, PhiS1_castSucc V c t, after1_0, after1_1, after1_2, after1_3, after1_4, after1_5, after1_6, after1_7, after1_8]
  rw [show (dat1 V c).leavesExact 9 t = owns (c : Thread nD τ) (ms1_9 t) fullShare (OutAt V c t) from by
    unfold Dat.leavesExact; rw [live1_9 t (by omega), after1_9]]
  unfold PhiS1
  rw [Scr_3 V c t.val h, Scr_0 V c (t.val + 1) (by omega)]
  unfold Sc2
  iintro ⟨⟨⟨⟨HS0, HS1, HS2, HS3, HS4, HS5⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun1_D c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => absurd ((hcond1_1 t).1 h) (by omega)) (fun h => absurd ((hcond1_2 t).1 h) (by omega)) ((hcond1_3 t).2 (by omega)) ((hcond1_4 t).2 (by omega)) (iblk1 V c 0 t) (iblk1 V c 1 t) (iblk1 V c 2 t) (iblk1 V c 3 t) (iblk1 V c 4 t) (iblk1 V c 5 t) (iblk1 V c 6 t) (iblk1 V c 7 t) (iblk1 V c 8 t) (WrAt V c (t.val - 3)) (WrwwAt V c (t.val - 3)) (SwrAt V c (t.val - 3)) (Acc1At V c (t.val - 3)) (Acc2At V c (t.val - 3))).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, ⟨%e9, H9⟩, HS0, HS1, HS2, HS3, HS4, HS5⟩
  isplitl [HS0 HS1 HS2 HS3 HS4 HS5 HR Hg]
  · isplitl [HS0 HS1 HS2 HS3 HS4 HS5 HR]
    · isplitl [HS0 HS1 HS2 HS3 HS4 HS5]
      isplitl [HS0]
      · iexact HS0
      isplitl [HS1]
      · iexists _; iexact HS1
      isplitl [HS2]
      · iexists _; iexact HS2
      isplitl [HS3]
      · iexists _; iexact HS3
      isplitl [HS4]
      · unfold owns; iexists _, _; isplitr
        swap; · iexact HS4
        ipureintro; rfl
      unfold owns; iexists _, _; isplitr
      swap; · iexact HS5
      ipureintro; rfl
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro
  rw [runD_out c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) scM1_4 (Memref.isWhole_whole _) scM1_5 (Memref.isWhole_whole _) (fun h => absurd ((hcond1_1 t).1 h) (by omega)) (fun h => absurd ((hcond1_2 t).1 h) (by omega)) ((hcond1_3 t).2 (by omega)) ((hcond1_4 t).2 (by omega)) (iblk1 V c 0 t) (iblk1 V c 1 t) (iblk1 V c 2 t) (iblk1 V c 3 t) (iblk1 V c 4 t) (iblk1 V c 5 t) (iblk1 V c 6 t) (iblk1 V c 7 t) (iblk1 V c 8 t) (WrAt V c (t.val - 3)) (WrwwAt V c (t.val - 3)) (SwrAt V c (t.val - 3)) (Acc1At V c (t.val - 3)) (Acc2At V c (t.val - 3)), read_whole]
  unfold OutAt; rw [accAt_of t ((hcond1_3 t).2 (by omega)), accAt_of t ((hcond1_3 t).2 (by omega))]

theorem sound_body1 (c : Dev nD) (t : Fin cfg1.N) :
    bodyPre1 V c t ⊢ wp frame (wpE (defs₀ (F := F)) Variants.none c none) Set.univ (bodyAt1 t) (fun _ => bodyPost1 V c t) := by
  have h : t.val % 4 = 0 ∨ t.val % 4 = 1 ∨ t.val % 4 = 2 ∨ t.val % 4 = 3 := by omega
  rcases h with h | h | h | h
  · exact sound_body1_A V c t h
  · exact sound_body1_B V c t h
  · exact sound_body1_C V c t h
  · exact sound_body1_D V c t h

theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hin1 (c : Dev nD) : Pipeline.ΦA spec1 c ⊢ (dat1 V c).Φ 0 := by
  rw [show (dat1 V c).Φ 0 = PhiS1 V c 0 (Nat.zero_le _) from rfl, PhiS1_A V c 0 _ rfl]
theorem hout1 (c : Dev nD) : (dat1 V c).Φ (Fin.last cfg1.N) ⊢ Pipeline.ΦA spec1 c := by
  rw [show (dat1 V c).Φ (Fin.last cfg1.N) = PhiS1 V c cfg1.N (Nat.le_refl _) from rfl, PhiS1_A V c _ _ (by rw [show cfg1.N = 32 from N_1])]

end Regions

end Cert.KernelIdeal.Hand

end
-- ==== Proof.IFold.lean ====
/- The buffers from item to item of the program, the two calls as segments, and the whole run. -/
module

public import proofs.«01_k».proof.Proof.IRegion0
public import proofs.«01_k».proof.Proof.IRegion1
public import proofs.«01_k».proof.Proof.Gen.KernelIdeal.Regions

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30]

/-! ## The buffer contents at each boundary -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem hostOps0_args : ∀ a ∈ argRefs, a ∉ hostOps0_W := ListAll.forall_mem_of_all_decide (by decide +kernel)
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem hostOps0_1_args : ∀ a ∈ argRefs, a ∉ hostOps0_1_W := ListAll.forall_mem_of_all_decide (by decide +kernel)
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem hostOps0_2_args : ∀ a ∈ argRefs, a ∉ hostOps0_2_W := ListAll.forall_mem_of_all_decide (by decide +kernel)
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem hostOps0_3_args : ∀ a ∈ argRefs, a ∉ hostOps0_3_W := ListAll.forall_mem_of_all_decide (by decide +kernel)
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem hostOps0_4_args : ∀ a ∈ argRefs, a ∉ hostOps0_4_W := ListAll.forall_mem_of_all_decide (by decide +kernel)
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem hostOps0_5_args : ∀ a ∈ argRefs, a ∉ hostOps0_5_W := ListAll.forall_mem_of_all_decide (by decide +kernel)
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6`. -/
abbrev W7 : Dev nD → Valuation τ sig (Elt F) := fun c => StableHlo.after hostOps0_6 (W6 m ρ c)
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem hostOps0_6_args : ∀ a ∈ argRefs, a ∉ hostOps0_6_W := ListAll.forall_mem_of_all_decide (by decide +kernel)
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- After `hostOps0_7`. -/
abbrev W8 : Dev nD → Valuation τ sig (Elt F) := fun c => StableHlo.after hostOps0_7 (W7 m ρ c)
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem hostOps0_7_args : ∀ a ∈ argRefs, a ∉ hostOps0_7_W := ListAll.forall_mem_of_all_decide (by decide +kernel)
theorem W8_args (c : Dev nD) : ∀ a ∈ argRefs, W8 m ρ c (Proc.devRef .tc a) = m ((c : Thread nD τ).loc a) :=
  fun a ha => (W8_of m ρ c a (hostOps0_7_args a ha)).trans (W7_args m ρ c a ha)
/-- After `hostOps0_8`. -/
abbrev W9 : Dev nD → Valuation τ sig (Elt F) := fun c => StableHlo.after hostOps0_8 (W8 m ρ c)
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem hostOps0_8_args : ∀ a ∈ argRefs, a ∉ hostOps0_8_W := ListAll.forall_mem_of_all_decide (by decide +kernel)
theorem W9_args (c : Dev nD) : ∀ a ∈ argRefs, W9 m ρ c (Proc.devRef .tc a) = m ((c : Thread nD τ).loc a) :=
  fun a ha => (W9_of m ρ c a (hostOps0_8_args a ha)).trans (W8_args m ρ c a ha)
/-- Call 0's entry contents. -/
abbrev X9 : (c : Dev nD) → (b : Ref sig .tc) → Buf (Elt F) ((c : Thread nD τ).loc b) := fun c b => W9 m ρ c b
/-- At call 0's exit: its arrays at what the pipeline leaves, every other buffer as entered. -/
def W10 (c : Dev nD) : Valuation τ sig (Elt F) :=
  Pipeline.withArrays spec0 c (W9 m ρ c) fun w => (dat0 (X9 m ρ) c).arrAt w cfg0.N
theorem W10_arr (c : Dev nD) (w : Fin cfg0.W) :
    W10 m ρ c (Proc.devRef .tc (Pipeline.arrRef spec0 w)) = (dat0 (X9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
theorem W10_of (c : Dev nD) (r : Ref sig .tc) (h : ∀ w : Fin cfg0.W, Pipeline.arrRef spec0 w = r → (cfg0.win w).isOut = false) :
    W10 m ρ c (Proc.devRef .tc r) = W9 m ρ c (Proc.devRef .tc r) := by
  by_cases hw : ∃ w : Fin cfg0.W, Pipeline.arrRef spec0 w = r
  · obtain ⟨w, rfl⟩ := hw
    exact (W10_arr m ρ c w).trans (((dat0 (X9 m ρ) c).arrAt_in w (h w rfl) _).trans (A_eq0 (X9 m ρ) c w))
  · exact W10_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn0 a ha)).trans (W9_args m ρ c a ha)
abbrev X10 : (c : Dev nD) → (b : Ref sig .tc) → Buf (Elt F) ((c : Thread nD τ).loc b) := fun c b => W10 m ρ c b
theorem hF0 (c : Dev nD) (w : Fin cfg0.W) : (dat0 (X9 m ρ) c).arrAt w cfg0.N = X10 m ρ c (Pipeline.arrRef spec0 w) :=
  (W10_arr m ρ c w).symm
theorem hrest0 (c : Dev nD) : ∀ b, b ∉ Finset.univ.image (Pipeline.arrRef spec0) → X10 m ρ c b = X9 m ρ c b :=
  fun b hb => W10_of_ne m ρ c b fun w e => hb (Finset.mem_image.mpr ⟨w, Finset.mem_univ _, e⟩)
/-- After `hostOps1`. -/
abbrev W11 : Dev nD → Valuation τ sig (Elt F) := fun c => StableHlo.after hostOps1 (W10 m ρ c)
theorem W11_of (c : Dev nD) (r : Ref sig .tc) (h : r ∉ hostOps1_W) : W11 m ρ c (Proc.devRef .tc r) = W10 m ρ c (Proc.devRef .tc r) :=
  StableHlo.after_of_writes_sub hostOps1 _ hostOps1_writes h
theorem hostOps1_args : ∀ a ∈ argRefs, a ∉ hostOps1_W := ListAll.forall_mem_of_all_decide (by decide +kernel)
theorem W11_args (c : Dev nD) : ∀ a ∈ argRefs, W11 m ρ c (Proc.devRef .tc a) = m ((c : Thread nD τ).loc a) :=
  fun a ha => (W11_of m ρ c a (hostOps1_args a ha)).trans (W10_args m ρ c a ha)
/-- Call 1's entry contents. -/
abbrev X11 : (c : Dev nD) → (b : Ref sig .tc) → Buf (Elt F) ((c : Thread nD τ).loc b) := fun c b => W11 m ρ c b
/-- At call 1's exit: its arrays at what the pipeline leaves, every other buffer as entered. -/
def W12 (c : Dev nD) : Valuation τ sig (Elt F) :=
  Pipeline.withArrays spec1 c (W11 m ρ c) fun w => (dat1 (X11 m ρ) c).arrAt w cfg1.N
theorem W12_arr (c : Dev nD) (w : Fin cfg1.W) :
    W12 m ρ c (Proc.devRef .tc (Pipeline.arrRef spec1 w)) = (dat1 (X11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
theorem W12_of (c : Dev nD) (r : Ref sig .tc) (h : ∀ w : Fin cfg1.W, Pipeline.arrRef spec1 w = r → (cfg1.win w).isOut = false) :
    W12 m ρ c (Proc.devRef .tc r) = W11 m ρ c (Proc.devRef .tc r) := by
  by_cases hw : ∃ w : Fin cfg1.W, Pipeline.arrRef spec1 w = r
  · obtain ⟨w, rfl⟩ := hw
    exact (W12_arr m ρ c w).trans (((dat1 (X11 m ρ) c).arrAt_in w (h w rfl) _).trans (A_eq1 (X11 m ρ) c w))
  · exact W12_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn1 a ha)).trans (W11_args m ρ c a ha)
abbrev X12 : (c : Dev nD) → (b : Ref sig .tc) → Buf (Elt F) ((c : Thread nD τ).loc b) := fun c b => W12 m ρ c b
theorem hF1 (c : Dev nD) (w : Fin cfg1.W) : (dat1 (X11 m ρ) c).arrAt w cfg1.N = X12 m ρ c (Pipeline.arrRef spec1 w) :=
  (W12_arr m ρ c w).symm
theorem hrest1 (c : Dev nD) : ∀ b, b ∉ Finset.univ.image (Pipeline.arrRef spec1) → X12 m ρ c b = X11 m ρ c b :=
  fun b hb => W12_of_ne m ρ c b fun w e => hb (Finset.mem_image.mpr ⟨w, Finset.mem_univ _, e⟩)
/-- After `hostOps2`. -/
abbrev W13 : Dev nD → Valuation τ sig (Elt F) := fun c => StableHlo.after hostOps2 (W12 m ρ c)
theorem W13_of (c : Dev nD) (r : Ref sig .tc) (h : r ∉ hostOps2_W) : W13 m ρ c (Proc.devRef .tc r) = W12 m ρ c (Proc.devRef .tc r) :=
  StableHlo.after_of_writes_sub hostOps2 _ hostOps2_writes h
theorem hostOps2_args : ∀ a ∈ argRefs, a ∉ hostOps2_W := ListAll.forall_mem_of_all_decide (by decide +kernel)
theorem W13_args (c : Dev nD) : ∀ a ∈ argRefs, W13 m ρ c (Proc.devRef .tc a) = m ((c : Thread nD τ).loc a) :=
  fun a ha => (W13_of m ρ c a (hostOps2_args a ha)).trans (W12_args m ρ c a ha)

/-! ## The thread state -/

abbrev adm : (p : Fin 2) → (pcfgs (F := F) p).Adm := fun p => (cfgs p).toPCfg_adm
/-- Each call's proof data, at its entry contents. -/
def pdats : (p : Fin 2) → (c : Dev nD) → Dat τ (Elt F) Unit ℕ (UR sig nD τ) ℕ (Pipeline.pin (pcfgs (F := F)) adm p) c
  | ⟨0, _⟩ => fun c => dat0 (X9 m ρ) c
  | ⟨1, _⟩ => fun c => dat1 (X11 m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m ρ c) ∗ ∃ r, prngReg c r)

theorem hin0 (V) (c : Dev nD) : Pipeline.ΦA spec0 c ⊢ (dat0 (F := F) V c).Φ 0 := by
  rw [show (dat0 V c).Φ 0 = Pipeline.ΦA spec0 c from rfl]
theorem hout0 (V) (c : Dev nD) : (dat0 (F := F) V c).Φ (Fin.last cfg0.N) ⊢ Pipeline.ΦA spec0 c := by
  rw [show (dat0 V c).Φ (Fin.last cfg0.N) = Pipeline.ΦA spec0 c from rfl]

set_option backward.isDefEq.respectTransparency.types false in
/-- Call 0 as a segment: entered at `W9`, left at `W10`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X9 m ρ) c).loose
  hwaits := Pipeline.hwaits_of_owed_zero _ _ _ _ L lv 0 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec0 c (X9 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (X9 m ρ c) (A_eq0 (X9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (X9 m ρ) c
    rw [show (pdats m ρ 0 c).Φ 0 = (dat0 (X9 m ρ) c).Φ 0 from rfl]
    iintro ⟨Hp, -, Hr⟩
    iapply h
    unfold Pipeline.ΦA
    isplitl [Hr]; · iexact Hr
    iexact Hp
  hout c := by
    have h := hout0 (X9 m ρ) c
    rw [Pipeline.ownSems0_none, show (pdats m ρ 0 c).Φ (Fin.last _) = (dat0 (X9 m ρ) c).Φ (Fin.last cfg0.N) from rfl]
    iintro H
    ihave H' := h $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (X9 m ρ c) (X10 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered at `W11`, left at `W12`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (X11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (X11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (X11 m ρ c) (A_eq1 (X11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (X11 m ρ) c
    rw [show (pdats m ρ 1 c).Φ 0 = (dat1 (X11 m ρ) c).Φ 0 from rfl]
    iintro ⟨Hp, -, Hr⟩
    iapply h
    unfold Pipeline.ΦA
    isplitl [Hr]; · iexact Hr
    iexact Hp
  hout c := by
    have h := hout1 (X11 m ρ) c
    rw [Pipeline.ownSems0_none, show (pdats m ρ 1 c).Φ (Fin.last _) = (dat1 (X11 m ρ) c).Φ (Fin.last cfg1.N) from rfl]
    iintro H
    ihave H' := h $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (X11 m ρ c) (X12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ),
    .host (hseg hostOps1 hostOps1_sub hostOps1_fresh (W10 m ρ)),
    .region (reg1 m ρ),
    .host (hseg hostOps2 hostOps2_sub hostOps2_fresh (W12 m ρ)) ]
theorem main_run (c : Dev nD) : main (F := F) c = Pipeline.Seg.run (segs m ρ) := (main_chain c).trans (by chain_rfl)
theorem no_unscoped : ∀ sm : SemLoc sig, sm.isScoped .tc = true := by decide

set_option backward.isDefEq.respectTransparency.types false in
/-- Every weakly fair execution ends with every unscoped buffer at the last boundary's contents, and every counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W13 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨fun c => h c, funext fun g => hz g (.inr (no_unscoped g.2))⟩)

theorem arg_uc : ∀ a ∈ argRefs, ¬ (Proc.devRef .tc a : DevRef τ sig).isScoped := ListAll.forall_mem_of_all_decide (by decide +kernel)

/-- The frame's arguments, one by one. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30))
      ∧ r.2.sem = fun _ => 0) :=
  (θ_run defs _ _).mono (fun r h => by
    have ha : ∀ c : Dev nD, ∀ a ∈ argRefs, r.2.mem ((c.tc : Thread nD τ).loc a) = m ((c.tc : Thread nD τ).loc a) :=
      fun c a hm => (h.1 c _ (mem_uc a (arg_uc a hm))).trans (W13_args m ρ c a hm)
    refine ⟨fun c => ?_, h.2⟩
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact ha c _ (by simp only [List.mem_cons, true_or, or_true])) (run m ρ)

end Cert.KernelIdeal.Hand

end
-- ==== Proof.VMath.lean ====
/- Real numbers inside the extended reals: the arithmetic of the addressing step, and the two expansions of the read head. -/
module

public import Idealize.ShloMosaic.Lib.Pointwise

@[expose] public section

noncomputable section

namespace Cert.Val

open Idealize.ShloMosaic

/-! ### Casts -/

/-- A sum of real numbers, taken in the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A quotient of real numbers by one that is not zero. -/
theorem div_real (a b : ℝ) (hb : b ≠ 0) : Ideal.div (a : EReal) (b : EReal) = ((a / b : ℝ) : EReal) := by
  rw [Ideal.div_coe hb, ← EReal.coe_mul]; congr 1; field_simp

theorem sqrt_real (a : ℝ) (h : 0 ≤ a) : Ideal.sqrt (a : EReal) = ((Real.sqrt a : ℝ) : EReal) := by
  rw [Ideal.sqrt_coe, if_neg (not_lt.2 h)]

theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- An extended real whose absolute value is below infinity is a real number. -/
theorem real_of_abs_lt (x : EReal) (h : max x (-x) < ⊤) : ∃ r : ℝ, x = (r : EReal) := by
  induction x with
  | bot => simp at h
  | coe r => exact ⟨r, rfl⟩
  | top => simp at h

/-- The greatest of finitely many real numbers is a real number. -/
theorem fold_max_real {n : ℕ} (hn : 0 < n) (f : Fin n → ℝ) :
    ∃ m : ℝ, Finset.univ.fold max (⊥ : EReal) (fun i => (f i : EReal)) = (m : EReal) := by
  haveI : Nonempty (Fin n) := ⟨⟨0, hn⟩⟩
  obtain ⟨i, _, hi⟩ := Finset.exists_mem_eq_sup (Finset.univ : Finset (Fin n)) Finset.univ_nonempty (fun i => (f i : EReal))
  exact ⟨f i, hi⟩

/-- The small number added to the denominators. -/
def eps : EReal := Ideal.ofBits .f32 0x322BCC77#32
theorem eps_pos : ∃ e : ℝ, 0 < e ∧ eps = (e : EReal) := by
  refine ⟨(1 * (2 ^ 23 + 2870391 : Nat) * (2 : ℝ) ^ (-50 : Int) : ℝ), by positivity, ?_⟩
  unfold eps Ideal.ofBits Ideal.ieee
  have h1 : ((0x322BCC77#32 : BitVec 32).extractLsb' (8 + 23) 1 == 1#1) = false := by decide
  have h2 : ((0x322BCC77#32 : BitVec 32).extractLsb' 23 8).toNat = 100 := by decide
  have h3 : ((0x322BCC77#32 : BitVec 32).extractLsb' 0 23).toNat = 2870391 := by decide
  dsimp only
  rw [h1, h2, h3]
  norm_num
theorem two_eq : Ideal.ofBits .f32 0x40000000#32 = ((2 : ℝ) : EReal) := by
  unfold Ideal.ofBits Ideal.ieee
  have h1 : ((0x40000000#32 : BitVec 32).extractLsb' (8 + 23) 1 == 1#1) = false := by decide
  have h2 : ((0x40000000#32 : BitVec 32).extractLsb' 23 8).toNat = 128 := by decide
  have h3 : ((0x40000000#32 : BitVec 32).extractLsb' 0 23).toNat = 0 := by decide
  dsimp only
  rw [h1, h2, h3]
  norm_num
theorem inf_eq : Ideal.ofBits .f32 0x7F800000#32 = ⊤ := by
  unfold Ideal.ofBits Ideal.ieee
  have h1 : ((0x7F800000#32 : BitVec 32).extractLsb' (8 + 23) 1 == 1#1) = false := by decide
  have h2 : ((0x7F800000#32 : BitVec 32).extractLsb' 23 8).toNat = 255 := by decide
  have h3 : ((0x7F800000#32 : BitVec 32).extractLsb' 0 23).toNat = 0 := by decide
  dsimp only
  rw [h1, h2, h3]
  norm_num
theorem ninf_eq : Ideal.ofBits .f32 0xFF800000#32 = ⊥ := by
  unfold Ideal.ofBits Ideal.ieee
  have h1 : ((0xFF800000#32 : BitVec 32).extractLsb' (8 + 23) 1 == 1#1) = true := by decide
  have h2 : ((0xFF800000#32 : BitVec 32).extractLsb' 23 8).toNat = 255 := by decide
  have h3 : ((0xFF800000#32 : BitVec 32).extractLsb' 0 23).toNat = 0 := by decide
  dsimp only
  rw [h1, h2, h3]
  norm_num

/-! ### The parameters of a head -/

/-- The smooth positive part `log (1 + exp x)`, in its stable form. -/
def soft (x : EReal) : EReal := max x 0 + Ideal.log1p (Ideal.exp (-max x (-x)))
theorem soft_real (r : ℝ) : ∃ s : ℝ, soft (r : EReal) = (s : EReal) := by
  refine ⟨max r 0 + Real.log (1 + Real.exp (-max r (-r))), ?_⟩
  unfold soft Ideal.log1p
  have h0 : (0 : EReal) = ((0 : ℝ) : EReal) := rfl
  have h1 : (1 : EReal) = ((1 : ℝ) : EReal) := rfl
  have hp : ¬ (1 + Real.exp (-max r (-r)) ≤ 0) := by have := Real.exp_pos (-max r (-r)); linarith
  rw [← EReal.coe_neg, coe_max, ← EReal.coe_neg, Ideal.exp_coe, h1, ← EReal.coe_add, Ideal.log_coe, if_neg hp, h0, coe_max, ← EReal.coe_add]

/-- A gate lies strictly between zero and one. -/
theorem logistic_real (r : ℝ) : ∃ s : ℝ, 0 < s ∧ s < 1 ∧ Ideal.logistic (r : EReal) = (s : EReal) := by
  have hp := Real.exp_pos (-r)
  refine ⟨(1 + Real.exp (-r))⁻¹, by positivity, ?_, Ideal.logistic_coe r⟩
  exact inv_lt_one_of_one_lt₀ (by linarith)

/-- The normalised exponentials of a row. -/
def smax {n : ℕ} (l : Fin n → EReal) (i : Fin n) : EReal :=
  Ideal.div (Ideal.exp (l i - Finset.univ.fold max ⊥ l)) (∑ k, Ideal.exp (l k - Finset.univ.fold max ⊥ l))
theorem smax_real {n : ℕ} (hn : 0 < n) (l : Fin n → ℝ) :
    ∃ s : Fin n → ℝ, (∀ i, 0 < s i) ∧ ∀ i, smax (fun k => (l k : EReal)) i = (s i : EReal) := by
  haveI : Nonempty (Fin n) := ⟨⟨0, hn⟩⟩
  obtain ⟨m, hm⟩ := fold_max_real hn l
  have hs : 0 < ∑ k, Real.exp (l k - m) := Finset.sum_pos (fun k _ => Real.exp_pos _) Finset.univ_nonempty
  refine ⟨fun i => Real.exp (l i - m) / ∑ k, Real.exp (l k - m), fun i => div_pos (Real.exp_pos _) hs, fun i => ?_⟩
  unfold smax
  simp only [hm, ← EReal.coe_sub, Ideal.exp_coe]
  rw [coe_sum, div_real _ _ hs.ne']

/-! ### The addressing of one row -/

/-- The similarity of a memory row and the key. -/
def simE (beta dots sqn ksq : EReal) : EReal := beta * Ideal.div dots (Ideal.sqrt sqn * Ideal.sqrt ksq + eps)
theorem sim_real (b d q k : ℝ) (hq : 0 ≤ q) (hk : 0 ≤ k) : ∃ s : ℝ, simE b d q k = (s : EReal) := by
  obtain ⟨e, he, hee⟩ := eps_pos
  have hp : 0 < Real.sqrt q * Real.sqrt k + e := by positivity
  refine ⟨b * (d / (Real.sqrt q * Real.sqrt k + e)), ?_⟩
  unfold simE
  rw [sqrt_real _ hq, sqrt_real _ hk, hee, ← EReal.coe_mul, ← EReal.coe_add, div_real _ _ hp.ne', ← EReal.coe_mul]

section
variable {n : ℕ} (nx pv : Fin n → Fin n) (z : Fin n → EReal) (g gam s0 s1 s2 : EReal) (pw : Fin n → EReal)

/-- The content weights mixed with the previous weights. -/
def wgE (i : Fin n) : EReal := g * smax z i + (1 - g) * pw i
/-- The mixed weights shifted by the three offsets. -/
def wsE (i : Fin n) : EReal := s0 * wgE z g pw (nx i) + s1 * wgE z g pw i + s2 * wgE z g pw (pv i)
/-- The sharpened weights before their normalisation, as a power. -/
def upE (i : Fin n) : EReal := Ideal.pow (wsE nx pv z g s0 s1 s2 pw i) gam
/-- The same through the logarithm. -/
def ueE (i : Fin n) : EReal := Ideal.exp (gam * Ideal.log (wsE nx pv z g s0 s1 s2 pw i))
/-- The weights of a head. -/
def addrE (i : Fin n) : EReal :=
  Ideal.div (ueE nx pv z g gam s0 s1 s2 pw i) (∑ k, ueE nx pv z g gam s0 s1 s2 pw k + eps)
end

/-- What a row of inputs of a head is when it is addressable: real numbers, the gate inside the unit interval, the shifts positive
    and the previous weights not negative. -/
structure Good {n : ℕ} (z : Fin n → EReal) (g gam s0 s1 s2 : EReal) (pw : Fin n → EReal) : Prop where
  z : ∃ Z : Fin n → ℝ, ∀ i, z i = (Z i : EReal)
  g : ∃ G : ℝ, 0 < G ∧ G < 1 ∧ g = (G : EReal)
  gam : ∃ C : ℝ, gam = (C : EReal)
  s0 : ∃ S : ℝ, 0 < S ∧ s0 = (S : EReal)
  s1 : ∃ S : ℝ, 0 < S ∧ s1 = (S : EReal)
  s2 : ∃ S : ℝ, 0 < S ∧ s2 = (S : EReal)
  pw : ∃ P : Fin n → ℝ, ∀ i, 0 ≤ P i ∧ pw i = (P i : EReal)

section
variable {n : ℕ} (nx pv : Fin n → Fin n) {z : Fin n → EReal} {g gam s0 s1 s2 : EReal} {pw : Fin n → EReal}

theorem Good.ws (hn : 0 < n) (h : Good z g gam s0 s1 s2 pw) : ∃ W : Fin n → ℝ, ∀ i, 0 < W i ∧ wsE nx pv z g s0 s1 s2 pw i = (W i : EReal) := by
  obtain ⟨Z, hZ⟩ := h.z
  obtain ⟨G, hG, hG1, hg⟩ := h.g
  obtain ⟨S0, h0, hs0⟩ := h.s0
  obtain ⟨S1, h1, hs1⟩ := h.s1
  obtain ⟨S2, h2, hs2⟩ := h.s2
  obtain ⟨P, hP⟩ := h.pw
  obtain rfl : z = fun i => (Z i : EReal) := funext hZ
  obtain ⟨c, hc, hce⟩ := smax_real hn Z
  have hwg : ∀ i, wgE (fun i => (Z i : EReal)) g pw i = ((G * c i + (1 - G) * P i : ℝ) : EReal) := fun i => by
    have e1 : (1 : EReal) = ((1 : ℝ) : EReal) := rfl
    unfold wgE
    rw [hce, (hP i).2, hg, e1, ← EReal.coe_sub, ← EReal.coe_mul, ← EReal.coe_mul, ← EReal.coe_add]
  have hwp : ∀ i, 0 < G * c i + (1 - G) * P i := fun i =>
    add_pos_of_pos_of_nonneg (mul_pos hG (hc i)) (mul_nonneg (by linarith) (hP i).1)
  refine ⟨fun i => S0 * (G * c (nx i) + (1 - G) * P (nx i)) + S1 * (G * c i + (1 - G) * P i) + S2 * (G * c (pv i) + (1 - G) * P (pv i)),
    fun i => ⟨?_, ?_⟩⟩
  · have := mul_pos h0 (hwp (nx i)); have := mul_pos h1 (hwp i); have := mul_pos h2 (hwp (pv i)); linarith
  · unfold wsE
    rw [hwg, hwg, hwg, hs0, hs1, hs2]
    simp only [← EReal.coe_mul, ← EReal.coe_add]

/-- The power and the exponential of the logarithm agree. -/
theorem Good.up (hn : 0 < n) (h : Good z g gam s0 s1 s2 pw) (i : Fin n) :
    upE nx pv z g gam s0 s1 s2 pw i = ueE nx pv z g gam s0 s1 s2 pw i := by
  obtain ⟨W, hW⟩ := h.ws nx pv hn
  obtain ⟨C, hC⟩ := h.gam
  unfold upE ueE
  rw [(hW i).2, hC, Ideal.pow_coe_coe, Ideal.log_coe, if_neg (not_le.2 (hW i).1), ← EReal.coe_mul, Ideal.exp_coe]
  congr 1
  show (W i) ^ C = _
  rw [Real.rpow_def_of_pos (hW i).1, mul_comm]

/-- The weights are real numbers. -/
theorem Good.addr (hn : 0 < n) (h : Good z g gam s0 s1 s2 pw) : ∃ A : Fin n → ℝ, ∀ i, addrE nx pv z g gam s0 s1 s2 pw i = (A i : EReal) := by
  haveI : Nonempty (Fin n) := ⟨⟨0, hn⟩⟩
  obtain ⟨W, hW⟩ := h.ws nx pv hn
  obtain ⟨C, hC⟩ := h.gam
  obtain ⟨e, he, hee⟩ := eps_pos
  have hu : ∀ i, ueE nx pv z g gam s0 s1 s2 pw i = ((Real.exp (C * Real.log (W i)) : ℝ) : EReal) := fun i => by
    unfold ueE
    rw [(hW i).2, hC, Ideal.log_coe, if_neg (not_le.2 (hW i).1), ← EReal.coe_mul, Ideal.exp_coe]
  have hs : 0 < ∑ k, Real.exp (C * Real.log (W k)) := Finset.sum_pos (fun k _ => Real.exp_pos _) Finset.univ_nonempty
  refine ⟨fun i => Real.exp (C * Real.log (W i)) / (∑ k, Real.exp (C * Real.log (W k)) + e), fun i => ?_⟩
  unfold addrE
  simp only [hu]
  rw [coe_sum, hee, ← EReal.coe_add, div_real _ _ (by linarith)]
end

/-! ### The read head's expansions -/

/-- The updated memory at one place. -/
def memE (m w e a : EReal) : EReal := m * (1 - w * e) + w * a
theorem mem_real (m w e a : ℝ) : memE m w e a = ((m * (1 - w * e) + w * a : ℝ) : EReal) := by
  have e1 : (1 : EReal) = ((1 : ℝ) : EReal) := rfl
  unfold memE
  simp only [e1, ← EReal.coe_mul, ← EReal.coe_sub, ← EReal.coe_add]

section
variable {n : ℕ} (m k e a : Fin n → ℝ) (w : ℝ)

/-- The key's product with the updated memory from products with the old one. -/
theorem dots_expand : (∑ d, (k d : EReal) * m d) - w * (∑ d, ((e d : EReal) * k d) * m d) + w * (∑ d, (a d : EReal) * k d)
    = ∑ d, memE (m d) w (e d) (a d) * k d := by
  simp only [mem_real, ← EReal.coe_mul, coe_sum, ← EReal.coe_sub, ← EReal.coe_add]
  congr 1
  rw [Finset.mul_sum, Finset.mul_sum, ← Finset.sum_sub_distrib, ← Finset.sum_add_distrib]
  exact Finset.sum_congr rfl fun d _ => by ring

/-- The squared length of the updated memory row from sums over the old one. -/
theorem sqn_expand : (∑ d, (1 : EReal) * ((m d : EReal) * m d)) - ((2 : ℝ) : EReal) * w * (∑ d, (e d : EReal) * ((m d : EReal) * m d))
      + ((w : EReal) * w) * (∑ d, ((e d : EReal) * e d) * ((m d : EReal) * m d)) + ((2 : ℝ) : EReal) * w * (∑ d, (a d : EReal) * m d)
      - ((2 : ℝ) : EReal) * ((w : EReal) * w) * (∑ d, ((a d : EReal) * e d) * m d) + ((w : EReal) * w) * (∑ d, (a d : EReal) * a d)
    = ∑ d, memE (m d) w (e d) (a d) * memE (m d) w (e d) (a d) := by
  have e1 : (1 : EReal) = ((1 : ℝ) : EReal) := rfl
  simp only [e1, mem_real, ← EReal.coe_mul, coe_sum, ← EReal.coe_sub, ← EReal.coe_add]
  congr 1
  simp only [Finset.mul_sum, ← Finset.sum_sub_distrib, ← Finset.sum_add_distrib]
  exact Finset.sum_congr rfl fun d _ => by ring

/-- A squared length is a real number that is not negative. -/
theorem sq_real (x : Fin n → ℝ) : ∃ q : ℝ, 0 ≤ q ∧ (∑ d, (x d : EReal) * x d) = (q : EReal) := by
  refine ⟨∑ d, x d * x d, Finset.sum_nonneg fun d _ => mul_self_nonneg _, ?_⟩
  simp only [← EReal.coe_mul, coe_sum]

/-- The weighted read of the updated memory from two reads of the old one. -/
theorem read_expand {N : ℕ} (m w r : Fin N → ℝ) (e a : ℝ) :
    (∑ i, (m i : EReal) * r i) - e * (∑ i, (m i : EReal) * ((r i : EReal) * w i)) + (∑ i, (r i : EReal) * w i) * a
      = ∑ i, memE (m i) (w i) e a * r i := by
  simp only [mem_real, ← EReal.coe_mul, coe_sum, ← EReal.coe_sub, ← EReal.coe_add]
  congr 1
  rw [Finset.mul_sum, Finset.sum_mul, ← Finset.sum_sub_distrib, ← Finset.sum_add_distrib]
  exact Finset.sum_congr rfl fun d _ => by ring
end

end Cert.Val

end
-- ==== Proof.VAddr.lean ====
/- The second call's addressing, read at one place of a row, for any inputs. -/
module

public import proofs.«01_k».proof.Proof.IAddr
public import proofs.«01_k».proof.Proof.VMath

@[expose] public section

set_option maxRecDepth 16384

noncomputable section

namespace Cert.Val

open Cert.KernelIdeal Cert.KernelIdeal.Gen Cert.KernelIdeal.Hand
open Idealize.ShloMosaic

/-- The mixed weights of eight rows, from the normalised similarities already scaled, the previous weights and their factor. -/
def wgV (pw a b : Vec Ideal S8x8192 .f32) : FVec Ideal S8x8192 .f32 := addf a (mulf b pw)

/-- The shifted weights of eight rows. -/
def wsV (s0 s1 s2 : FVec Ideal S8x1 .f32) (w : FVec Ideal S8x8192 .f32) : FVec Ideal S8x8192 .f32 :=
  addf (addf (mulf (broadcastTo S8x8192 s0 broadcasts_S8x1_S8x8192)
        (concatenate S8x8192 1 [⟨S8x8191, extractStridedSlice S8x8191 ![0, 1] w slices_S8x8192_o0_1_S8x8191⟩, ⟨S8x1, extractStridedSlice S8x1 ![0, 0] w slices_S8x8192_o0_0_S8x1⟩] concatenates_S8x8191_S8x1_S8x8192_d1))
      (mulf (broadcastTo S8x8192 s1 broadcasts_S8x1_S8x8192) w))
    (mulf (broadcastTo S8x8192 s2 broadcasts_S8x1_S8x8192)
      (concatenate S8x8192 1 [⟨S8x1, extractStridedSlice S8x1 ![0, 8191] w slices_S8x8192_o0_8191_S8x1⟩, ⟨S8x8191, extractStridedSlice S8x8191 ![0, 0] w slices_S8x8192_o0_0_S8x8191⟩] concatenates_S8x1_S8x8191_S8x8192_d1))

/-- The sharpened weights of eight rows before their normalisation. -/
def uV (gam : FVec Ideal S8x1 .f32) (ws : FVec Ideal S8x8192 .f32) : FVec Ideal S8x8192 .f32 :=
  exp (mulf (broadcastTo S8x8192 gam broadcasts_S8x1_S8x8192) (log ws))

/-- The normalised weights of eight rows. -/
def nmV (u : FVec Ideal S8x8192 .f32) : FVec Ideal S8x8192 .f32 :=
  divf u (broadcastTo S8x8192 (addf (shapeCast S8x1 (multiReduction .add [1] S8 u 0x00000000#32 reduces_S8x8192_S8 (.inl rfl) rfl) shapeCasts_S8_S8x1)
    (broadcast S8x1 (Scalar.ofBits .f32 0x322BCC77#32))) broadcasts_S8x1_S8x8192)

/-- The content weights before their normalisation, for similarities already computed. -/
def exV (z : FVec Ideal S8x8192 .f32) : FVec Ideal S8x8192 .f32 :=
  exp (subf z (broadcastTo S8x8192 (shapeCast S8x1 (multiReduction .maximumf [1] S8 z 0xFF800000#32 reduces_S8x8192_S8 (.inl rfl) rfl) shapeCasts_S8_S8x1) broadcasts_S8x1_S8x8192))

/-- The similarities of eight rows. -/
def simV (beta ksq : FVec Ideal S8x1 .f32) (d q : FVec Ideal S8x8192 .f32) : FVec Ideal S8x8192 .f32 :=
  mulf (broadcastTo S8x8192 beta broadcasts_S8x1_S8x8192) (divf d (addf (mulf (sqrt (maximumf q (broadcast S8x8192 (Scalar.ofBits .f32 0x00000000#32))))
    (broadcastTo S8x8192 (sqrt ksq) broadcasts_S8x1_S8x8192)) (broadcast S8x8192 (Scalar.ofBits .f32 0x322BCC77#32))))

/-- The next and the previous place of a row, in a circle. -/
def nxt (n : Fin 8192) : Fin 8192 := if h : n.val < 8191 then ⟨n.val + 1, by omega⟩ else ⟨0, by omega⟩
def prv (n : Fin 8192) : Fin 8192 := if h : n.val < 1 then ⟨8191, by omega⟩ else ⟨n.val - 1, by omega⟩

theorem wgV_at (pw a b : Vec Ideal S8x8192 .f32) (r : Fin 8) (n : Fin 8192) : wgV pw a b (ix2 r n) = a (ix2 r n) + b (ix2 r n) * pw (ix2 r n) := rfl

theorem wsV_at (s0 s1 s2 : FVec Ideal S8x1 .f32) (w : FVec Ideal S8x8192 .f32) (r : Fin 8) (n : Fin 8192) :
    wsV s0 s1 s2 w (ix2 r n) = s0 (ix2 r 0) * w (ix2 r (nxt n)) + s1 (ix2 r 0) * w (ix2 r n) + s2 (ix2 r 0) * w (ix2 r (prv n)) := by
  pointwise [wsV]
  have e1 : (if h : n.val < 8191 then w (ix2 r ⟨1 + n.val, by omega⟩) else w (ix2 r ⟨n.val - 8191, by omega⟩)) = w (ix2 r (nxt n)) := by
    unfold nxt
    split
    · exact congrArg (fun i => w (ix2 r i)) (Fin.ext (Nat.add_comm _ _))
    · exact congrArg (fun i => w (ix2 r i)) (Fin.ext (show n.val - 8191 = 0 by omega))
  have e2 : (if h : n.val < 1 then w (ix2 r ⟨8191 + n.val, by omega⟩) else w (ix2 r ⟨n.val - 1, by omega⟩)) = w (ix2 r (prv n)) := by
    unfold prv
    split
    · exact congrArg (fun i => w (ix2 r i)) (Fin.ext (show 8191 + n.val = 8191 by omega))
    · rfl
  exact congrArg₂ (fun a b => s0 (ix2 r 0) * a + s1 (ix2 r 0) * w (ix2 r n) + s2 (ix2 r 0) * b) e1 e2
theorem uV_at (gam : FVec Ideal S8x1 .f32) (ws : FVec Ideal S8x8192 .f32) (r : Fin 8) (n : Fin 8192) :
    uV gam ws (ix2 r n) = Ideal.exp (gam (ix2 r 0) * Ideal.log (ws (ix2 r n))) := by
  pointwise [uV]
theorem nmV_at (u : FVec Ideal S8x8192 .f32) (r : Fin 8) (n : Fin 8192) :
    nmV u (ix2 r n) = Ideal.div (u (ix2 r n)) (∑ k : Fin 8192, u (ix2 r k) + eps) := by
  pointwise [nmV]
  rfl
theorem exV_at (z : FVec Ideal S8x8192 .f32) (r : Fin 8) (n : Fin 8192) :
    exV z (ix2 r n) = Ideal.exp (z (ix2 r n) - Finset.univ.fold max ⊥ fun k : Fin 8192 => z (ix2 r k)) := by
  pointwise [exV, ninf_eq]
theorem simV_at (beta ksq : FVec Ideal S8x1 .f32) (d q : FVec Ideal S8x8192 .f32) (r : Fin 8) (n : Fin 8192) :
    simV beta ksq d q (ix2 r n) = simE (beta (ix2 r 0)) (d (ix2 r n)) (max (q (ix2 r n)) 0) (ksq (ix2 r 0)) := by
  pointwise [simV, simE]
  rfl

/-- The family row as eight rows of weights. -/
def slabV (v : Vec Ideal S1x8x8192 .f32) : FVec Ideal S8x8192 .f32 := shapeCast S8x8192 v shapeCasts_S1x8x8192_S8x8192
theorem slabV_at (v : Vec Ideal S1x8x8192 .f32) (r : Fin 8) (n : Fin 8192) : slabV v (ix2 r n) = v (ix3 0 r n) := by
  pointwise [slabV]

/-- Column `j` of the parameters. -/
def colV (j : ℕ) (h : S8x128.Slices ![0, j] S8x1) (p : Vec Ideal S8x128 .f32) : FVec Ideal S8x1 .f32 := extractStridedSlice S8x1 ![0, j] p h

theorem pay113_eq (v19 v21 : Vec Ideal S1x8x8192 .f32) (p : Vec Ideal S8x128 .f32) :
    k1_pay113 v19 v21 p = mulf (broadcastTo S8x8192 (k1_pay108 p) broadcasts_S8x1_S8x8192)
      (divf (exV (simV (colV 0 slices_S8x128_o0_0_S8x1 (k1_pay107 p)) (colV 6 slices_S8x128_o0_6_S8x1 (k1_pay107 p)) (slabV v19) (slabV v21)))
        (broadcastTo S8x8192 (shapeCast S8x1 (multiReduction .add [1] S8 (exV (simV (colV 0 slices_S8x128_o0_0_S8x1 (k1_pay107 p)) (colV 6 slices_S8x128_o0_6_S8x1 (k1_pay107 p)) (slabV v19) (slabV v21)))
          0x00000000#32 reduces_S8x8192_S8 (.inl rfl) rfl) shapeCasts_S8_S8x1) broadcasts_S8x1_S8x8192)) := rfl

theorem pay115_eq (pw : Vec Ideal S8x8192 .f32) (gam s0 s1 s2 : FVec Ideal S8x1 .f32) (a b : FVec Ideal S8x8192 .f32) :
    k1_pay115 pw gam s0 s1 s2 a b = nmV (uV gam (wsV s0 s1 s2 (wgV pw a b))) := rfl

theorem pay126_eq (pw : Vec Ideal S8x8192 .f32) (g gam s0 s1 s2 : FVec Ideal S8x1 .f32) (e : FVec Ideal S8x8192 .f32) (s : FVec Ideal S8 .f32) :
    k1_pay126 pw g gam s0 s1 s2 e s = nmV (uV gam (wsV s0 s1 s2 (wgV pw
      (mulf (broadcastTo S8x8192 g broadcasts_S8x1_S8x8192) (divf e (broadcastTo S8x8192 (shapeCast S8x1 s shapeCasts_S8_S8x1) broadcasts_S8x1_S8x8192)))
      (broadcastTo S8x8192 (subf (broadcast S8x1 (Scalar.ofBits .f32 0x3F800000#32)) g) broadcasts_S8x1_S8x8192)))) := rfl

theorem pay124_eq (v16 : FVec Ideal S8x128 .f32) (v18 : FVec Ideal S8x1 .f32) (v83 v84 v93 v101 : FVec Ideal S8x8192 .f32) (v102 v108 v114 : Vec Ideal S1x8x8192 .f32) :
    k1_pay124 v16 v18 v83 v84 v93 v101 v102 v108 v114 = exV (simV (colV 0 slices_S8x128_o0_0_S8x1 v16) (colV 6 slices_S8x128_o0_6_S8x1 v16) v93
      (addf (subf (addf (addf v101 (mulf v84 (slabV v102))) (mulf (mulf (broadcast S8x8192 (Scalar.ofBits .f32 0x40000000#32)) v83) (slabV v108)))
        (mulf (mulf (broadcast S8x8192 (Scalar.ofBits .f32 0x40000000#32)) v84) (slabV v114))) (mulf v84 (broadcastTo S8x8192 v18 broadcasts_S8x1_S8x8192)))) := rfl

theorem par0_eq (x : Vec Ideal S8x128 .f32) : par0 x = x :=
  View.ld_unit_zero (S := S8x128) (off := ![0, 0]) (by funext a; fin_cases a <;> rfl) inb_S8x128_S8x128_0_0 x
theorem wts0_eq (x : Vec Ideal S8x8192 .f32) : wts0 x = x :=
  View.ld_unit_zero (S := S8x8192) (off := ![0, 0]) (by funext a; fin_cases a <;> rfl) inb_S8x8192_S8x8192_0_0 x
theorem famSlab_at (Fam : Vec Ideal S8x8x8192 .f32) (f r : Fin 8) (n : Fin 8192) : famSlab Fam f (ix3 0 r n) = Fam (ix3 f r n) := by
  show Fam _ = Fam _
  congr 1
  funext a
  apply Fin.ext
  match a with
  | 0 => show f.val + 1 * 0 = f.val; omega
  | 1 => show 0 + 1 * r.val = r.val; omega
  | 2 => show 0 + 1 * n.val = n.val; omega

section
variable (Fam : Vec Ideal S8x8x8192 .f32) (x3 : Vec Ideal S8x128 .f32) (x4 : Vec Ideal S8x8192 .f32) (x5 : Vec Ideal S8x128 .f32) (x6 : Vec Ideal S8x8192 .f32)
  (r : Fin 8)

/-- The write head's similarities. -/
def zW (k : Fin 8192) : EReal := simE (x3 (ix2 r 0)) (Fam (ix3 0 r k)) (max (Fam (ix3 5 r k)) 0) (x3 (ix2 r 6))
/-- The write weights. -/
def wwE : Fin 8192 → EReal :=
  addrE nxt prv (zW Fam x3 r) (x3 (ix2 r 1)) (x3 (ix2 r 2)) (x3 (ix2 r 3)) (x3 (ix2 r 4)) (x3 (ix2 r 5)) fun k => x4 (ix2 r k)
/-- The read head's products and squared lengths by the expansion, and its similarities. -/
def dotE (k : Fin 8192) : EReal := Fam (ix3 1 r k) - wwE Fam x3 x4 r k * Fam (ix3 2 r k) + wwE Fam x3 x4 r k * x5 (ix2 r 7)
def sqnE (k : Fin 8192) : EReal :=
  Fam (ix3 5 r k) - Ideal.ofBits .f32 0x40000000#32 * wwE Fam x3 x4 r k * Fam (ix3 6 r k)
    + wwE Fam x3 x4 r k * wwE Fam x3 x4 r k * Fam (ix3 7 r k) + Ideal.ofBits .f32 0x40000000#32 * wwE Fam x3 x4 r k * Fam (ix3 3 r k)
    - Ideal.ofBits .f32 0x40000000#32 * (wwE Fam x3 x4 r k * wwE Fam x3 x4 r k) * Fam (ix3 4 r k)
    + wwE Fam x3 x4 r k * wwE Fam x3 x4 r k * x5 (ix2 r 8)
def zR (k : Fin 8192) : EReal := simE (x5 (ix2 r 0)) (dotE Fam x3 x4 x5 r k) (max (sqnE Fam x3 x4 x5 r k) 0) (x5 (ix2 r 6))
/-- The read weights. -/
def wrE : Fin 8192 → EReal :=
  addrE nxt prv (zR Fam x3 x4 x5 r) (x5 (ix2 r 1)) (x5 (ix2 r 2)) (x5 (ix2 r 3)) (x5 (ix2 r 4)) (x5 (ix2 r 5)) fun k => x6 (ix2 r k)

/-- Weights built from content weights in eight rows are the weights of each row. -/
theorem addr_at (z pw wg : FVec Ideal S8x8192 .f32) (gam s0 s1 s2 : FVec Ideal S8x1 .f32) (g : EReal) (n : Fin 8192)
    (hg : ∀ k, wg (ix2 r k) = g * Ideal.div (exV z (ix2 r k)) (∑ j : Fin 8192, exV z (ix2 r j)) + (1 - g) * pw (ix2 r k)) :
    nmV (uV gam (wsV s0 s1 s2 wg)) (ix2 r n)
      = addrE nxt prv (fun k => z (ix2 r k)) g (gam (ix2 r 0)) (s0 (ix2 r 0)) (s1 (ix2 r 0)) (s2 (ix2 r 0)) (fun k => pw (ix2 r k)) n := by
  have h : ∀ k, wg (ix2 r k) = wgE (fun k => z (ix2 r k)) g (fun k => pw (ix2 r k)) k := fun k => by
    rw [hg]; simp only [exV_at]; rfl
  rw [nmV_at]
  simp only [uV_at, wsV_at, h]
  rfl

theorem wwVal_at (n : Fin 8192) : wwVal Fam x3 x4 (ix2 r n) = wwE Fam x3 x4 r n := by
  unfold wwVal wSim
  rw [par0_eq, wts0_eq, pay113_eq, pay115_eq]
  refine (addr_at r (simV (colV 0 slices_S8x128_o0_0_S8x1 (k1_pay107 x3)) (colV 6 slices_S8x128_o0_6_S8x1 (k1_pay107 x3)) (slabV (famSlab Fam 0)) (slabV (famSlab Fam 5)))
    x4 _ _ _ _ _ (x3 (ix2 r 1)) n ?_).trans ?_
  · intro k
    rw [wgV_at]
    generalize exV _ = ex
    pointwise [k1_pay108, k1_pay107, k1_pay114]
  · have hz : (fun k => simV (colV 0 slices_S8x128_o0_0_S8x1 (k1_pay107 x3)) (colV 6 slices_S8x128_o0_6_S8x1 (k1_pay107 x3)) (slabV (famSlab Fam 0)) (slabV (famSlab Fam 5)) (ix2 r k)) = zW Fam x3 r := by
      funext k
      rw [simV_at, slabV_at, slabV_at, famSlab_at, famSlab_at]
      pointwise [colV, k1_pay107, zW]
    rw [hz]
    have h2 : k1_pay109 x3 (ix2 r 0) = x3 (ix2 r 2) := by pointwise [k1_pay109, k1_pay107]
    have h3 : k1_pay110 x3 (ix2 r 0) = x3 (ix2 r 3) := by pointwise [k1_pay110, k1_pay107]
    have h4 : k1_pay111 x3 (ix2 r 0) = x3 (ix2 r 4) := by pointwise [k1_pay111, k1_pay107]
    have h5 : k1_pay112 x3 (ix2 r 0) = x3 (ix2 r 5) := by pointwise [k1_pay112, k1_pay107]
    rw [h2, h3, h4, h5]
    rfl

theorem dotsVal_at (n : Fin 8192) : dotsVal Fam x3 x4 x5 (ix2 r n) = dotE Fam x3 x4 x5 r n := by
  have e : dotsVal Fam x3 x4 x5 = addf (subf (slabV (famSlab Fam 1)) (mulf (wwVal Fam x3 x4) (slabV (famSlab Fam 2))))
    (mulf (wwVal Fam x3 x4) (broadcastTo S8x8192 (k1_pay105 (par0 x5)) broadcasts_S8x1_S8x8192)) := rfl
  rw [e, par0_eq]
  unfold dotE
  rw [← wwVal_at, ← famSlab_at Fam 1, ← famSlab_at Fam 2, ← slabV_at (famSlab Fam 1), ← slabV_at (famSlab Fam 2)]
  generalize wwVal Fam x3 x4 = w
  generalize slabV (famSlab Fam 1) = a
  generalize slabV (famSlab Fam 2) = b
  pointwise [k1_pay105, k1_pay104]

/-- The squared lengths of eight rows by the expansion, and the read head's similarities. -/
def sqnV : FVec Ideal S8x8192 .f32 := (addf (subf (addf (addf (subf (slabV (famSlab Fam 5)) (mulf (mulf (broadcast S8x8192 (Scalar.ofBits .f32 0x40000000#32)) (wwVal Fam x3 x4)) (slabV (famSlab Fam 6))))
        (mulf (mulf (wwVal Fam x3 x4) (wwVal Fam x3 x4)) (slabV (famSlab Fam 7)))) (mulf (mulf (broadcast S8x8192 (Scalar.ofBits .f32 0x40000000#32)) (wwVal Fam x3 x4)) (slabV (famSlab Fam 3))))
        (mulf (mulf (broadcast S8x8192 (Scalar.ofBits .f32 0x40000000#32)) (mulf (wwVal Fam x3 x4) (wwVal Fam x3 x4))) (slabV (famSlab Fam 4))))
        (mulf (mulf (wwVal Fam x3 x4) (wwVal Fam x3 x4)) (broadcastTo S8x8192 (k1_pay106 x5) broadcasts_S8x1_S8x8192)))
def zRV : FVec Ideal S8x8192 .f32 :=
  simV (colV 0 slices_S8x128_o0_0_S8x1 (k1_pay104 x5)) (colV 6 slices_S8x128_o0_6_S8x1 (k1_pay104 x5)) (dotsVal Fam x3 x4 x5) (sqnV Fam x3 x4 x5)

theorem rSim_eq : rSim Fam x3 x4 x5 = exV (zRV Fam x3 x4 x5) := by
  have h : rSim Fam x3 x4 x5 = exV (simV (colV 0 slices_S8x128_o0_0_S8x1 (k1_pay104 (par0 x5))) (colV 6 slices_S8x128_o0_6_S8x1 (k1_pay104 (par0 x5))) (dotsVal Fam x3 x4 x5)
    (sqnV Fam x3 x4 (par0 x5))) := rfl
  rw [h, par0_eq]
  rfl

/-- The read weights before they are stored. -/
def wrV : FVec Ideal S8x8192 .f32 :=
  k1_pay126 (wts0 x6) (k1_pay119 (k1_pay104 (par0 x5))) (k1_pay120 (k1_pay104 (par0 x5))) (k1_pay121 (k1_pay104 (par0 x5))) (k1_pay122 (k1_pay104 (par0 x5))) (k1_pay123 (k1_pay104 (par0 x5))) (rSim Fam x3 x4 x5) (rMax Fam x3 x4 x5)

theorem sqn_at (n : Fin 8192) : sqnV Fam x3 x4 x5 (ix2 r n) = sqnE Fam x3 x4 x5 r n := by
  unfold sqnE sqnV
  rw [← wwVal_at, ← famSlab_at Fam 5, ← famSlab_at Fam 6, ← famSlab_at Fam 7, ← famSlab_at Fam 3, ← famSlab_at Fam 4, ← slabV_at (famSlab Fam 5), ← slabV_at (famSlab Fam 6), ← slabV_at (famSlab Fam 7), ← slabV_at (famSlab Fam 3), ← slabV_at (famSlab Fam 4)]
  generalize wwVal Fam x3 x4 = w
  generalize slabV (famSlab Fam 5) = a5
  generalize slabV (famSlab Fam 6) = a6
  generalize slabV (famSlab Fam 7) = a7
  generalize slabV (famSlab Fam 3) = a3
  generalize slabV (famSlab Fam 4) = a4
  pointwise [k1_pay106, k1_pay104]

theorem wrV_at (n : Fin 8192) : wrV Fam x3 x4 x5 x6 (ix2 r n) = wrE Fam x3 x4 x5 x6 r n := by
  have em : rMax Fam x3 x4 x5 = multiReduction .add [1] S8 (rSim Fam x3 x4 x5) 0x00000000#32 reduces_S8x8192_S8 (.inl rfl) rfl := rfl
  unfold wrV
  rw [em, rSim_eq, par0_eq, wts0_eq, pay126_eq]
  refine (addr_at r (zRV Fam x3 x4 x5) x6 _ _ _ _ _ (x5 (ix2 r 1)) n ?_).trans ?_
  · intro k
    rw [wgV_at]
    generalize exV _ = ex
    pointwise [k1_pay119, k1_pay104]
  · have hz : (fun k => zRV Fam x3 x4 x5 (ix2 r k)) = zR Fam x3 x4 x5 r := by
      funext k
      unfold zRV
      rw [simV_at, dotsVal_at, sqn_at]
      unfold zR
      pointwise [colV, k1_pay104]
    rw [hz]
    have h2 : k1_pay120 (k1_pay104 x5) (ix2 r 0) = x5 (ix2 r 2) := by pointwise [k1_pay120, k1_pay104]
    have h3 : k1_pay121 (k1_pay104 x5) (ix2 r 0) = x5 (ix2 r 3) := by pointwise [k1_pay121, k1_pay104]
    have h4 : k1_pay122 (k1_pay104 x5) (ix2 r 0) = x5 (ix2 r 4) := by pointwise [k1_pay122, k1_pay104]
    have h5 : k1_pay123 (k1_pay104 x5) (ix2 r 0) = x5 (ix2 r 5) := by pointwise [k1_pay123, k1_pay104]
    rw [h2, h3, h4, h5]
    rfl

theorem wrVal_at (n : Fin 8192) : wrVal Fam x3 x4 x5 x6 (ix2 r n) = wrE Fam x3 x4 x5 x6 r n := by
  have e : wrVal Fam x3 x4 x5 x6 = shapeCast S8x8192 (wrV Fam x3 x4 x5 x6) shapeCasts_S8x8192_S8x8192 := rfl
  rw [← wrV_at, e]
  pointwise
theorem wrwwVal_at (n : Fin 8192) : wrwwVal Fam x3 x4 x5 x6 (ix2 r n) = wrE Fam x3 x4 x5 x6 r n * wwE Fam x3 x4 r n := by
  have e : wrwwVal Fam x3 x4 x5 x6 = shapeCast S8x8192 (mulf (wrV Fam x3 x4 x5 x6) (wwVal Fam x3 x4)) shapeCasts_S8x8192_S8x8192 := rfl
  rw [← wrV_at, ← wwVal_at, e]
  pointwise
theorem swrVal_at : swrVal Fam x3 x4 x5 x6 (ix2 r 0) = ∑ n : Fin 8192, wrE Fam x3 x4 x5 x6 r n * wwE Fam x3 x4 r n := by
  have e : swrVal Fam x3 x4 x5 x6 = shapeCast S8x1 (shapeCast S8x1 (multiReduction .add [1] S8 (mulf (wrV Fam x3 x4 x5 x6) (wwVal Fam x3 x4)) 0x00000000#32 reduces_S8x8192_S8 (.inl rfl) rfl) shapeCasts_S8_S8x1) shapeCasts_S8x1_S8x1 := rfl
  simp only [← wrV_at, ← wwVal_at, e]
  pointwise

end

end Cert.Val

end
-- ==== Proof.VHead.lean ====
/- The first call's outputs, read at one place of a row. -/
module

public import proofs.«01_k».proof.Proof.IRegion0
public import proofs.«01_k».proof.Proof.VMath

@[expose] public section

set_option maxRecDepth 16384

noncomputable section

namespace Cert.Val

open Cert.KernelIdeal Cert.KernelIdeal.Gen Cert.KernelIdeal.Hand
open Idealize.ShloMosaic

/-- A row of a linear map with a bias. -/
def linE {m : ℕ} (h : Fin m → EReal) (w : Fin m → EReal) (b : EReal) : EReal := (∑ k, h k * w k) + b

/-! ### Payloads at a place -/

theorem pay2_at (x0 : Vec Ideal S64x192 .f32) (x1 : Vec Ideal S192x256 .f32) (x2 : Vec Ideal S1x256 .f32) (b : Fin 64) (j : Fin 256) :
    k0_pay2 x0 x1 x2 (ix2 b j) = max (linE (fun k => x0 (ix2 b k)) (fun k => x1 (ix2 k j)) (x2 (ix2 0 j))) 0 := by
  pointwise [k0_pay2, linE]

section
variable (x0 : Vec Ideal S64x192 .f32) (x1 : Vec Ideal S192x256 .f32) (x2 : Vec Ideal S1x256 .f32) (W : Vec Ideal S256x64 .f32) (bias : Vec Ideal S1x64 .f32) (b d : Fin 64)
theorem pay3_at : k0_pay3 x0 x1 x2 W bias (ix2 b d) = linE (fun k => k0_pay2 x0 x1 x2 (ix2 b k)) (fun k => W (ix2 k d)) (bias (ix2 0 d)) := by
  unfold k0_pay3
  generalize k0_pay2 x0 x1 x2 = h
  pointwise [linE]
theorem pay4_at : k0_pay4 x0 x1 x2 W bias (ix2 b d) = linE (fun k => k0_pay2 x0 x1 x2 (ix2 b k)) (fun k => W (ix2 k d)) (bias (ix2 0 d)) := by
  unfold k0_pay4
  generalize k0_pay2 x0 x1 x2 = h
  pointwise [linE]
theorem pay5_at : k0_pay5 x0 x1 x2 W bias (ix2 b d) = Ideal.logistic (linE (fun k => k0_pay2 x0 x1 x2 (ix2 b k)) (fun k => W (ix2 k d)) (bias (ix2 0 d))) := by
  unfold k0_pay5
  generalize k0_pay2 x0 x1 x2 = h
  pointwise [linE]
theorem pay6_at (h : FVec Ideal S64x256 .f32) :
    k0_pay6 h W (constant S64x64 .f32 0x00000000#32) bias (ix2 b d) = Ideal.tanh (linE (fun k => h (ix2 b k)) (fun k => W (ix2 k d)) (bias (ix2 0 d))) := by
  pointwise [k0_pay6, linE]
end

/-- The kernel's smooth positive part. -/
theorem soft_form (x : EReal) : (if x ≠ x then x else max x 0 + Ideal.log1p (Ideal.exp (0 - FloatOps.absf (F := Ideal) (φ := .f32) x))) = soft x := by
  rw [if_neg (not_not.2 rfl), zero_sub]
  rfl

section
variable (h : FVec Ideal S64x256 .f32) (W : Vec Ideal S256x128 .f32) (bias : Vec Ideal S1x128 .f32) (b : Fin 64)
theorem pay14_at (j : Fin 128) : k0_pay14 h W bias (ix2 b j) = linE (fun k => h (ix2 b k)) (fun k => W (ix2 k j)) (bias (ix2 0 j)) := by
  pointwise [k0_pay14, linE]
theorem pay20_at (j : Fin 128) : k0_pay20 h W bias (ix2 b j) = linE (fun k => h (ix2 b k)) (fun k => W (ix2 k j)) (bias (ix2 0 j)) := by
  pointwise [k0_pay20, linE]
theorem pay15_at : k0_pay15 h W bias (ix2 b 0) = soft (k0_pay14 h W bias (ix2 b 0)) := by
  rw [← soft_form]
  unfold k0_pay15
  generalize k0_pay14 h W bias = p
  pointwise
theorem pay16_at : k0_pay16 h W bias (ix2 b 0) = Ideal.logistic (k0_pay14 h W bias (ix2 b 1)) := by
  unfold k0_pay16
  generalize k0_pay14 h W bias = p
  pointwise
theorem pay17_at : k0_pay17 h W bias (ix2 b 0) = soft (k0_pay14 h W bias (ix2 b 2)) + 1 := by
  rw [← soft_form]
  unfold k0_pay17
  generalize k0_pay14 h W bias = p
  pointwise
/-- Three neighbouring columns from the third. -/
def tri (p : Fin 128 → EReal) (i : Fin 3) : EReal := p ⟨3 + i.val, by omega⟩
theorem pay18_at (i : Fin 3) : k0_pay18 h W bias (ix2 b i) = tri (fun j => k0_pay14 h W bias (ix2 b j)) i - Finset.univ.fold max ⊥ (tri fun j => k0_pay14 h W bias (ix2 b j)) := by
  unfold k0_pay18 tri
  generalize k0_pay14 h W bias = p
  pointwise [ninf_eq]
end

/-! ### The outputs at a place -/

section
variable (x0 : Vec Ideal S64x192 .f32) (x1 : Vec Ideal S192x256 .f32) (x2 : Vec Ideal S1x256 .f32) (x3 : Vec Ideal S256x64 .f32) (x4 : Vec Ideal S1x64 .f32) (x5 : Vec Ideal S256x64 .f32) (x6 : Vec Ideal S1x64 .f32) (x7 : Vec Ideal S256x64 .f32) (x8 : Vec Ideal S1x64 .f32) (x9 : Vec Ideal S256x64 .f32) (x10 : Vec Ideal S1x64 .f32) (x11 : Vec Ideal S256x128 .f32) (x12 : Vec Ideal S1x128 .f32) (x13 : Vec Ideal S256x128 .f32) (x14 : Vec Ideal S1x128 .f32) (b : Fin 64)

/-- The hidden row, the two keys, the erase and add rows, and the raw parameters. -/
def hK (j : Fin 256) : EReal := max (linE (fun k => x0 (ix2 b k)) (fun k => x1 (ix2 k j)) (x2 (ix2 0 j))) 0
def lnK (W : Vec Ideal S256x64 .f32) (bias : Vec Ideal S1x64 .f32) (d : Fin 64) : EReal := linE (hK x0 x1 x2 b) (fun k => W (ix2 k d)) (bias (ix2 0 d))
def rwK (W : Vec Ideal S256x128 .f32) (bias : Vec Ideal S1x128 .f32) (j : Fin 128) : EReal := linE (hK x0 x1 x2 b) (fun k => W (ix2 k j)) (bias (ix2 0 j))

theorem z2 : (![0, 0] : Fin 2 → ℕ) = fun _ => 0 := by funext a; fin_cases a <;> rfl
theorem z3 : (![0, 0, 0] : Fin 3 → ℕ) = fun _ => 0 := by funext a; fin_cases a <;> rfl

theorem hV : k0_pay29 x0 x1 x2 x3 x4 x5 x6 x7 x8 x9 x10 x11 x12 x13 x14 = k0_pay2 x0 x1 x2 := by
  unfold k0_pay29
  rw [View.ld_unit_zero (S := S64x192) z2 _ x0, View.ld_unit_zero (S := S192x256) z2 _ x1, View.ld_unit_zero (S := S1x256) z2 _ x2]
theorem kr_at (d : Fin 64) : k0_pay30 x0 x1 x2 x3 x4 x5 x6 x7 x8 x9 x10 x11 x12 x13 x14 (ix2 b d) = lnK x0 x1 x2 b x3 x4 d := by
  unfold k0_pay30
  rw [View.ld_unit_zero (S := S64x192) z2 _ x0, View.ld_unit_zero (S := S192x256) z2 _ x1, View.ld_unit_zero (S := S1x256) z2 _ x2, View.ld_unit_zero (S := S256x64) z2 _ x3, View.ld_unit_zero (S := S1x64) z2 _ x4, pay3_at]
  simp only [pay2_at]
  rfl
theorem kw_at (d : Fin 64) : k0_pay31 x0 x1 x2 x3 x4 x5 x6 x7 x8 x9 x10 x11 x12 x13 x14 (ix2 b d) = lnK x0 x1 x2 b x5 x6 d := by
  unfold k0_pay31
  rw [View.ld_unit_zero (S := S64x192) z2 _ x0, View.ld_unit_zero (S := S192x256) z2 _ x1, View.ld_unit_zero (S := S1x256) z2 _ x2, View.ld_unit_zero (S := S256x64) z2 _ x5, View.ld_unit_zero (S := S1x64) z2 _ x6, pay4_at]
  simp only [pay2_at]
  rfl
theorem er_at (d : Fin 64) : k0_pay32 x0 x1 x2 x3 x4 x5 x6 x7 x8 x9 x10 x11 x12 x13 x14 (ix2 b d) = Ideal.logistic (lnK x0 x1 x2 b x7 x8 d) := by
  unfold k0_pay32
  rw [View.ld_unit_zero (S := S64x192) z2 _ x0, View.ld_unit_zero (S := S192x256) z2 _ x1, View.ld_unit_zero (S := S1x256) z2 _ x2, View.ld_unit_zero (S := S256x64) z2 _ x7, View.ld_unit_zero (S := S1x64) z2 _ x8, pay5_at]
  simp only [pay2_at]
  rfl
theorem ad_at (d : Fin 64) : k0_pay6 (k0_pay2 x0 x1 x2) x9 (k0_pay28 x0 x1 x2 x3 x4 x5 x6 x7 x8 x9 x10 x11 x12 x13 x14) x10 (ix2 b d) = Ideal.tanh (lnK x0 x1 x2 b x9 x10 d) := by
  unfold k0_pay28
  rw [pay6_at]
  simp only [pay2_at]
  rfl
theorem raw14_at (j : Fin 128) : k0_pay14 (k0_pay2 x0 x1 x2) x11 x12 (ix2 b j) = rwK x0 x1 x2 b x11 x12 j := by
  rw [pay14_at]; simp only [pay2_at]; rfl
theorem raw20_at (j : Fin 128) : k0_pay20 (k0_pay2 x0 x1 x2) x13 x14 (ix2 b j) = rwK x0 x1 x2 b x13 x14 j := by
  rw [pay20_at]; simp only [pay2_at]; rfl

theorem out15_at (j : Fin 256) : out0_15 x0 x1 x2 x3 x4 x5 x6 x7 x8 x9 x10 x11 x12 x13 x14 (ix2 b j) = hK x0 x1 x2 b j := by
  unfold out0_15
  rw [View.canon_unit_zero (S := S64x256) z2, View.ld_unit_zero (S := S64x192) z2 _ x0, View.ld_unit_zero (S := S192x256) z2 _ x1, View.ld_unit_zero (S := S1x256) z2 _ x2, pay2_at]
  rfl
theorem out16_at (d : Fin 64) : out0_16 x0 x1 x2 x3 x4 x5 x6 x7 x8 x9 x10 x11 x12 x13 x14 (ix2 b d) = Ideal.logistic (lnK x0 x1 x2 b x7 x8 d) := by
  unfold out0_16
  rw [View.canon_unit_zero (S := S64x64) z2, er_at]
theorem out17_at (d : Fin 64) : out0_17 x0 x1 x2 x3 x4 x5 x6 x7 x8 x9 x10 x11 x12 x13 x14 (ix2 b d) = Ideal.tanh (lnK x0 x1 x2 b x9 x10 d) := by
  unfold out0_17
  rw [View.canon_unit_zero (S := S64x64) z2, View.ld_unit_zero (S := S256x64) z2 _ x9, View.ld_unit_zero (S := S1x64) z2 _ x10, hV, ad_at]

theorem out18_at0 (d : Fin 64) : out0_18 x0 x1 x2 x3 x4 x5 x6 x7 x8 x9 x10 x11 x12 x13 x14 (ix3 b 0 d) = lnK x0 x1 x2 b x5 x6 d := by
  unfold out0_18
  rw [View.canon_unit_zero (S := S64x8x64) z3, View.ld_unit_zero (S := S256x64) z2 _ x9, View.ld_unit_zero (S := S1x64) z2 _ x10, hV]
  rw [← kw_at x0 x1 x2 x3 x4 x5 x6 x7 x8 x9 x10 x11 x12 x13 x14]
  unfold k0_pay7
  generalize k0_pay6 (F := Ideal) _ _ _ _ = a
  generalize k0_pay32 x0 x1 x2 x3 x4 x5 x6 x7 x8 x9 x10 x11 x12 x13 x14 = e
  generalize k0_pay31 x0 x1 x2 x3 x4 x5 x6 x7 x8 x9 x10 x11 x12 x13 x14 = kw
  generalize k0_pay30 x0 x1 x2 x3 x4 x5 x6 x7 x8 x9 x10 x11 x12 x13 x14 = kr
  pointwise
theorem out18_at1 (d : Fin 64) : out0_18 x0 x1 x2 x3 x4 x5 x6 x7 x8 x9 x10 x11 x12 x13 x14 (ix3 b 1 d) = lnK x0 x1 x2 b x3 x4 d := by
  unfold out0_18
  rw [View.canon_unit_zero (S := S64x8x64) z3, View.ld_unit_zero (S := S256x64) z2 _ x9, View.ld_unit_zero (S := S1x64) z2 _ x10, hV]
  rw [← kr_at x0 x1 x2 x3 x4 x5 x6 x7 x8 x9 x10 x11 x12 x13 x14]
  unfold k0_pay7
  generalize k0_pay6 (F := Ideal) _ _ _ _ = a
  generalize k0_pay32 x0 x1 x2 x3 x4 x5 x6 x7 x8 x9 x10 x11 x12 x13 x14 = e
  generalize k0_pay31 x0 x1 x2 x3 x4 x5 x6 x7 x8 x9 x10 x11 x12 x13 x14 = kw
  generalize k0_pay30 x0 x1 x2 x3 x4 x5 x6 x7 x8 x9 x10 x11 x12 x13 x14 = kr
  pointwise
theorem out18_at2 (d : Fin 64) : out0_18 x0 x1 x2 x3 x4 x5 x6 x7 x8 x9 x10 x11 x12 x13 x14 (ix3 b 2 d) = Ideal.logistic (lnK x0 x1 x2 b x7 x8 d) * lnK x0 x1 x2 b x3 x4 d := by
  unfold out0_18
  rw [View.canon_unit_zero (S := S64x8x64) z3, View.ld_unit_zero (S := S256x64) z2 _ x9, View.ld_unit_zero (S := S1x64) z2 _ x10, hV]
  rw [← kr_at x0 x1 x2 x3 x4 x5 x6 x7 x8 x9 x10 x11 x12 x13 x14, ← er_at x0 x1 x2 x3 x4 x5 x6 x7 x8 x9 x10 x11 x12 x13 x14]
  unfold k0_pay7
  generalize k0_pay6 (F := Ideal) _ _ _ _ = a
  generalize k0_pay32 x0 x1 x2 x3 x4 x5 x6 x7 x8 x9 x10 x11 x12 x13 x14 = e
  generalize k0_pay31 x0 x1 x2 x3 x4 x5 x6 x7 x8 x9 x10 x11 x12 x13 x14 = kw
  generalize k0_pay30 x0 x1 x2 x3 x4 x5 x6 x7 x8 x9 x10 x11 x12 x13 x14 = kr
  pointwise
theorem out18_at3 (d : Fin 64) : out0_18 x0 x1 x2 x3 x4 x5 x6 x7 x8 x9 x10 x11 x12 x13 x14 (ix3 b 3 d) = Ideal.tanh (lnK x0 x1 x2 b x9 x10 d) := by
  unfold out0_18
  rw [View.canon_unit_zero (S := S64x8x64) z3, View.ld_unit_zero (S := S256x64) z2 _ x9, View.ld_unit_zero (S := S1x64) z2 _ x10, hV]
  rw [← ad_at x0 x1 x2 x3 x4 x5 x6 x7 x8 x9 x10 x11 x12 x13 x14]
  unfold k0_pay7
  generalize k0_pay6 (F := Ideal) _ _ _ _ = a
  generalize k0_pay32 x0 x1 x2 x3 x4 x5 x6 x7 x8 x9 x10 x11 x12 x13 x14 = e
  generalize k0_pay31 x0 x1 x2 x3 x4 x5 x6 x7 x8 x9 x10 x11 x12 x13 x14 = kw
  generalize k0_pay30 x0 x1 x2 x3 x4 x5 x6 x7 x8 x9 x10 x11 x12 x13 x14 = kr
  pointwise
theorem out18_at4 (d : Fin 64) : out0_18 x0 x1 x2 x3 x4 x5 x6 x7 x8 x9 x10 x11 x12 x13 x14 (ix3 b 4 d) = Ideal.tanh (lnK x0 x1 x2 b x9 x10 d) * Ideal.logistic (lnK x0 x1 x2 b x7 x8 d) := by
  unfold out0_18
  rw [View.canon_unit_zero (S := S64x8x64) z3, View.ld_unit_zero (S := S256x64) z2 _ x9, View.ld_unit_zero (S := S1x64) z2 _ x10, hV]
  rw [← er_at x0 x1 x2 x3 x4 x5 x6 x7 x8 x9 x10 x11 x12 x13 x14, ← ad_at x0 x1 x2 x3 x4 x5 x6 x7 x8 x9 x10 x11 x12 x13 x14]
  unfold k0_pay7
  generalize k0_pay6 (F := Ideal) _ _ _ _ = a
  generalize k0_pay32 x0 x1 x2 x3 x4 x5 x6 x7 x8 x9 x10 x11 x12 x13 x14 = e
  generalize k0_pay31 x0 x1 x2 x3 x4 x5 x6 x7 x8 x9 x10 x11 x12 x13 x14 = kw
  generalize k0_pay30 x0 x1 x2 x3 x4 x5 x6 x7 x8 x9 x10 x11 x12 x13 x14 = kr
  pointwise
theorem out19_at0 (d : Fin 64) : out0_19 x0 x1 x2 x3 x4 x5 x6 x7 x8 x9 x10 x11 x12 x13 x14 (ix3 b 0 d) = 1 := by
  unfold out0_19
  rw [View.canon_unit_zero (S := S64x8x64) z3]
  unfold k0_pay8
  generalize k0_pay32 x0 x1 x2 x3 x4 x5 x6 x7 x8 x9 x10 x11 x12 x13 x14 = e
  pointwise
theorem out19_at1 (d : Fin 64) : out0_19 x0 x1 x2 x3 x4 x5 x6 x7 x8 x9 x10 x11 x12 x13 x14 (ix3 b 1 d) = Ideal.logistic (lnK x0 x1 x2 b x7 x8 d) := by
  unfold out0_19
  rw [View.canon_unit_zero (S := S64x8x64) z3]
  rw [← er_at x0 x1 x2 x3 x4 x5 x6 x7 x8 x9 x10 x11 x12 x13 x14]
  unfold k0_pay8
  generalize k0_pay32 x0 x1 x2 x3 x4 x5 x6 x7 x8 x9 x10 x11 x12 x13 x14 = e
  pointwise
theorem out19_at2 (d : Fin 64) : out0_19 x0 x1 x2 x3 x4 x5 x6 x7 x8 x9 x10 x11 x12 x13 x14 (ix3 b 2 d) = Ideal.logistic (lnK x0 x1 x2 b x7 x8 d) * Ideal.logistic (lnK x0 x1 x2 b x7 x8 d) := by
  unfold out0_19
  rw [View.canon_unit_zero (S := S64x8x64) z3]
  rw [← er_at x0 x1 x2 x3 x4 x5 x6 x7 x8 x9 x10 x11 x12 x13 x14]
  unfold k0_pay8
  generalize k0_pay32 x0 x1 x2 x3 x4 x5 x6 x7 x8 x9 x10 x11 x12 x13 x14 = e
  pointwise

theorem out20_eq : out0_20 x0 x1 x2 x3 x4 x5 x6 x7 x8 x9 x10 x11 x12 x13 x14 = k0_pay19 (k0_pay9 (k0_pay30 x0 x1 x2 x3 x4 x5 x6 x7 x8 x9 x10 x11 x12 x13 x14)) (k0_pay11 (k0_pay2 x0 x1 x2) (k0_pay30 x0 x1 x2 x3 x4 x5 x6 x7 x8 x9 x10 x11 x12 x13 x14) x9 (k0_pay28 x0 x1 x2 x3 x4 x5 x6 x7 x8 x9 x10 x11 x12 x13 x14) x10)
    (k0_pay13 (k0_pay12 (k0_pay2 x0 x1 x2) x9 (k0_pay28 x0 x1 x2 x3 x4 x5 x6 x7 x8 x9 x10 x11 x12 x13 x14) x10)) (k0_pay15 (k0_pay2 x0 x1 x2) x11 x12) (k0_pay16 (k0_pay2 x0 x1 x2) x11 x12)
    (k0_pay17 (k0_pay2 x0 x1 x2) x11 x12) (k0_pay18 (k0_pay2 x0 x1 x2) x11 x12) := by
  unfold out0_20
  rw [View.canon_unit_zero (S := S64x128) z2, View.ld_unit_zero (S := S256x64) z2 _ x9, View.ld_unit_zero (S := S1x64) z2 _ x10, View.ld_unit_zero (S := S256x128) z2 _ x11, View.ld_unit_zero (S := S1x128) z2 _ x12, hV]
theorem out21_eq : out0_21 x0 x1 x2 x3 x4 x5 x6 x7 x8 x9 x10 x11 x12 x13 x14 = k0_pay1 (k0_pay10 (k0_pay31 x0 x1 x2 x3 x4 x5 x6 x7 x8 x9 x10 x11 x12 x13 x14)) (k0_pay20 (k0_pay2 x0 x1 x2) x13 x14) (k0_pay21 (k0_pay2 x0 x1 x2) x13 x14) (k0_pay22 (k0_pay2 x0 x1 x2) x13 x14)
    (k0_pay25 (k0_pay2 x0 x1 x2) x13 x14) (k0_pay26 (k0_pay2 x0 x1 x2) x13 x14) (k0_pay27 (k0_pay2 x0 x1 x2) x13 x14) := by
  unfold out0_21
  rw [View.canon_unit_zero (S := S64x128) z2, View.ld_unit_zero (S := S256x128) z2 _ x13, View.ld_unit_zero (S := S1x128) z2 _ x14, hV]
theorem out20_at0 : out0_20 x0 x1 x2 x3 x4 x5 x6 x7 x8 x9 x10 x11 x12 x13 x14 (ix2 b 0) = soft (rwK x0 x1 x2 b x11 x12 0) := by
  rw [out20_eq, ← raw14_at, ← pay15_at]
  generalize k0_pay9 (F := Ideal) _ = p0
  generalize k0_pay11 (F := Ideal) _ _ _ _ _ = p1
  generalize k0_pay13 (F := Ideal) _ = p2
  generalize k0_pay15 (F := Ideal) _ _ _ = p3
  generalize k0_pay16 (F := Ideal) _ _ _ = p4
  generalize k0_pay17 (F := Ideal) _ _ _ = p5
  generalize k0_pay18 (F := Ideal) _ _ _ = p6
  pointwise [k0_pay19]
theorem out20_at1 : out0_20 x0 x1 x2 x3 x4 x5 x6 x7 x8 x9 x10 x11 x12 x13 x14 (ix2 b 1) = Ideal.logistic (rwK x0 x1 x2 b x11 x12 1) := by
  rw [out20_eq, ← raw14_at, ← pay16_at]
  generalize k0_pay9 (F := Ideal) _ = p0
  generalize k0_pay11 (F := Ideal) _ _ _ _ _ = p1
  generalize k0_pay13 (F := Ideal) _ = p2
  generalize k0_pay15 (F := Ideal) _ _ _ = p3
  generalize k0_pay16 (F := Ideal) _ _ _ = p4
  generalize k0_pay17 (F := Ideal) _ _ _ = p5
  generalize k0_pay18 (F := Ideal) _ _ _ = p6
  pointwise [k0_pay19]
theorem out20_at2 : out0_20 x0 x1 x2 x3 x4 x5 x6 x7 x8 x9 x10 x11 x12 x13 x14 (ix2 b 2) = soft (rwK x0 x1 x2 b x11 x12 2) + 1 := by
  rw [out20_eq, ← raw14_at, ← pay17_at]
  generalize k0_pay9 (F := Ideal) _ = p0
  generalize k0_pay11 (F := Ideal) _ _ _ _ _ = p1
  generalize k0_pay13 (F := Ideal) _ = p2
  generalize k0_pay15 (F := Ideal) _ _ _ = p3
  generalize k0_pay16 (F := Ideal) _ _ _ = p4
  generalize k0_pay17 (F := Ideal) _ _ _ = p5
  generalize k0_pay18 (F := Ideal) _ _ _ = p6
  pointwise [k0_pay19]
theorem out20_at3 : out0_20 x0 x1 x2 x3 x4 x5 x6 x7 x8 x9 x10 x11 x12 x13 x14 (ix2 b 3) = smax (tri (rwK x0 x1 x2 b x11 x12)) 0 := by
  rw [out20_eq]
  unfold smax
  have e : rwK x0 x1 x2 b x11 x12 = fun j => k0_pay14 (k0_pay2 x0 x1 x2) x11 x12 (ix2 b j) := funext fun j => (raw14_at ..).symm
  rw [e]
  simp only [← pay18_at]
  generalize k0_pay9 (F := Ideal) _ = p0
  generalize k0_pay11 (F := Ideal) _ _ _ _ _ = p1
  generalize k0_pay13 (F := Ideal) _ = p2
  generalize k0_pay15 (F := Ideal) _ _ _ = p3
  generalize k0_pay16 (F := Ideal) _ _ _ = p4
  generalize k0_pay17 (F := Ideal) _ _ _ = p5
  generalize k0_pay18 (F := Ideal) _ _ _ = p6
  pointwise [k0_pay19]
theorem out20_at4 : out0_20 x0 x1 x2 x3 x4 x5 x6 x7 x8 x9 x10 x11 x12 x13 x14 (ix2 b 4) = smax (tri (rwK x0 x1 x2 b x11 x12)) 1 := by
  rw [out20_eq]
  unfold smax
  have e : rwK x0 x1 x2 b x11 x12 = fun j => k0_pay14 (k0_pay2 x0 x1 x2) x11 x12 (ix2 b j) := funext fun j => (raw14_at ..).symm
  rw [e]
  simp only [← pay18_at]
  generalize k0_pay9 (F := Ideal) _ = p0
  generalize k0_pay11 (F := Ideal) _ _ _ _ _ = p1
  generalize k0_pay13 (F := Ideal) _ = p2
  generalize k0_pay15 (F := Ideal) _ _ _ = p3
  generalize k0_pay16 (F := Ideal) _ _ _ = p4
  generalize k0_pay17 (F := Ideal) _ _ _ = p5
  generalize k0_pay18 (F := Ideal) _ _ _ = p6
  pointwise [k0_pay19]
theorem out20_at5 : out0_20 x0 x1 x2 x3 x4 x5 x6 x7 x8 x9 x10 x11 x12 x13 x14 (ix2 b 5) = smax (tri (rwK x0 x1 x2 b x11 x12)) 2 := by
  rw [out20_eq]
  unfold smax
  have e : rwK x0 x1 x2 b x11 x12 = fun j => k0_pay14 (k0_pay2 x0 x1 x2) x11 x12 (ix2 b j) := funext fun j => (raw14_at ..).symm
  rw [e]
  simp only [← pay18_at]
  generalize k0_pay9 (F := Ideal) _ = p0
  generalize k0_pay11 (F := Ideal) _ _ _ _ _ = p1
  generalize k0_pay13 (F := Ideal) _ = p2
  generalize k0_pay15 (F := Ideal) _ _ _ = p3
  generalize k0_pay16 (F := Ideal) _ _ _ = p4
  generalize k0_pay17 (F := Ideal) _ _ _ = p5
  generalize k0_pay18 (F := Ideal) _ _ _ = p6
  pointwise [k0_pay19]
theorem out20_at6 : out0_20 x0 x1 x2 x3 x4 x5 x6 x7 x8 x9 x10 x11 x12 x13 x14 (ix2 b 6) = ∑ d, lnK x0 x1 x2 b x3 x4 d * lnK x0 x1 x2 b x3 x4 d := by
  rw [out20_eq]
  simp only [← kr_at x0 x1 x2 x3 x4 x5 x6 x7 x8 x9 x10 x11 x12 x13 x14]
  generalize k0_pay30 x0 x1 x2 x3 x4 x5 x6 x7 x8 x9 x10 x11 x12 x13 x14 = kr
  pointwise [k0_pay19, k0_pay9]
theorem out20_at7 : out0_20 x0 x1 x2 x3 x4 x5 x6 x7 x8 x9 x10 x11 x12 x13 x14 (ix2 b 7) = ∑ d, Ideal.tanh (lnK x0 x1 x2 b x9 x10 d) * lnK x0 x1 x2 b x3 x4 d := by
  rw [out20_eq]
  simp only [← kr_at x0 x1 x2 x3 x4 x5 x6 x7 x8 x9 x10 x11 x12 x13 x14, ← ad_at x0 x1 x2 x3 x4 x5 x6 x7 x8 x9 x10 x11 x12 x13 x14]
  unfold k0_pay11
  generalize k0_pay30 x0 x1 x2 x3 x4 x5 x6 x7 x8 x9 x10 x11 x12 x13 x14 = kr
  generalize k0_pay6 (F := Ideal) _ _ _ _ = a
  pointwise [k0_pay19]
theorem out20_at8 : out0_20 x0 x1 x2 x3 x4 x5 x6 x7 x8 x9 x10 x11 x12 x13 x14 (ix2 b 8) = ∑ d, Ideal.tanh (lnK x0 x1 x2 b x9 x10 d) * Ideal.tanh (lnK x0 x1 x2 b x9 x10 d) := by
  rw [out20_eq]
  simp only [← ad_at x0 x1 x2 x3 x4 x5 x6 x7 x8 x9 x10 x11 x12 x13 x14]
  unfold k0_pay13 k0_pay12
  generalize k0_pay6 (F := Ideal) _ _ _ _ = a
  pointwise [k0_pay19]

theorem out21_at0 : out0_21 x0 x1 x2 x3 x4 x5 x6 x7 x8 x9 x10 x11 x12 x13 x14 (ix2 b 0) = soft (rwK x0 x1 x2 b x13 x14 0) := by
  rw [out21_eq, ← raw20_at, ← soft_form]
  unfold k0_pay21 k0_pay22 k0_pay25 k0_pay26 k0_pay27 k0_pay24 k0_pay23
  generalize k0_pay20 (F := Ideal) _ _ _ = p
  pointwise [k0_pay1]
theorem out21_at1 : out0_21 x0 x1 x2 x3 x4 x5 x6 x7 x8 x9 x10 x11 x12 x13 x14 (ix2 b 1) = Ideal.logistic (rwK x0 x1 x2 b x13 x14 1) := by
  rw [out21_eq, ← raw20_at]
  unfold k0_pay21 k0_pay22 k0_pay25 k0_pay26 k0_pay27 k0_pay24 k0_pay23
  generalize k0_pay20 (F := Ideal) _ _ _ = p
  pointwise [k0_pay1]
theorem out21_at2 : out0_21 x0 x1 x2 x3 x4 x5 x6 x7 x8 x9 x10 x11 x12 x13 x14 (ix2 b 2) = soft (rwK x0 x1 x2 b x13 x14 2) + 1 := by
  rw [out21_eq, ← raw20_at, ← soft_form]
  unfold k0_pay21 k0_pay22 k0_pay25 k0_pay26 k0_pay27 k0_pay24 k0_pay23
  generalize k0_pay20 (F := Ideal) _ _ _ = p
  pointwise [k0_pay1]
theorem out21_at3 : out0_21 x0 x1 x2 x3 x4 x5 x6 x7 x8 x9 x10 x11 x12 x13 x14 (ix2 b 3) = smax (tri (rwK x0 x1 x2 b x13 x14)) 0 := by
  rw [out21_eq]
  unfold smax tri
  simp only [← raw20_at]
  unfold k0_pay21 k0_pay22 k0_pay25 k0_pay26 k0_pay27 k0_pay24 k0_pay23
  generalize k0_pay20 (F := Ideal) _ _ _ = p
  pointwise [k0_pay1, ninf_eq]
theorem out21_at4 : out0_21 x0 x1 x2 x3 x4 x5 x6 x7 x8 x9 x10 x11 x12 x13 x14 (ix2 b 4) = smax (tri (rwK x0 x1 x2 b x13 x14)) 1 := by
  rw [out21_eq]
  unfold smax tri
  simp only [← raw20_at]
  unfold k0_pay21 k0_pay22 k0_pay25 k0_pay26 k0_pay27 k0_pay24 k0_pay23
  generalize k0_pay20 (F := Ideal) _ _ _ = p
  pointwise [k0_pay1, ninf_eq]
theorem out21_at5 : out0_21 x0 x1 x2 x3 x4 x5 x6 x7 x8 x9 x10 x11 x12 x13 x14 (ix2 b 5) = smax (tri (rwK x0 x1 x2 b x13 x14)) 2 := by
  rw [out21_eq]
  unfold smax tri
  simp only [← raw20_at]
  unfold k0_pay21 k0_pay22 k0_pay25 k0_pay26 k0_pay27 k0_pay24 k0_pay23
  generalize k0_pay20 (F := Ideal) _ _ _ = p
  pointwise [k0_pay1, ninf_eq]
theorem out21_at6 : out0_21 x0 x1 x2 x3 x4 x5 x6 x7 x8 x9 x10 x11 x12 x13 x14 (ix2 b 6) = ∑ d, lnK x0 x1 x2 b x5 x6 d * lnK x0 x1 x2 b x5 x6 d := by
  rw [out21_eq]
  simp only [← kw_at x0 x1 x2 x3 x4 x5 x6 x7 x8 x9 x10 x11 x12 x13 x14]
  generalize k0_pay31 x0 x1 x2 x3 x4 x5 x6 x7 x8 x9 x10 x11 x12 x13 x14 = kw
  pointwise [k0_pay1, k0_pay10]

end

end Cert.Val

end
-- ==== Proof.VRef.lean ====
/- The reference's values, read at one place of a row. -/
module

public import proofs.«01_k».proof.Proof.Gen.ReferenceIdeal.Run
public import proofs.«01_k».proof.Proof.VAddr
public import proofs.«01_k».proof.Proof.VHead

@[expose] public section

set_option maxRecDepth 16384

noncomputable section

namespace Cert.Val.Ref

open Cert.ReferenceIdeal Cert.ReferenceIdeal.Gen Cert.ReferenceIdeal.Value
open Idealize.ShloMosaic Idealize.ShloMosaic.TcCoe Idealize.ShloMosaic.StableHlo

variable (V0 : Valuation τ sig (Elt Ideal)) (b : Fin 64)

/-- The arguments, at their shapes. -/
abbrev a0 : FVec Ideal S64x128 .f32 := V0 (Proc.devRef .tc main_arg0)
abbrev a1 : FVec Ideal S64x8192x64 .f32 := V0 (Proc.devRef .tc main_arg1)
abbrev a2 : FVec Ideal S64x8192 .f32 := V0 (Proc.devRef .tc main_arg2)
abbrev a3 : FVec Ideal S64x8192 .f32 := V0 (Proc.devRef .tc main_arg3)
abbrev a4 : FVec Ideal S64x64 .f32 := V0 (Proc.devRef .tc main_arg4)
abbrev a5 : FVec Ideal S192x256 .f32 := V0 (Proc.devRef .tc main_arg5)
abbrev a6 : FVec Ideal S256 .f32 := V0 (Proc.devRef .tc main_arg6)
abbrev a7 : FVec Ideal S256x64 .f32 := V0 (Proc.devRef .tc main_arg7)
abbrev a8 : FVec Ideal S64 .f32 := V0 (Proc.devRef .tc main_arg8)
abbrev a9 : FVec Ideal S256x1 .f32 := V0 (Proc.devRef .tc main_arg9)
abbrev a10 : FVec Ideal S1 .f32 := V0 (Proc.devRef .tc main_arg10)
abbrev a11 : FVec Ideal S256x1 .f32 := V0 (Proc.devRef .tc main_arg11)
abbrev a12 : FVec Ideal S1 .f32 := V0 (Proc.devRef .tc main_arg12)
abbrev a13 : FVec Ideal S256x3 .f32 := V0 (Proc.devRef .tc main_arg13)
abbrev a14 : FVec Ideal S3 .f32 := V0 (Proc.devRef .tc main_arg14)
abbrev a15 : FVec Ideal S256x1 .f32 := V0 (Proc.devRef .tc main_arg15)
abbrev a16 : FVec Ideal S1 .f32 := V0 (Proc.devRef .tc main_arg16)
abbrev a17 : FVec Ideal S256x64 .f32 := V0 (Proc.devRef .tc main_arg17)
abbrev a18 : FVec Ideal S64 .f32 := V0 (Proc.devRef .tc main_arg18)
abbrev a19 : FVec Ideal S256x1 .f32 := V0 (Proc.devRef .tc main_arg19)
abbrev a20 : FVec Ideal S1 .f32 := V0 (Proc.devRef .tc main_arg20)
abbrev a21 : FVec Ideal S256x1 .f32 := V0 (Proc.devRef .tc main_arg21)
abbrev a22 : FVec Ideal S1 .f32 := V0 (Proc.devRef .tc main_arg22)
abbrev a23 : FVec Ideal S256x3 .f32 := V0 (Proc.devRef .tc main_arg23)
abbrev a24 : FVec Ideal S3 .f32 := V0 (Proc.devRef .tc main_arg24)
abbrev a25 : FVec Ideal S256x1 .f32 := V0 (Proc.devRef .tc main_arg25)
abbrev a26 : FVec Ideal S1 .f32 := V0 (Proc.devRef .tc main_arg26)
abbrev a27 : FVec Ideal S256x64 .f32 := V0 (Proc.devRef .tc main_arg27)
abbrev a28 : FVec Ideal S64 .f32 := V0 (Proc.devRef .tc main_arg28)
abbrev a29 : FVec Ideal S256x64 .f32 := V0 (Proc.devRef .tc main_arg29)
abbrev a30 : FVec Ideal S64 .f32 := V0 (Proc.devRef .tc main_arg30)

/-- Stages of the reference, at their shapes. -/
abbrev nMem : FVec Ideal S64x8192x64 .f32 := res_main_v126 V0
abbrev uW : FVec Ideal S64x8192 .f32 := res_main_v92 V0
abbrev uR : FVec Ideal S64x8192 .f32 := res_main_v213 V0
abbrev wW : FVec Ideal S64x8192x1 .f32 := res_main_v114 V0

/-- The rows that the controller reads, and the controller's outputs. -/
def cat : FVec Ideal S64x192 .f32 := concatenate S64x192 1 [⟨S64x128, a0 V0⟩, ⟨S64x64, a4 V0⟩] concatenates_S64x128_S64x64_S64x192_d1
def hR (j : Fin 256) : EReal := (res_main_v5 V0 : FVec Ideal S64x256 .f32) (ix2 b j)
/-- A projection of a row of the controller's outputs. -/
def prj (n : ℕ) (W : FVec Ideal ⟨2, ![256, n]⟩ .f32) (c : FVec Ideal ⟨1, ![n]⟩ .f32) (j : Fin n) : EReal := linE (hR V0 b) (fun k => W (ix2 k j)) (c (ix1 j))

theorem hR_eq (j : Fin 256) : hR V0 b j = max (linE (fun k => cat V0 (ix2 b k)) (fun k => a5 V0 (ix2 k j)) (a6 V0 (ix1 j))) 0 := by
  unfold hR res_main_v5
  change maximumf (F := Ideal) (addf (Host.dotGeneral dot_S64x192_S192x256_S64x256_1_0_0_1_n_n none (cat V0) (a5 V0)) (broadcastInDim S64x256 ![0, 1] bcast_S1x256_S64x256_0_1 (broadcastInDim S1x256 ![1] bcast_S256_S1x256_1 (a6 V0)))) (broadcastInDim S64x256 ![] bcast_S_S64x256 (constant S_ .f32 0x00000000#32)) (ix2 b j) = _
  generalize cat V0 = p
  generalize a5 V0 = q
  generalize a6 V0 = s
  pointwise [linE]

theorem prj64 (W : FVec Ideal S256x64 .f32) (c : FVec Ideal S64 .f32) (h : FVec Ideal S64x256 .f32) (j : Fin 64) :
    addf (F := Ideal) (Host.dotGeneral dot_S64x256_S256x64_S64x64_1_0_0_1_n_n none h W) (broadcastInDim S64x64 ![0, 1] bcast_S1x64_S64x64_0_1 (broadcastInDim S1x64 ![1] bcast_S64_S1x64_1 c)) (ix2 b j)
      = linE (fun k => h (ix2 b k)) (fun k => W (ix2 k j)) (c (ix1 j)) := by
  pointwise [linE]
theorem prj1 (W : FVec Ideal S256x1 .f32) (c : FVec Ideal S1 .f32) (h : FVec Ideal S64x256 .f32) :
    addf (F := Ideal) (Host.dotGeneral dot_S64x256_S256x1_S64x1_1_0_0_1_n_n none h W) (broadcastInDim S64x1 ![0, 1] bcast_S1x1_S64x1_0_1 (broadcastInDim S1x1 ![1] bcast_S1_S1x1_1 c)) (ix2 b 0)
      = linE (fun k => h (ix2 b k)) (fun k => W (ix2 k 0)) (c (ix1 0)) := by
  pointwise [linE]
theorem prj3 (W : FVec Ideal S256x3 .f32) (c : FVec Ideal S3 .f32) (h : FVec Ideal S64x256 .f32) (j : Fin 3) :
    addf (F := Ideal) (Host.dotGeneral dot_S64x256_S256x3_S64x3_1_0_0_1_n_n none h W) (broadcastInDim S64x3 ![0, 1] bcast_S1x3_S64x3_0_1 (broadcastInDim S1x3 ![1] bcast_S3_S1x3_1 c)) (ix2 b j)
      = linE (fun k => h (ix2 b k)) (fun k => W (ix2 k j)) (c (ix1 j)) := by
  pointwise [linE]

/-- The softmax of three. -/
theorem sm3 (l : FVec Ideal S64x3 .f32) (j : Fin 3) :
    Host.exp (F := Ideal) (subf l (broadcastInDim S64x3 ![0, 1] bcast_S64x1_S64x3_0_1 (broadcastInDim S64x1 ![0] bcast_S64_S64x1_0 (maximumf (broadcastInDim S64 ![] bcast_S_S64 (constant S_ .f32 0xFF800000#32)) (Host.reduce FloatOps.maximumf l (constant S_ .f32 0xFF800000#32) reducesTo_S64x3_S64_d1 h_S_))))) (ix2 b j)
      = Ideal.exp (l (ix2 b j) - Finset.univ.fold max ⊥ fun k => l (ix2 b k)) := by
  pointwise [ninf_eq]
  rw [max_eq_right bot_le]
theorem sm3d (e : FVec Ideal S64x3 .f32) (j : Fin 3) :
    Host.divf (F := Ideal) e (broadcastInDim S64x3 ![0, 1] bcast_S64x1_S64x3_0_1 (broadcastInDim S64x1 ![0] bcast_S64_S64x1_0 (Host.reduceAdd e (constant S_ .f32 0x00000000#32) reducesTo_S64x3_S64_d1 h_S_))) (ix2 b j)
      = Ideal.div (e (ix2 b j)) (∑ k, e (ix2 b k)) := by
  pointwise
theorem smN (l : FVec Ideal S64x8192 .f32) (j : Fin 8192) :
    Host.exp (F := Ideal) (subf l (broadcastInDim S64x8192 ![0, 1] bcast_S64x1_S64x8192_0_1 (broadcastInDim S64x1 ![0] bcast_S64_S64x1_0 (maximumf (broadcastInDim S64 ![] bcast_S_S64 (constant S_ .f32 0xFF800000#32)) (Host.reduce FloatOps.maximumf l (constant S_ .f32 0xFF800000#32) reducesTo_S64x8192_S64_d1 h_S_))))) (ix2 b j)
      = Ideal.exp (l (ix2 b j) - Finset.univ.fold max ⊥ fun k => l (ix2 b k)) := by
  pointwise [ninf_eq]
  rw [max_eq_right bot_le]
/-- The gate as the reference spells it. -/
theorem gate (x : FVec Ideal S64x1 .f32) :
    Host.divf (F := Ideal) (broadcastInDim S64x1 ![] bcast_S_S64x1 (constant S_ .f32 0x3F800000#32)) (addf (broadcastInDim S64x1 ![] bcast_S_S64x1 (constant S_ .f32 0x3F800000#32)) (Host.exp (Host.negf x))) (ix2 b 0)
      = Ideal.logistic (x (ix2 b 0)) := by
  pointwise [Ideal.logistic]
theorem gate64 (x : FVec Ideal S64x64 .f32) (d : Fin 64) :
    Host.divf (F := Ideal) (broadcastInDim S64x64 ![] bcast_S_S64x64 (constant S_ .f32 0x3F800000#32)) (addf (broadcastInDim S64x64 ![] bcast_S_S64x64 (constant S_ .f32 0x3F800000#32)) (Host.exp (Host.negf x))) (ix2 b d)
      = Ideal.logistic (x (ix2 b d)) := by
  pointwise [Ideal.logistic]
/-- The smooth positive part as the reference spells it. -/
theorem softR (x y z : FVec Ideal S64x1 .f32) (hz : z = fun _ => 0) (hy : y = x) :
    select (cmpf (F := Ideal) .une y y) (addf x z) (addf (maximumf x z) (Host.log1p (Host.exp (Host.negf (Host.absf y))))) (ix2 b 0) = soft (x (ix2 b 0)) := by
  subst hz hy
  rw [← soft_form]
  pointwise
  rw [zero_sub]
/-- The gated weights. -/
theorem wgR (g : FVec Ideal S64x1 .f32) (e pw : FVec Ideal S64x8192 .f32) (n : Fin 8192) :
    addf (F := Ideal) (mulf (broadcastInDim S64x8192 ![0, 1] bcast_S64x1_S64x8192_0_1 g) (Host.divf e (broadcastInDim S64x8192 ![0, 1] bcast_S64x1_S64x8192_0_1 (broadcastInDim S64x1 ![0] bcast_S64_S64x1_0 (Host.reduceAdd e (constant S_ .f32 0x00000000#32) reducesTo_S64x8192_S64_d1 h_S_))))) (mulf (broadcastInDim S64x8192 ![0, 1] bcast_S64x1_S64x8192_0_1 (subf (broadcastInDim S64x1 ![] bcast_S_S64x1 (constant S_ .f32 0x3F800000#32)) g)) pw) (ix2 b n)
      = g (ix2 b 0) * Ideal.div (e (ix2 b n)) (∑ k, e (ix2 b k)) + (1 - g (ix2 b 0)) * pw (ix2 b n) := by
  pointwise
/-- The similarities. -/
theorem simR (be : FVec Ideal S64x1 .f32) (M : FVec Ideal S64x8192x64 .f32) (k : FVec Ideal S64x64 .f32) (n : Fin 8192) :
    mulf (F := Ideal) (broadcastInDim S64x8192 ![0, 1] bcast_S64x1_S64x8192_0_1 be) (Host.divf (Host.dotGeneral dot_S64x8192x64_S64x64_S64x8192_2_1_1_n_0_0 none M k) (addf (mulf (Host.sqrt (Host.reduceAdd (mulf M M) (constant S_ .f32 0x00000000#32) reducesTo_S64x8192x64_S64x8192_d2 h_S_)) (broadcastInDim S64x8192 ![0, 1] bcast_S64x1_S64x8192_0_1 (Host.sqrt (broadcastInDim S64x1 ![0] bcast_S64_S64x1_0 (Host.reduceAdd (mulf k k) (constant S_ .f32 0x00000000#32) reducesTo_S64x64_S64_d1 h_S_))))) (broadcastInDim S64x8192 ![] bcast_S_S64x8192 (constant S_ .f32 0x322BCC77#32)))) (ix2 b n)
      = simE (be (ix2 b 0)) (∑ d : Fin 64, M (ix3 b n d) * k (ix2 b d)) (∑ d : Fin 64, M (ix3 b n d) * M (ix3 b n d)) (∑ d : Fin 64, k (ix2 b d) * k (ix2 b d)) := by
  pointwise [simE]
  rfl
/-- The shifted weights. -/
theorem shR (s : FVec Ideal S64x3 .f32) (w : FVec Ideal S64x8192 .f32) (n : Fin 8192) :
    addf (F := Ideal) (addf (addf (broadcastInDim S64x8192 ![] bcast_S_S64x8192 (constant S_ .f32 0x00000000#32)) (mulf (broadcastInDim S64x8192 ![0, 1] bcast_S64x1_S64x8192_0_1 (extractStridedSlice S64x1 ![0, 0] s slices_S64x3_S64x1_0_0)) (concatenate S64x8192 1 [⟨S64x8191, (extractStridedSlice S64x8191 ![0, 1] w slices_S64x8192_S64x8191_0_1)⟩, ⟨S64x1, (extractStridedSlice S64x1 ![0, 0] w slices_S64x8192_S64x1_0_0)⟩] concatenates_S64x8191_S64x1_S64x8192_d1))) (mulf (broadcastInDim S64x8192 ![0, 1] bcast_S64x1_S64x8192_0_1 (extractStridedSlice S64x1 ![0, 1] s slices_S64x3_S64x1_0_1)) (concatenate S64x8192 1 [⟨S64x8192, (extractStridedSlice S64x8192 ![0, 0] w slices_S64x8192_S64x8192_0_0)⟩, ⟨S64x0, (extractStridedSlice S64x0 ![0, 0] w slices_S64x8192_S64x0_0_0)⟩] concatenates_S64x8192_S64x0_S64x8192_d1))) (mulf (broadcastInDim S64x8192 ![0, 1] bcast_S64x1_S64x8192_0_1 (extractStridedSlice S64x1 ![0, 2] s slices_S64x3_S64x1_0_2)) (concatenate S64x8192 1 [⟨S64x1, (extractStridedSlice S64x1 ![0, 8191] w slices_S64x8192_S64x1_0_8191)⟩, ⟨S64x8191, (extractStridedSlice S64x8191 ![0, 0] w slices_S64x8192_S64x8191_0_0)⟩] concatenates_S64x1_S64x8191_S64x8192_d1)) (ix2 b n)
      = s (ix2 b 0) * w (ix2 b (nxt n)) + s (ix2 b 1) * w (ix2 b n) + s (ix2 b 2) * w (ix2 b (prv n)) := by
  pointwise
  have e1 : (if h : n.val < 8191 then w (ix2 b ⟨1 + n.val, by omega⟩) else w (ix2 b ⟨n.val - 8191, by omega⟩)) = w (ix2 b (nxt n)) := by
    unfold nxt
    split
    · exact congrArg (fun i => w (ix2 b i)) (Fin.ext (Nat.add_comm _ _))
    · exact congrArg (fun i => w (ix2 b i)) (Fin.ext (show n.val - 8191 = 0 by omega))
  have e2 : (if h : n.val < 1 then w (ix2 b ⟨8191 + n.val, by omega⟩) else w (ix2 b ⟨n.val - 1, by omega⟩)) = w (ix2 b (prv n)) := by
    unfold prv
    split
    · exact congrArg (fun i => w (ix2 b i)) (Fin.ext (show 8191 + n.val = 8191 by omega))
    · rfl
  exact congrArg₂ (fun x y => s (ix2 b 0) * x + s (ix2 b 1) * w (ix2 b n) + s (ix2 b 2) * y) e1 e2
/-- The normalised weights. -/
theorem nmR (u : FVec Ideal S64x8192 .f32) (n : Fin 8192) :
    Host.divf (F := Ideal) u (broadcastInDim S64x8192 ![0, 1] bcast_S64x1_S64x8192_0_1 (addf (broadcastInDim S64x1 ![0] bcast_S64_S64x1_0 (Host.reduceAdd u (constant S_ .f32 0x00000000#32) reducesTo_S64x8192_S64_d1 h_S_)) (broadcastInDim S64x1 ![] bcast_S_S64x1 (constant S_ .f32 0x322BCC77#32)))) (ix2 b n)
      = Ideal.div (u (ix2 b n)) (∑ k : Fin 8192, u (ix2 b k) + eps) := by
  pointwise
  rfl
/-- The new memory. -/
theorem memR (M : FVec Ideal S64x8192x64 .f32) (w : FVec Ideal S64x8192x1 .f32) (e a : FVec Ideal S64x64 .f32) (n : Fin 8192) (d : Fin 64) :
    addf (F := Ideal) (mulf M (subf (broadcastInDim S64x8192x64 ![] bcast_S_S64x8192x64 (constant S_ .f32 0x3F800000#32)) (mulf (broadcastInDim S64x8192x64 ![0, 1, 2] bcast_S64x8192x1_S64x8192x64_0_1_2 w) (broadcastInDim S64x8192x64 ![0, 1, 2] bcast_S64x1x64_S64x8192x64_0_1_2 (broadcastInDim S64x1x64 ![0, 2] bcast_S64x64_S64x1x64_0_2 e))))) (mulf (broadcastInDim S64x8192x64 ![0, 1, 2] bcast_S64x8192x1_S64x8192x64_0_1_2 w) (broadcastInDim S64x8192x64 ![0, 1, 2] bcast_S64x1x64_S64x8192x64_0_1_2 (broadcastInDim S64x1x64 ![0, 2] bcast_S64x64_S64x1x64_0_2 a))) (ix3 b n d)
      = memE (M (ix3 b n d)) (w (ix3 b n 0)) (e (ix2 b d)) (a (ix2 b d)) := by
  pointwise [memE]
theorem col8 (w : FVec Ideal S64x8192 .f32) (n : Fin 8192) : broadcastInDim S64x8192x1 ![0, 1] bcast_S64x8192_S64x8192x1_0_1 w (ix3 b n 0) = w (ix2 b n) := by
  pointwise
/-- The rows read from the new memory. -/
theorem readR (M : FVec Ideal S64x8192x64 .f32) (w : FVec Ideal S64x8192 .f32) (d : Fin 64) :
    Host.dotGeneral (F := Ideal) dot_S64x8192x64_S64x8192_S64x64_1_1_2_n_0_0 none M w (ix2 b d) = ∑ n : Fin 8192, M (ix3 b n d) * w (ix2 b n) := by
  pointwise
/-- The exponent: one more than the smooth positive part. -/
theorem powR (x : FVec Ideal S64x8192 .f32) (y : FVec Ideal S64x1 .f32) (n : Fin 8192) :
    Host.powf (F := Ideal) x (broadcastInDim S64x8192 ![0, 1] bcast_S64x1_S64x8192_0_1 (addf y (broadcastInDim S64x1 ![] bcast_S_S64x1 (constant S_ .f32 0x3F800000#32)))) (ix2 b n) = Ideal.pow (x (ix2 b n)) (y (ix2 b 0) + 1) := by
  pointwise

/-! ### The write head -/
def k_w (d : Fin 64) : EReal := prj V0 b 64 (a17 V0) (a18 V0) d
def be_w : EReal := soft (prj V0 b 1 (a19 V0) (a20 V0) 0)
def g_w : EReal := Ideal.logistic (prj V0 b 1 (a21 V0) (a22 V0) 0)
def s_w (j : Fin 3) : EReal := smax (prj V0 b 3 (a23 V0) (a24 V0)) j
def ga_w : EReal := soft (prj V0 b 1 (a25 V0) (a26 V0) 0) + 1
/-- The similarities of row `b`. -/
def z_w (n : Fin 8192) : EReal := simE (be_w V0 b) (∑ d : Fin 64, (a1 V0) (ix3 b n d) * k_w V0 b d)
  (∑ d : Fin 64, (a1 V0) (ix3 b n d) * (a1 V0) (ix3 b n d)) (∑ d : Fin 64, k_w V0 b d * k_w V0 b d)

theorem k_w_at (d : Fin 64) : (res_main_v9 V0 : FVec Ideal S64x64 .f32) (ix2 b d) = k_w V0 b d := prj64 b _ _ _ d
theorem be_w_at : (res_main_v13 V0 : FVec Ideal S64x1 .f32) (ix2 b 0) = prj V0 b 1 (a19 V0) (a20 V0) 0 := prj1 b _ _ _
theorem g_w_at : (res_main_v24 V0 : FVec Ideal S64x1 .f32) (ix2 b 0) = g_w V0 b :=
  (gate b _).trans (congrArg Ideal.logistic (prj1 b _ _ _))
theorem l_w_at (j : Fin 3) : (res_main_v28 V0 : FVec Ideal S64x3 .f32) (ix2 b j) = prj V0 b 3 (a23 V0) (a24 V0) j := prj3 b _ _ _ j
theorem e_w_at (j : Fin 3) : (res_main_v35 V0 : FVec Ideal S64x3 .f32) (ix2 b j) = Ideal.exp (prj V0 b 3 (a23 V0) (a24 V0) j - Finset.univ.fold max ⊥ (prj V0 b 3 (a23 V0) (a24 V0))) :=
  (sm3 b _ j).trans (congrArg₂ (fun x (y : Fin 3 → EReal) => Ideal.exp (x - Finset.univ.fold max ⊥ y)) (l_w_at V0 b j) (funext (l_w_at V0 b)))
theorem s_w_at (j : Fin 3) : (res_main_v39 V0 : FVec Ideal S64x3 .f32) (ix2 b j) = s_w V0 b j :=
  (sm3d b _ j).trans (congrArg₂ (fun x (y : Fin 3 → EReal) => Ideal.div x (∑ k, y k)) (e_w_at V0 b j) (funext (e_w_at V0 b)))
theorem ga_w_at : (res_main_v43 V0 : FVec Ideal S64x1 .f32) (ix2 b 0) = prj V0 b 1 (a25 V0) (a26 V0) 0 := prj1 b _ _ _
theorem c_w_be : (broadcastInDim S64x1 ![] bcast_S_S64x1 (res_main_call1_cst V0) : FVec Ideal S64x1 .f32) = fun _ => 0 := by
  unfold res_main_call1_cst
  funext i
  exact Ideal.ofBits_zero_f32
theorem c_w_ga : (broadcastInDim S64x1 ![] bcast_S_S64x1 (res_main_call2_cst V0) : FVec Ideal S64x1 .f32) = fun _ => 0 := by
  unfold res_main_call2_cst
  funext i
  exact Ideal.ofBits_zero_f32
theorem d_w_be : (res_main_call1_v3 V0 : FVec Ideal S64x1 .f32) = (res_main_v13 V0 : FVec Ideal S64x1 .f32) := by
  unfold res_main_call1_v3
  rw [c_w_be]
  funext i
  exact sub_zero _
theorem d_w_ga : (res_main_call2_v3 V0 : FVec Ideal S64x1 .f32) = (res_main_v43 V0 : FVec Ideal S64x1 .f32) := by
  unfold res_main_call2_v3
  rw [c_w_ga]
  funext i
  exact sub_zero _
theorem z_w_at (n : Fin 8192) : (res_main_v56 V0 : FVec Ideal S64x8192 .f32) (ix2 b n) = z_w V0 b n := by
  refine (simR b _ _ _ n).trans ?_
  rw [softR b _ _ _ (c_w_be V0) (d_w_be V0), be_w_at]
  simp only [k_w_at]
  rfl
theorem x_w_at (n : Fin 8192) : (res_main_v63 V0 : FVec Ideal S64x8192 .f32) (ix2 b n) = Ideal.exp (z_w V0 b n - Finset.univ.fold max ⊥ (z_w V0 b)) :=
  (smN b _ n).trans (congrArg₂ (fun x (y : Fin 8192 → EReal) => Ideal.exp (x - Finset.univ.fold max ⊥ y)) (z_w_at V0 b n) (funext (z_w_at V0 b)))
/-- The earlier weights of row `b`. -/
def p_w (n : Fin 8192) : EReal := a3 V0 (ix2 b n)
theorem wg_w_at (n : Fin 8192) : (res_main_v74 V0 : FVec Ideal S64x8192 .f32) (ix2 b n) = wgE (z_w V0 b) (g_w V0 b) (p_w V0 b) n := by
  refine (wgR b _ _ _ n).trans ?_
  rw [g_w_at]
  simp only [x_w_at]
  rfl
theorem up_w_at (n : Fin 8192) : (res_main_v92 V0 : FVec Ideal S64x8192 .f32) (ix2 b n)
    = upE nxt prv (z_w V0 b) (g_w V0 b) (ga_w V0 b) (s_w V0 b 0) (s_w V0 b 1) (s_w V0 b 2) (p_w V0 b) n := by
  refine (powR b _ _ n).trans ?_
  rw [softR b _ _ _ (c_w_ga V0) (d_w_ga V0), ga_w_at, shR b _ _ n]
  simp only [s_w_at, wg_w_at]
  rfl

/-! ### The new memory -/
theorem ww_at (n : Fin 8192) : wW V0 (ix3 b n 0) = Ideal.div (uW V0 (ix2 b n)) (∑ k : Fin 8192, uW V0 (ix2 b k) + eps) :=
  (col8 b _ n).trans (nmR b _ n)
def er (d : Fin 64) : EReal := Ideal.logistic (prj V0 b 64 (a27 V0) (a28 V0) d)
def ad (d : Fin 64) : EReal := Ideal.tanh (prj V0 b 64 (a29 V0) (a30 V0) d)
theorem mem_at (n : Fin 8192) (d : Fin 64) : nMem V0 (ix3 b n d)
    = memE (a1 V0 (ix3 b n d)) (wW V0 (ix3 b n 0)) (er V0 b d) (ad V0 b d) :=
  (memR b _ _ _ _ n d).trans (congrArg₂ (memE _ _) ((gate64 b _ d).trans (congrArg Ideal.logistic (prj64 b _ _ _ d))) (congrArg Ideal.tanh (prj64 b _ _ _ d)))

/-! ### The read head -/
def k_r (d : Fin 64) : EReal := prj V0 b 64 (a7 V0) (a8 V0) d
def be_r : EReal := soft (prj V0 b 1 (a9 V0) (a10 V0) 0)
def g_r : EReal := Ideal.logistic (prj V0 b 1 (a11 V0) (a12 V0) 0)
def s_r (j : Fin 3) : EReal := smax (prj V0 b 3 (a13 V0) (a14 V0)) j
def ga_r : EReal := soft (prj V0 b 1 (a15 V0) (a16 V0) 0) + 1
/-- The similarities of row `b`. -/
def z_r (n : Fin 8192) : EReal := simE (be_r V0 b) (∑ d : Fin 64, (nMem V0) (ix3 b n d) * k_r V0 b d)
  (∑ d : Fin 64, (nMem V0) (ix3 b n d) * (nMem V0) (ix3 b n d)) (∑ d : Fin 64, k_r V0 b d * k_r V0 b d)

theorem k_r_at (d : Fin 64) : (res_main_v130 V0 : FVec Ideal S64x64 .f32) (ix2 b d) = k_r V0 b d := prj64 b _ _ _ d
theorem be_r_at : (res_main_v134 V0 : FVec Ideal S64x1 .f32) (ix2 b 0) = prj V0 b 1 (a9 V0) (a10 V0) 0 := prj1 b _ _ _
theorem g_r_at : (res_main_v145 V0 : FVec Ideal S64x1 .f32) (ix2 b 0) = g_r V0 b :=
  (gate b _).trans (congrArg Ideal.logistic (prj1 b _ _ _))
theorem l_r_at (j : Fin 3) : (res_main_v149 V0 : FVec Ideal S64x3 .f32) (ix2 b j) = prj V0 b 3 (a13 V0) (a14 V0) j := prj3 b _ _ _ j
theorem e_r_at (j : Fin 3) : (res_main_v156 V0 : FVec Ideal S64x3 .f32) (ix2 b j) = Ideal.exp (prj V0 b 3 (a13 V0) (a14 V0) j - Finset.univ.fold max ⊥ (prj V0 b 3 (a13 V0) (a14 V0))) :=
  (sm3 b _ j).trans (congrArg₂ (fun x (y : Fin 3 → EReal) => Ideal.exp (x - Finset.univ.fold max ⊥ y)) (l_r_at V0 b j) (funext (l_r_at V0 b)))
theorem s_r_at (j : Fin 3) : (res_main_v160 V0 : FVec Ideal S64x3 .f32) (ix2 b j) = s_r V0 b j :=
  (sm3d b _ j).trans (congrArg₂ (fun x (y : Fin 3 → EReal) => Ideal.div x (∑ k, y k)) (e_r_at V0 b j) (funext (e_r_at V0 b)))
theorem ga_r_at : (res_main_v164 V0 : FVec Ideal S64x1 .f32) (ix2 b 0) = prj V0 b 1 (a15 V0) (a16 V0) 0 := prj1 b _ _ _
theorem c_r_be : (broadcastInDim S64x1 ![] bcast_S_S64x1 (res_main_call8_cst V0) : FVec Ideal S64x1 .f32) = fun _ => 0 := by
  unfold res_main_call8_cst
  funext i
  exact Ideal.ofBits_zero_f32
theorem c_r_ga : (broadcastInDim S64x1 ![] bcast_S_S64x1 (res_main_call9_cst V0) : FVec Ideal S64x1 .f32) = fun _ => 0 := by
  unfold res_main_call9_cst
  funext i
  exact Ideal.ofBits_zero_f32
theorem d_r_be : (res_main_call8_v3 V0 : FVec Ideal S64x1 .f32) = (res_main_v134 V0 : FVec Ideal S64x1 .f32) := by
  unfold res_main_call8_v3
  rw [c_r_be]
  funext i
  exact sub_zero _
theorem d_r_ga : (res_main_call9_v3 V0 : FVec Ideal S64x1 .f32) = (res_main_v164 V0 : FVec Ideal S64x1 .f32) := by
  unfold res_main_call9_v3
  rw [c_r_ga]
  funext i
  exact sub_zero _
theorem z_r_at (n : Fin 8192) : (res_main_v177 V0 : FVec Ideal S64x8192 .f32) (ix2 b n) = z_r V0 b n := by
  refine (simR b _ _ _ n).trans ?_
  rw [softR b _ _ _ (c_r_be V0) (d_r_be V0), be_r_at]
  simp only [k_r_at]
  rfl
theorem x_r_at (n : Fin 8192) : (res_main_v184 V0 : FVec Ideal S64x8192 .f32) (ix2 b n) = Ideal.exp (z_r V0 b n - Finset.univ.fold max ⊥ (z_r V0 b)) :=
  (smN b _ n).trans (congrArg₂ (fun x (y : Fin 8192 → EReal) => Ideal.exp (x - Finset.univ.fold max ⊥ y)) (z_r_at V0 b n) (funext (z_r_at V0 b)))
/-- The earlier weights of row `b`. -/
def p_r (n : Fin 8192) : EReal := a2 V0 (ix2 b n)
theorem wg_r_at (n : Fin 8192) : (res_main_v195 V0 : FVec Ideal S64x8192 .f32) (ix2 b n) = wgE (z_r V0 b) (g_r V0 b) (p_r V0 b) n := by
  refine (wgR b _ _ _ n).trans ?_
  rw [g_r_at]
  simp only [x_r_at]
  rfl
theorem up_r_at (n : Fin 8192) : (res_main_v213 V0 : FVec Ideal S64x8192 .f32) (ix2 b n)
    = upE nxt prv (z_r V0 b) (g_r V0 b) (ga_r V0 b) (s_r V0 b 0) (s_r V0 b 1) (s_r V0 b 2) (p_r V0 b) n := by
  refine (powR b _ _ n).trans ?_
  rw [softR b _ _ _ (c_r_ga V0) (d_r_ga V0), ga_r_at, shR b _ _ n]
  simp only [s_r_at, wg_r_at]
  rfl

/-- The reference's read vector. -/
theorem out_at (d : Fin 64) : Host.dotGeneral (F := Ideal) dot_S64x8192x64_S64x8192_S64x64_1_1_2_n_0_0 none (nMem V0) (Host.divf (uR V0) (broadcastInDim S64x8192 ![0, 1] bcast_S64x1_S64x8192_0_1 (addf (broadcastInDim S64x1 ![0] bcast_S64_S64x1_0 (Host.reduceAdd (uR V0) (constant S_ .f32 0x00000000#32) reducesTo_S64x8192_S64_d1 h_S_)) (broadcastInDim S64x1 ![] bcast_S_S64x1 (constant S_ .f32 0x322BCC77#32))))) (ix2 b d)
    = ∑ n : Fin 8192, nMem V0 (ix3 b n d) * Ideal.div (uR V0 (ix2 b n)) (∑ k : Fin 8192, uR V0 (ix2 b k) + eps) := by
  refine (readR b _ _ d).trans ?_
  exact Finset.sum_congr rfl fun n _ => congrArg _ (nmR b _ n)

end Cert.Val.Ref
-- ==== Proof.VHost.lean ====
/- What the host puts into the first call's operands. -/
module

public import proofs.«01_k».proof.Proof.IFold
public import Idealize.ShloMosaic.Lib.StableHlo.Run
public import proofs.«01_k».proof.Proof.VHead

@[expose] public section

set_option maxRecDepth 16384

noncomputable section

namespace Cert.Val

open Cert.KernelIdeal Cert.KernelIdeal.Gen Cert.KernelIdeal.Hand
open Idealize.ShloMosaic Idealize.ShloMosaic.TcCoe Idealize.ShloMosaic.StableHlo

/-- Three columns and a block of three packed side by side and padded to a register's width. -/
def packW (p0 p1 p2 : FVec Ideal S256x1 .f32) (p3 : FVec Ideal S256x3 .f32) : FVec Ideal S256x128 .f32 :=
  pad S256x128 ![0, 0] ![0, 122] ![0, 0] (concatenate S256x6 1 [⟨S256x1, p0⟩, ⟨S256x1, p1⟩, ⟨S256x1, p2⟩, ⟨S256x3, p3⟩] concatenates_S256x1_S256x1_S256x1_S256x3_S256x6_d1)
    (sitofp (F := Ideal) .f32 (constantI S_ 32 0#32)) pads_S256x6_S256x128_000_01220 h_S_
/-- The biases packed the same way. -/
def packB (p0 p1 p2 : FVec Ideal S1 .f32) (p3 : FVec Ideal S3 .f32) : FVec Ideal S1x128 .f32 :=
  shapeCast S1x128 (pad S128 ![0] ![122] ![0] (concatenate S6 0 [⟨S1, p0⟩, ⟨S1, p1⟩, ⟨S1, p2⟩, ⟨S3, p3⟩] concatenates_S1_S1_S1_S3_S6_d0)
    (sitofp (F := Ideal) .f32 (constantI S_ 32 0#32)) pads_S6_S128_01220 h_S_) shapeCasts_S128_S1x128

section
variable (p0 p1 p2 : FVec Ideal S256x1 .f32) (p3 : FVec Ideal S256x3 .f32) (k : Fin 256)
theorem packW_0 : packW p0 p1 p2 p3 (ix2 k 0) = p0 (ix2 k 0) := by pointwise [packW]
theorem packW_1 : packW p0 p1 p2 p3 (ix2 k 1) = p1 (ix2 k 0) := by pointwise [packW]
theorem packW_2 : packW p0 p1 p2 p3 (ix2 k 2) = p2 (ix2 k 0) := by pointwise [packW]
theorem packW_3 (i : Fin 3) : packW p0 p1 p2 p3 (ix2 k ⟨3 + i.val, by omega⟩) = p3 (ix2 k i) := by
  fin_cases i
  · show packW p0 p1 p2 p3 (ix2 k 3) = p3 (ix2 k 0)
    pointwise [packW]
  · show packW p0 p1 p2 p3 (ix2 k 4) = p3 (ix2 k 1)
    pointwise [packW]
  · show packW p0 p1 p2 p3 (ix2 k 5) = p3 (ix2 k 2)
    pointwise [packW]
end
section
variable (p0 p1 p2 : FVec Ideal S1 .f32) (p3 : FVec Ideal S3 .f32)
theorem packB_0 : packB p0 p1 p2 p3 (ix2 0 0) = p0 (ix1 0) := by pointwise [packB]
theorem packB_1 : packB p0 p1 p2 p3 (ix2 0 1) = p1 (ix1 0) := by pointwise [packB]
theorem packB_2 : packB p0 p1 p2 p3 (ix2 0 2) = p2 (ix1 0) := by pointwise [packB]
theorem packB_3 (i : Fin 3) : packB p0 p1 p2 p3 (ix2 0 ⟨3 + i.val, by omega⟩) = p3 (ix1 i) := by
  fin_cases i
  · show packB p0 p1 p2 p3 (ix2 0 3) = p3 (ix1 0)
    pointwise [packB]
  · show packB p0 p1 p2 p3 (ix2 0 4) = p3 (ix1 1)
    pointwise [packB]
  · show packB p0 p1 p2 p3 (ix2 0 5) = p3 (ix1 2)
    pointwise [packB]
end

/-! ### The stretches of host operations, at any contents -/

section
variable (V : Valuation τ sig (Elt Ideal))
theorem s0_v0 : after hostOps0 V (no_index (Proc.devRef .tc main_v0))
    = concatenate S64x192 1 [⟨S64x128, V (Proc.devRef .tc main_arg0)⟩, ⟨S64x64, V (Proc.devRef .tc main_arg4)⟩] concatenates_S64x128_S64x64_S64x192_d1 := by
  simp only [hostOps0, TRef.binary, TRef.nullary, TRef.ternary, TRef.unary, TRef.toBuf, TRef.ofBuf, cast_eq]
  after_results_simp <;> rfl
theorem s0_v1 : after hostOps0 V (no_index (Proc.devRef .tc main_v1))
    = concatenate S256x6 1 [⟨S256x1, V (Proc.devRef .tc main_arg9)⟩, ⟨S256x1, V (Proc.devRef .tc main_arg11)⟩, ⟨S256x1, V (Proc.devRef .tc main_arg15)⟩, ⟨S256x3, V (Proc.devRef .tc main_arg13)⟩] concatenates_S256x1_S256x1_S256x1_S256x3_S256x6_d1 := by
  simp only [hostOps0, TRef.binary, TRef.nullary, TRef.ternary, TRef.unary, TRef.toBuf, TRef.ofBuf, cast_eq]
  after_results_simp <;> rfl
theorem s0_c : after hostOps0 V (no_index (Proc.devRef .tc main_c)) = constantI S_ 32 0#32 := by
  simp only [hostOps0, TRef.binary, TRef.nullary, TRef.ternary, TRef.unary, TRef.toBuf, TRef.ofBuf, cast_eq]
  after_results_simp <;> rfl
theorem s1_v2 : after hostOps0_1 V (no_index (Proc.devRef .tc main_v2))
    = pad S256x128 ![0, 0] ![0, 122] ![0, 0] (V (Proc.devRef .tc main_v1)) (sitofp (F := Ideal) .f32 (V (Proc.devRef .tc main_c))) pads_S256x6_S256x128_000_01220 h_S_ := by
  simp only [hostOps0_1, TRef.binary, TRef.nullary, TRef.ternary, TRef.unary, TRef.toBuf, TRef.ofBuf, cast_eq]
  after_results_simp <;> rfl
theorem s2_v3 : after hostOps0_2 V (no_index (Proc.devRef .tc main_v3))
    = concatenate S6 0 [⟨S1, V (Proc.devRef .tc main_arg10)⟩, ⟨S1, V (Proc.devRef .tc main_arg12)⟩, ⟨S1, V (Proc.devRef .tc main_arg16)⟩, ⟨S3, V (Proc.devRef .tc main_arg14)⟩] concatenates_S1_S1_S1_S3_S6_d0 := by
  simp only [hostOps0_2, TRef.binary, TRef.nullary, TRef.ternary, TRef.unary, TRef.toBuf, TRef.ofBuf, cast_eq]
  after_results_simp <;> rfl
theorem s2_c : after hostOps0_2 V (no_index (Proc.devRef .tc main_c_0)) = constantI S_ 32 0#32 := by
  simp only [hostOps0_2, TRef.binary, TRef.nullary, TRef.ternary, TRef.unary, TRef.toBuf, TRef.ofBuf, cast_eq]
  after_results_simp <;> rfl
theorem s3_v4 : after hostOps0_3 V (no_index (Proc.devRef .tc main_v4))
    = pad S128 ![0] ![122] ![0] (V (Proc.devRef .tc main_v3)) (sitofp (F := Ideal) .f32 (V (Proc.devRef .tc main_c_0))) pads_S6_S128_01220 h_S_ := by
  simp only [hostOps0_3, TRef.binary, TRef.nullary, TRef.ternary, TRef.unary, TRef.toBuf, TRef.ofBuf, cast_eq]
  after_results_simp <;> rfl
theorem s4_v5 : after hostOps0_4 V (no_index (Proc.devRef .tc main_v5)) = shapeCast S1x128 (V (Proc.devRef .tc main_v4)) shapeCasts_S128_S1x128 := by
  simp only [hostOps0_4, TRef.binary, TRef.nullary, TRef.ternary, TRef.unary, TRef.toBuf, TRef.ofBuf, cast_eq]
  after_results_simp <;> rfl
theorem s4_v6 : after hostOps0_4 V (no_index (Proc.devRef .tc main_v6))
    = concatenate S256x6 1 [⟨S256x1, V (Proc.devRef .tc main_arg19)⟩, ⟨S256x1, V (Proc.devRef .tc main_arg21)⟩, ⟨S256x1, V (Proc.devRef .tc main_arg25)⟩, ⟨S256x3, V (Proc.devRef .tc main_arg23)⟩] concatenates_S256x1_S256x1_S256x1_S256x3_S256x6_d1 := by
  simp only [hostOps0_4, TRef.binary, TRef.nullary, TRef.ternary, TRef.unary, TRef.toBuf, TRef.ofBuf, cast_eq]
  after_results_simp <;> rfl
theorem s4_c : after hostOps0_4 V (no_index (Proc.devRef .tc main_c_1)) = constantI S_ 32 0#32 := by
  simp only [hostOps0_4, TRef.binary, TRef.nullary, TRef.ternary, TRef.unary, TRef.toBuf, TRef.ofBuf, cast_eq]
  after_results_simp <;> rfl
theorem s5_v7 : after hostOps0_5 V (no_index (Proc.devRef .tc main_v7))
    = pad S256x128 ![0, 0] ![0, 122] ![0, 0] (V (Proc.devRef .tc main_v6)) (sitofp (F := Ideal) .f32 (V (Proc.devRef .tc main_c_1))) pads_S256x6_S256x128_000_01220 h_S_ := by
  simp only [hostOps0_5, TRef.binary, TRef.nullary, TRef.ternary, TRef.unary, TRef.toBuf, TRef.ofBuf, cast_eq]
  after_results_simp <;> rfl
theorem s6_v8 : after hostOps0_6 V (no_index (Proc.devRef .tc main_v8))
    = concatenate S6 0 [⟨S1, V (Proc.devRef .tc main_arg20)⟩, ⟨S1, V (Proc.devRef .tc main_arg22)⟩, ⟨S1, V (Proc.devRef .tc main_arg26)⟩, ⟨S3, V (Proc.devRef .tc main_arg24)⟩] concatenates_S1_S1_S1_S3_S6_d0 := by
  simp only [hostOps0_6, TRef.binary, TRef.nullary, TRef.ternary, TRef.unary, TRef.toBuf, TRef.ofBuf, cast_eq]
  after_results_simp <;> rfl
theorem s6_c : after hostOps0_6 V (no_index (Proc.devRef .tc main_c_2)) = constantI S_ 32 0#32 := by
  simp only [hostOps0_6, TRef.binary, TRef.nullary, TRef.ternary, TRef.unary, TRef.toBuf, TRef.ofBuf, cast_eq]
  after_results_simp <;> rfl
theorem s7_v9 : after hostOps0_7 V (no_index (Proc.devRef .tc main_v9))
    = pad S128 ![0] ![122] ![0] (V (Proc.devRef .tc main_v8)) (sitofp (F := Ideal) .f32 (V (Proc.devRef .tc main_c_2))) pads_S6_S128_01220 h_S_ := by
  simp only [hostOps0_7, TRef.binary, TRef.nullary, TRef.ternary, TRef.unary, TRef.toBuf, TRef.ofBuf, cast_eq]
  after_results_simp <;> rfl
theorem s8_v10 : after hostOps0_8 V (no_index (Proc.devRef .tc main_v10)) = shapeCast S1x128 (V (Proc.devRef .tc main_v9)) shapeCasts_S128_S1x128 := by
  simp only [hostOps0_8, TRef.binary, TRef.nullary, TRef.ternary, TRef.unary, TRef.toBuf, TRef.ofBuf, cast_eq]
  after_results_simp <;> rfl
theorem s8_v11 : after hostOps0_8 V (no_index (Proc.devRef .tc main_v11)) = shapeCast S1x256 (V (Proc.devRef .tc main_arg6)) shapeCasts_S256_S1x256 := by
  simp only [hostOps0_8, TRef.binary, TRef.nullary, TRef.ternary, TRef.unary, TRef.toBuf, TRef.ofBuf, cast_eq]
  after_results_simp <;> rfl
theorem s8_v12 : after hostOps0_8 V (no_index (Proc.devRef .tc main_v12)) = shapeCast S1x64 (V (Proc.devRef .tc main_arg8)) shapeCasts_S64_S1x64 := by
  simp only [hostOps0_8, TRef.binary, TRef.nullary, TRef.ternary, TRef.unary, TRef.toBuf, TRef.ofBuf, cast_eq]
  after_results_simp <;> rfl
theorem s8_v13 : after hostOps0_8 V (no_index (Proc.devRef .tc main_v13)) = shapeCast S1x64 (V (Proc.devRef .tc main_arg18)) shapeCasts_S64_S1x64 := by
  simp only [hostOps0_8, TRef.binary, TRef.nullary, TRef.ternary, TRef.unary, TRef.toBuf, TRef.ofBuf, cast_eq]
  after_results_simp <;> rfl
theorem s8_v14 : after hostOps0_8 V (no_index (Proc.devRef .tc main_v14)) = shapeCast S1x64 (V (Proc.devRef .tc main_arg28)) shapeCasts_S64_S1x64 := by
  simp only [hostOps0_8, TRef.binary, TRef.nullary, TRef.ternary, TRef.unary, TRef.toBuf, TRef.ofBuf, cast_eq]
  after_results_simp <;> rfl
theorem s8_v15 : after hostOps0_8 V (no_index (Proc.devRef .tc main_v15)) = shapeCast S1x64 (V (Proc.devRef .tc main_arg30)) shapeCasts_S64_S1x64 := by
  simp only [hostOps0_8, TRef.binary, TRef.nullary, TRef.ternary, TRef.unary, TRef.toBuf, TRef.ofBuf, cast_eq]
  after_results_simp <;> rfl
theorem t1_v17 : after hostOps1 V (no_index (Proc.devRef .tc main_v17)) = transpose S64x64x8192 [0, 2, 1] (V (Proc.devRef .tc main_arg1)) transposes_S64x8192x64_S64x64x8192_0_2_1 := by
  simp only [hostOps1, TRef.binary, TRef.nullary, TRef.ternary, TRef.unary, TRef.toBuf, TRef.ofBuf, cast_eq]
  after_results_simp <;> rfl
theorem t2_v19 : after hostOps2 V (no_index (Proc.devRef .tc main_v19))
    = concatenate S64x320 1 [⟨S64x256, V (Proc.devRef .tc main_v16_0)⟩, ⟨S64x64, V (Proc.devRef .tc main_v18)⟩] concatenates_S64x256_S64x64_S64x320_d1 := by
  simp only [hostOps2, TRef.binary, TRef.nullary, TRef.ternary, TRef.unary, TRef.toBuf, TRef.ofBuf, cast_eq]
  after_results_simp <;> rfl
end

end Cert.Val
-- ==== Proof.VKer.lean ====
/- The first call's results, in the words of the reference's rows. -/
module

public import proofs.«01_k».proof.Proof.VRef
public import proofs.«01_k».proof.Proof.VHost

@[expose] public section

set_option maxRecDepth 16384

noncomputable section

namespace Cert.Val

open Cert.KernelIdeal Cert.KernelIdeal.Gen Cert.KernelIdeal.Hand
open Idealize.ShloMosaic Idealize.ShloMosaic.TcCoe Idealize.ShloMosaic.StableHlo

/-- A bias as one row. -/
def sc256 (v : FVec Ideal S256 .f32) : FVec Ideal S1x256 .f32 := shapeCast S1x256 v shapeCasts_S256_S1x256
def sc64 (v : FVec Ideal S64 .f32) : FVec Ideal S1x64 .f32 := shapeCast S1x64 v shapeCasts_S64_S1x64
theorem sc256_at (v : FVec Ideal S256 .f32) (j : Fin 256) : sc256 v (ix2 0 j) = v (ix1 j) := by pointwise [sc256]
theorem sc64_at (v : FVec Ideal S64 .f32) (j : Fin 64) : sc64 v (ix2 0 j) = v (ix1 j) := by pointwise [sc64]

section
variable (U : Valuation Cert.ReferenceIdeal.τ Cert.ReferenceIdeal.sig (Elt Ideal)) (b : Fin 64)

/-- The packed parameter projections of the two heads. -/
def pwR : FVec Ideal S256x128 .f32 := packW (Ref.a9 U) (Ref.a11 U) (Ref.a15 U) (Ref.a13 U)
def pbR : FVec Ideal S1x128 .f32 := packB (Ref.a10 U) (Ref.a12 U) (Ref.a16 U) (Ref.a14 U)
def pwW : FVec Ideal S256x128 .f32 := packW (Ref.a19 U) (Ref.a21 U) (Ref.a25 U) (Ref.a23 U)
def pbW : FVec Ideal S1x128 .f32 := packB (Ref.a20 U) (Ref.a22 U) (Ref.a26 U) (Ref.a24 U)

theorem hU : hK (Ref.cat U) (Ref.a5 U) (sc256 (Ref.a6 U)) b = Ref.hR U b := by
  funext j
  rw [Ref.hR_eq]
  unfold hK
  rw [sc256_at]
theorem lnU (W : FVec Ideal S256x64 .f32) (v : FVec Ideal S64 .f32) (d : Fin 64) :
    lnK (Ref.cat U) (Ref.a5 U) (sc256 (Ref.a6 U)) b W (sc64 v) d = Ref.prj U b 64 W v d := by
  unfold lnK Ref.prj
  rw [hU, sc64_at]
theorem rw_r0 : rwK (Ref.cat U) (Ref.a5 U) (sc256 (Ref.a6 U)) b (pwR U) (pbR U) 0 = Ref.prj U b 1 (Ref.a9 U) (Ref.a10 U) 0 := by
  unfold rwK Ref.prj pwR pbR
  rw [hU, packB_0]
  simp only [packW_0]
theorem rw_r1 : rwK (Ref.cat U) (Ref.a5 U) (sc256 (Ref.a6 U)) b (pwR U) (pbR U) 1 = Ref.prj U b 1 (Ref.a11 U) (Ref.a12 U) 0 := by
  unfold rwK Ref.prj pwR pbR
  rw [hU, packB_1]
  simp only [packW_1]
theorem rw_r2 : rwK (Ref.cat U) (Ref.a5 U) (sc256 (Ref.a6 U)) b (pwR U) (pbR U) 2 = Ref.prj U b 1 (Ref.a15 U) (Ref.a16 U) 0 := by
  unfold rwK Ref.prj pwR pbR
  rw [hU, packB_2]
  simp only [packW_2]
theorem rw_r3 : tri (rwK (Ref.cat U) (Ref.a5 U) (sc256 (Ref.a6 U)) b (pwR U) (pbR U)) = Ref.prj U b 3 (Ref.a13 U) (Ref.a14 U) := by
  funext i
  unfold tri rwK Ref.prj pwR pbR
  rw [hU, packB_3]
  simp only [packW_3]
theorem rw_w0 : rwK (Ref.cat U) (Ref.a5 U) (sc256 (Ref.a6 U)) b (pwW U) (pbW U) 0 = Ref.prj U b 1 (Ref.a19 U) (Ref.a20 U) 0 := by
  unfold rwK Ref.prj pwW pbW
  rw [hU, packB_0]
  simp only [packW_0]
theorem rw_w1 : rwK (Ref.cat U) (Ref.a5 U) (sc256 (Ref.a6 U)) b (pwW U) (pbW U) 1 = Ref.prj U b 1 (Ref.a21 U) (Ref.a22 U) 0 := by
  unfold rwK Ref.prj pwW pbW
  rw [hU, packB_1]
  simp only [packW_1]
theorem rw_w2 : rwK (Ref.cat U) (Ref.a5 U) (sc256 (Ref.a6 U)) b (pwW U) (pbW U) 2 = Ref.prj U b 1 (Ref.a25 U) (Ref.a26 U) 0 := by
  unfold rwK Ref.prj pwW pbW
  rw [hU, packB_2]
  simp only [packW_2]
theorem rw_w3 : tri (rwK (Ref.cat U) (Ref.a5 U) (sc256 (Ref.a6 U)) b (pwW U) (pbW U)) = Ref.prj U b 3 (Ref.a23 U) (Ref.a24 U) := by
  funext i
  unfold tri rwK Ref.prj pwW pbW
  rw [hU, packB_3]
  simp only [packW_3]

/-- The seven results. -/
def O15 : Vec Ideal S64x256 .f32 := out0_15 (Ref.cat U) (Ref.a5 U) (sc256 (Ref.a6 U)) (Ref.a7 U) (sc64 (Ref.a8 U)) (Ref.a17 U) (sc64 (Ref.a18 U)) (Ref.a27 U) (sc64 (Ref.a28 U)) (Ref.a29 U) (sc64 (Ref.a30 U)) (pwR U) (pbR U) (pwW U) (pbW U)
def O16 : Vec Ideal S64x64 .f32 := out0_16 (Ref.cat U) (Ref.a5 U) (sc256 (Ref.a6 U)) (Ref.a7 U) (sc64 (Ref.a8 U)) (Ref.a17 U) (sc64 (Ref.a18 U)) (Ref.a27 U) (sc64 (Ref.a28 U)) (Ref.a29 U) (sc64 (Ref.a30 U)) (pwR U) (pbR U) (pwW U) (pbW U)
def O17 : Vec Ideal S64x64 .f32 := out0_17 (Ref.cat U) (Ref.a5 U) (sc256 (Ref.a6 U)) (Ref.a7 U) (sc64 (Ref.a8 U)) (Ref.a17 U) (sc64 (Ref.a18 U)) (Ref.a27 U) (sc64 (Ref.a28 U)) (Ref.a29 U) (sc64 (Ref.a30 U)) (pwR U) (pbR U) (pwW U) (pbW U)
def O18 : Vec Ideal S64x8x64 .bf16 := out0_18 (Ref.cat U) (Ref.a5 U) (sc256 (Ref.a6 U)) (Ref.a7 U) (sc64 (Ref.a8 U)) (Ref.a17 U) (sc64 (Ref.a18 U)) (Ref.a27 U) (sc64 (Ref.a28 U)) (Ref.a29 U) (sc64 (Ref.a30 U)) (pwR U) (pbR U) (pwW U) (pbW U)
def O19 : Vec Ideal S64x8x64 .bf16 := out0_19 (Ref.cat U) (Ref.a5 U) (sc256 (Ref.a6 U)) (Ref.a7 U) (sc64 (Ref.a8 U)) (Ref.a17 U) (sc64 (Ref.a18 U)) (Ref.a27 U) (sc64 (Ref.a28 U)) (Ref.a29 U) (sc64 (Ref.a30 U)) (pwR U) (pbR U) (pwW U) (pbW U)
def O20 : Vec Ideal S64x128 .f32 := out0_20 (Ref.cat U) (Ref.a5 U) (sc256 (Ref.a6 U)) (Ref.a7 U) (sc64 (Ref.a8 U)) (Ref.a17 U) (sc64 (Ref.a18 U)) (Ref.a27 U) (sc64 (Ref.a28 U)) (Ref.a29 U) (sc64 (Ref.a30 U)) (pwR U) (pbR U) (pwW U) (pbW U)
def O21 : Vec Ideal S64x128 .f32 := out0_21 (Ref.cat U) (Ref.a5 U) (sc256 (Ref.a6 U)) (Ref.a7 U) (sc64 (Ref.a8 U)) (Ref.a17 U) (sc64 (Ref.a18 U)) (Ref.a27 U) (sc64 (Ref.a28 U)) (Ref.a29 U) (sc64 (Ref.a30 U)) (pwR U) (pbR U) (pwW U) (pbW U)

theorem O15_at (j : Fin 256) : O15 U (ix2 b j) = Ref.hR U b j := by
  unfold O15
  rw [out15_at, hU]
theorem O16_at (d : Fin 64) : O16 U (ix2 b d) = Ref.er U b d := by
  unfold O16
  rw [out16_at, lnU]; rfl
theorem O17_at (d : Fin 64) : O17 U (ix2 b d) = Ref.ad U b d := by
  unfold O17
  rw [out17_at, lnU]; rfl
theorem O18_at0 (d : Fin 64) : O18 U (ix3 b 0 d) = Ref.k_w U b d := by
  unfold O18
  rw [out18_at0]
  simp only [lnU]; rfl
theorem O18_at1 (d : Fin 64) : O18 U (ix3 b 1 d) = Ref.k_r U b d := by
  unfold O18
  rw [out18_at1]
  simp only [lnU]; rfl
theorem O18_at2 (d : Fin 64) : O18 U (ix3 b 2 d) = Ref.er U b d * Ref.k_r U b d := by
  unfold O18
  rw [out18_at2]
  simp only [lnU]; rfl
theorem O18_at3 (d : Fin 64) : O18 U (ix3 b 3 d) = Ref.ad U b d := by
  unfold O18
  rw [out18_at3]
  simp only [lnU]; rfl
theorem O18_at4 (d : Fin 64) : O18 U (ix3 b 4 d) = Ref.ad U b d * Ref.er U b d := by
  unfold O18
  rw [out18_at4]
  simp only [lnU]; rfl
theorem O19_at0 (d : Fin 64) : O19 U (ix3 b 0 d) = 1 := by
  unfold O19
  rw [out19_at0]
theorem O19_at1 (d : Fin 64) : O19 U (ix3 b 1 d) = Ref.er U b d := by
  unfold O19
  rw [out19_at1]
  simp only [lnU]; rfl
theorem O19_at2 (d : Fin 64) : O19 U (ix3 b 2 d) = Ref.er U b d * Ref.er U b d := by
  unfold O19
  rw [out19_at2]
  simp only [lnU]; rfl
theorem O20_at0 : O20 U (ix2 b 0) = Ref.be_r U b := by
  unfold O20
  rw [out20_at0]
  rw [rw_r0]; rfl
theorem O20_at1 : O20 U (ix2 b 1) = Ref.g_r U b := by
  unfold O20
  rw [out20_at1]
  rw [rw_r1]; rfl
theorem O20_at2 : O20 U (ix2 b 2) = Ref.ga_r U b := by
  unfold O20
  rw [out20_at2]
  rw [rw_r2]; rfl
theorem O20_at3 : O20 U (ix2 b 3) = Ref.s_r U b 0 := by
  unfold O20
  rw [out20_at3]
  rw [rw_r3]; rfl
theorem O20_at4 : O20 U (ix2 b 4) = Ref.s_r U b 1 := by
  unfold O20
  rw [out20_at4]
  rw [rw_r3]; rfl
theorem O20_at5 : O20 U (ix2 b 5) = Ref.s_r U b 2 := by
  unfold O20
  rw [out20_at5]
  rw [rw_r3]; rfl
theorem O20_at6 : O20 U (ix2 b 6) = ∑ d, Ref.k_r U b d * Ref.k_r U b d := by
  unfold O20
  rw [out20_at6]
  simp only [lnU]; rfl
theorem O21_at0 : O21 U (ix2 b 0) = Ref.be_w U b := by
  unfold O21
  rw [out21_at0]
  rw [rw_w0]; rfl
theorem O21_at1 : O21 U (ix2 b 1) = Ref.g_w U b := by
  unfold O21
  rw [out21_at1]
  rw [rw_w1]; rfl
theorem O21_at2 : O21 U (ix2 b 2) = Ref.ga_w U b := by
  unfold O21
  rw [out21_at2]
  rw [rw_w2]; rfl
theorem O21_at3 : O21 U (ix2 b 3) = Ref.s_w U b 0 := by
  unfold O21
  rw [out21_at3]
  rw [rw_w3]; rfl
theorem O21_at4 : O21 U (ix2 b 4) = Ref.s_w U b 1 := by
  unfold O21
  rw [out21_at4]
  rw [rw_w3]; rfl
theorem O21_at5 : O21 U (ix2 b 5) = Ref.s_w U b 2 := by
  unfold O21
  rw [out21_at5]
  rw [rw_w3]; rfl
theorem O21_at6 : O21 U (ix2 b 6) = ∑ d, Ref.k_w U b d * Ref.k_w U b d := by
  unfold O21
  rw [out21_at6]
  simp only [lnU]; rfl
theorem O20_at7 : O20 U (ix2 b 7) = ∑ d, Ref.ad U b d * Ref.k_r U b d := by
  unfold O20
  rw [out20_at7]
  simp only [lnU]; rfl
theorem O20_at8 : O20 U (ix2 b 8) = ∑ d, Ref.ad U b d * Ref.ad U b d := by
  unfold O20
  rw [out20_at8]
  simp only [lnU]; rfl
end

end Cert.Val

end
-- ==== Proof.VPlumb.lean ====
/- How the two calls' blocks lie in their arrays. -/
module

public import proofs.«01_k».proof.Proof.IFold
public import proofs.«01_k».proof.Proof.IRegion1
public import Idealize.ShloMosaic.Lib.Pipeline.ValueKit
public import proofs.«01_k».proof.Proof.VHead

@[expose] public section

set_option maxRecDepth 16384

noncomputable section

namespace Cert.Val

open Cert.KernelIdeal Cert.KernelIdeal.Gen Cert.KernelIdeal.Hand
open Idealize.ShloMosaic Idealize.ShloMosaic.TcCoe Idealize.ShloMosaic.StableHlo

variable (V : (c : Dev nD) → (b : Ref sig .tc) → Buf (Elt Ideal) ((c : Thread nD τ).loc b)) (c : Dev nD)

/-! ### The first call: every block is its whole array -/

theorem ix0_0 : win0_0.index t0_0 = ![0, 0] := by decide +kernel
theorem ib0_0 : (iblk0 V c 0 t0_0 : Vec Ideal S64x192 .f32) = (V c main_v0 : Vec Ideal S64x192 .f32) := by
  funext y
  blk_ext [iblk0, ix0_0]
theorem ix0_1 : win0_1.index t0_0 = ![0, 0] := by decide +kernel
theorem ib0_1 : (iblk0 V c 1 t0_0 : Vec Ideal S192x256 .f32) = (V c main_arg5 : Vec Ideal S192x256 .f32) := by
  funext y
  blk_ext [iblk0, ix0_1]
theorem ix0_2 : win0_2.index t0_0 = ![0, 0] := by decide +kernel
theorem ib0_2 : (iblk0 V c 2 t0_0 : Vec Ideal S1x256 .f32) = (V c main_v11 : Vec Ideal S1x256 .f32) := by
  funext y
  blk_ext [iblk0, ix0_2]
theorem ix0_3 : win0_3.index t0_0 = ![0, 0] := by decide +kernel
theorem ib0_3 : (iblk0 V c 3 t0_0 : Vec Ideal S256x64 .f32) = (V c main_arg7 : Vec Ideal S256x64 .f32) := by
  funext y
  blk_ext [iblk0, ix0_3]
theorem ix0_4 : win0_4.index t0_0 = ![0, 0] := by decide +kernel
theorem ib0_4 : (iblk0 V c 4 t0_0 : Vec Ideal S1x64 .f32) = (V c main_v12 : Vec Ideal S1x64 .f32) := by
  funext y
  blk_ext [iblk0, ix0_4]
theorem ix0_5 : win0_5.index t0_0 = ![0, 0] := by decide +kernel
theorem ib0_5 : (iblk0 V c 5 t0_0 : Vec Ideal S256x64 .f32) = (V c main_arg17 : Vec Ideal S256x64 .f32) := by
  funext y
  blk_ext [iblk0, ix0_5]
theorem ix0_6 : win0_6.index t0_0 = ![0, 0] := by decide +kernel
theorem ib0_6 : (iblk0 V c 6 t0_0 : Vec Ideal S1x64 .f32) = (V c main_v13 : Vec Ideal S1x64 .f32) := by
  funext y
  blk_ext [iblk0, ix0_6]
theorem ix0_7 : win0_7.index t0_0 = ![0, 0] := by decide +kernel
theorem ib0_7 : (iblk0 V c 7 t0_0 : Vec Ideal S256x64 .f32) = (V c main_arg27 : Vec Ideal S256x64 .f32) := by
  funext y
  blk_ext [iblk0, ix0_7]
theorem ix0_8 : win0_8.index t0_0 = ![0, 0] := by decide +kernel
theorem ib0_8 : (iblk0 V c 8 t0_0 : Vec Ideal S1x64 .f32) = (V c main_v14 : Vec Ideal S1x64 .f32) := by
  funext y
  blk_ext [iblk0, ix0_8]
theorem ix0_9 : win0_9.index t0_0 = ![0, 0] := by decide +kernel
theorem ib0_9 : (iblk0 V c 9 t0_0 : Vec Ideal S256x64 .f32) = (V c main_arg29 : Vec Ideal S256x64 .f32) := by
  funext y
  blk_ext [iblk0, ix0_9]
theorem ix0_10 : win0_10.index t0_0 = ![0, 0] := by decide +kernel
theorem ib0_10 : (iblk0 V c 10 t0_0 : Vec Ideal S1x64 .f32) = (V c main_v15 : Vec Ideal S1x64 .f32) := by
  funext y
  blk_ext [iblk0, ix0_10]
theorem ix0_11 : win0_11.index t0_0 = ![0, 0] := by decide +kernel
theorem ib0_11 : (iblk0 V c 11 t0_0 : Vec Ideal S256x128 .f32) = (V c main_v2 : Vec Ideal S256x128 .f32) := by
  funext y
  blk_ext [iblk0, ix0_11]
theorem ix0_12 : win0_12.index t0_0 = ![0, 0] := by decide +kernel
theorem ib0_12 : (iblk0 V c 12 t0_0 : Vec Ideal S1x128 .f32) = (V c main_v5 : Vec Ideal S1x128 .f32) := by
  funext y
  blk_ext [iblk0, ix0_12]
theorem ix0_13 : win0_13.index t0_0 = ![0, 0] := by decide +kernel
theorem ib0_13 : (iblk0 V c 13 t0_0 : Vec Ideal S256x128 .f32) = (V c main_v7 : Vec Ideal S256x128 .f32) := by
  funext y
  blk_ext [iblk0, ix0_13]
theorem ix0_14 : win0_14.index t0_0 = ![0, 0] := by decide +kernel
theorem ib0_14 : (iblk0 V c 14 t0_0 : Vec Ideal S1x128 .f32) = (V c main_v10 : Vec Ideal S1x128 .f32) := by
  funext y
  blk_ext [iblk0, ix0_14]
theorem arr0_15 : (dat0 V c).arrAt 15 cfg0.N = (dat0 V c).after 15 t0_0 := by
  refine (dat0 V c).arrAt_eq_of_after_last 15 t0_0 (by decide +kernel) _ fun j => ?_
  blk_simp
theorem arr0_16 : (dat0 V c).arrAt 16 cfg0.N = (dat0 V c).after 16 t0_0 := by
  refine (dat0 V c).arrAt_eq_of_after_last 16 t0_0 (by decide +kernel) _ fun j => ?_
  blk_simp
theorem arr0_17 : (dat0 V c).arrAt 17 cfg0.N = (dat0 V c).after 17 t0_0 := by
  refine (dat0 V c).arrAt_eq_of_after_last 17 t0_0 (by decide +kernel) _ fun j => ?_
  blk_simp
theorem arr0_18 : (dat0 V c).arrAt 18 cfg0.N = (dat0 V c).after 18 t0_0 := by
  refine (dat0 V c).arrAt_eq_of_after_last 18 t0_0 (by decide +kernel) _ fun j => ?_
  blk_simp
theorem arr0_19 : (dat0 V c).arrAt 19 cfg0.N = (dat0 V c).after 19 t0_0 := by
  refine (dat0 V c).arrAt_eq_of_after_last 19 t0_0 (by decide +kernel) _ fun j => ?_
  blk_simp
theorem arr0_20 : (dat0 V c).arrAt 20 cfg0.N = (dat0 V c).after 20 t0_0 := by
  refine (dat0 V c).arrAt_eq_of_after_last 20 t0_0 (by decide +kernel) _ fun j => ?_
  blk_simp
theorem arr0_21 : (dat0 V c).arrAt 21 cfg0.N = (dat0 V c).after 21 t0_0 := by
  refine (dat0 V c).arrAt_eq_of_after_last 21 t0_0 (by decide +kernel) _ fun j => ?_
  blk_simp

/-! ### The second call: blocks of eight rows -/

/-- Row `r` of the eight that point `t` works on. -/
def rowOf (t : Fin cfg1.N) (r : Fin 8) : Fin 64 := ⟨8 * (t.val / 4) + r.val, by have := t.isLt; have : cfg1.N = 32 := N_1; omega⟩
theorem rowOf_val (t : Fin cfg1.N) (r : Fin 8) : (rowOf t r).val = 8 * (t.val / 4) + r.val := rfl

theorem idx1_0 : ∀ t : Fin cfg1.N, (cfg1.win 0).index t = ![t.val / 4, 0, t.val % 2] := by decide +kernel
theorem bl0_at (t : Fin cfg1.N) (r : Fin 8) (d : Fin 64) (n : Fin 4096) :
    bl0 V c t (ix3 r d n) = (V c main_v17 : Vec Ideal S64x64x8192 .f32) (ix3 (rowOf t r) d ⟨4096 * (t.val % 2) + n.val, by omega⟩) := by
  have hr := rowOf_val t r
  unfold bl0
  blk_ext [iblk1, idx1_0 t]
theorem idx1_1 : ∀ t : Fin cfg1.N, (cfg1.win 1).index t = ![t.val / 4, 0, 0] := by decide +kernel
theorem bl1_at (t : Fin cfg1.N) (r : Fin 8) (f : Fin 8) (d : Fin 64) :
    bl1 V c t (ix3 r f d) = (V c main_v16_3 : Vec Ideal S64x8x64 .bf16) (ix3 (rowOf t r) f d) := by
  have hr := rowOf_val t r
  unfold bl1
  blk_ext [iblk1, idx1_1 t]
theorem idx1_2 : ∀ t : Fin cfg1.N, (cfg1.win 2).index t = ![t.val / 4, 0, 0] := by decide +kernel
theorem bl2_at (t : Fin cfg1.N) (r : Fin 8) (f : Fin 8) (d : Fin 64) :
    bl2 V c t (ix3 r f d) = (V c main_v16_4 : Vec Ideal S64x8x64 .bf16) (ix3 (rowOf t r) f d) := by
  have hr := rowOf_val t r
  unfold bl2
  blk_ext [iblk1, idx1_2 t]
theorem idx1_3 : ∀ t : Fin cfg1.N, (cfg1.win 3).index t = ![t.val / 4, 0] := by decide +kernel
theorem bl3_at (t : Fin cfg1.N) (r : Fin 8) (j : Fin 128) :
    bl3 V c t (ix2 r j) = (V c main_v16_6 : Vec Ideal S64x128 .f32) (ix2 (rowOf t r) j) := by
  have hr := rowOf_val t r
  unfold bl3
  blk_ext [iblk1, idx1_3 t]
theorem idx1_4 : ∀ t : Fin cfg1.N, (cfg1.win 4).index t = ![t.val / 4, 0] := by decide +kernel
theorem bl4_at (t : Fin cfg1.N) (r : Fin 8) (j : Fin 8192) :
    bl4 V c t (ix2 r j) = (V c main_arg3 : Vec Ideal S64x8192 .f32) (ix2 (rowOf t r) j) := by
  have hr := rowOf_val t r
  unfold bl4
  blk_ext [iblk1, idx1_4 t]
theorem idx1_5 : ∀ t : Fin cfg1.N, (cfg1.win 5).index t = ![t.val / 4, 0] := by decide +kernel
theorem bl5_at (t : Fin cfg1.N) (r : Fin 8) (j : Fin 128) :
    bl5 V c t (ix2 r j) = (V c main_v16_5 : Vec Ideal S64x128 .f32) (ix2 (rowOf t r) j) := by
  have hr := rowOf_val t r
  unfold bl5
  blk_ext [iblk1, idx1_5 t]
theorem idx1_6 : ∀ t : Fin cfg1.N, (cfg1.win 6).index t = ![t.val / 4, 0] := by decide +kernel
theorem bl6_at (t : Fin cfg1.N) (r : Fin 8) (j : Fin 8192) :
    bl6 V c t (ix2 r j) = (V c main_arg2 : Vec Ideal S64x8192 .f32) (ix2 (rowOf t r) j) := by
  have hr := rowOf_val t r
  unfold bl6
  blk_ext [iblk1, idx1_6 t]
theorem idx1_7 : ∀ t : Fin cfg1.N, (cfg1.win 7).index t = ![t.val / 4, 0] := by decide +kernel
theorem bl7_at (t : Fin cfg1.N) (r : Fin 8) (j : Fin 64) :
    bl7 V c t (ix2 r j) = (V c main_v16_1 : Vec Ideal S64x64 .f32) (ix2 (rowOf t r) j) := by
  have hr := rowOf_val t r
  unfold bl7
  blk_ext [iblk1, idx1_7 t]
theorem idx1_8 : ∀ t : Fin cfg1.N, (cfg1.win 8).index t = ![t.val / 4, 0] := by decide +kernel
theorem bl8_at (t : Fin cfg1.N) (r : Fin 8) (j : Fin 64) :
    bl8 V c t (ix2 r j) = (V c main_v16_2 : Vec Ideal S64x64 .f32) (ix2 (rowOf t r) j) := by
  have hr := rowOf_val t r
  unfold bl8
  blk_ext [iblk1, idx1_8 t]

/-- The point that writes row `b` back. -/
def ptOf (b : Fin 64) : Fin cfg1.N := ⟨4 * (b.val / 8) + 3, by have : cfg1.N = 32 := N_1; omega⟩
theorem rowOf_ptOf (b : Fin 64) : rowOf (ptOf b) ⟨b.val % 8, by omega⟩ = b := by
  apply Fin.ext
  show 8 * ((4 * (b.val / 8) + 3) / 4) + b.val % 8 = b.val
  omega
theorem idx1_9 : ∀ t : Fin cfg1.N, (cfg1.win 9).index t = ![t.val / 4, 0] := by decide +kernel
/-- The second call's result. -/
def outG : Vec Ideal S64x64 .f32 := fun y => OutAt V c (ptOf (y 0)) (ix2 (⟨(y 0).val % 8, by omega⟩ : Fin 8) (y 1))
theorem arr1_9 : (dat1 V c).arrAt 9 cfg1.N = outG V c := by
  refine (dat1 V c).arrAt_eq_of_covers 9 _ (by decide +kernel) fun t hf y => ?_
  have h3 : t.val % 4 = 3 := (Gen.flush1_9 t).mp hf
  have e0 : ((((cfg1.win 9).blk t).view.emb y) 0 : ℕ) = t.val / 4 * 8 + (y 0).val := by blk_simp [idx1_9 t]
  have e1 : ((((cfg1.win 9).blk t).view.emb y) 1 : ℕ) = (y 1).val := by blk_simp [idx1_9 t]
  have hy0 : (y 0).val < 8 := (y 0).isLt
  have ht : ptOf ((((cfg1.win 9).blk t).view.emb y) 0) = t := Fin.ext (by
    show 4 * (((((cfg1.win 9).blk t).view.emb y) 0 : ℕ) / 8) + 3 = t.val
    rw [e0]; omega)
  have hy : (ix2 (⟨((((cfg1.win 9).blk t).view.emb y) 0 : ℕ) % 8, by omega⟩ : Fin 8) ((((cfg1.win 9).blk t).view.emb y) 1) : S8x64.Idx) = y := by
    funext a
    fin_cases a
    · exact Fin.ext (show ((((cfg1.win 9).blk t).view.emb y) 0 : ℕ) % 8 = (y 0).val by rw [e0]; omega)
    · exact Fin.ext e1
  blk_simp
  refine Eq.trans (congrFun (after1_9 V c t) y) ?_
  exact (congrArg₂ (fun (p : Fin cfg1.N) (z : S8x64.Idx) => OutAt V c p z) ht hy).symm

end Cert.Val
-- ==== Proof.VRun.lean ====
/- The buffers of the whole program at the boundaries of its calls, in the words of the reference's arguments. -/
module

public import proofs.«01_k».proof.Proof.VKer
public import proofs.«01_k».proof.Proof.VPlumb
public import proofs.«01_k».proof.Proof.IFold

@[expose] public section

set_option maxRecDepth 16384

noncomputable section

namespace Cert.Val

open Cert.KernelIdeal Cert.KernelIdeal.Gen Cert.KernelIdeal.Hand
open Idealize.ShloMosaic Idealize.ShloMosaic.TcCoe Idealize.ShloMosaic.StableHlo

variable (m : (ℓ : Loc nD τ sig) → Buf (Elt Ideal) ℓ) (ρ : Dev nD → PrngReg) (c : Dev nD)
  (U : Valuation Cert.ReferenceIdeal.τ Cert.ReferenceIdeal.sig (Elt Ideal))

/-- The program's arguments are the reference's. -/
structure Agr : Prop where
  e0 : (m ((c : Thread nD τ).loc main_arg0) : FVec Ideal S64x128 .f32) = Ref.a0 U
  e1 : (m ((c : Thread nD τ).loc main_arg1) : FVec Ideal S64x8192x64 .f32) = Ref.a1 U
  e2 : (m ((c : Thread nD τ).loc main_arg2) : FVec Ideal S64x8192 .f32) = Ref.a2 U
  e3 : (m ((c : Thread nD τ).loc main_arg3) : FVec Ideal S64x8192 .f32) = Ref.a3 U
  e4 : (m ((c : Thread nD τ).loc main_arg4) : FVec Ideal S64x64 .f32) = Ref.a4 U
  e5 : (m ((c : Thread nD τ).loc main_arg5) : FVec Ideal S192x256 .f32) = Ref.a5 U
  e6 : (m ((c : Thread nD τ).loc main_arg6) : FVec Ideal S256 .f32) = Ref.a6 U
  e7 : (m ((c : Thread nD τ).loc main_arg7) : FVec Ideal S256x64 .f32) = Ref.a7 U
  e8 : (m ((c : Thread nD τ).loc main_arg8) : FVec Ideal S64 .f32) = Ref.a8 U
  e9 : (m ((c : Thread nD τ).loc main_arg9) : FVec Ideal S256x1 .f32) = Ref.a9 U
  e10 : (m ((c : Thread nD τ).loc main_arg10) : FVec Ideal S1 .f32) = Ref.a10 U
  e11 : (m ((c : Thread nD τ).loc main_arg11) : FVec Ideal S256x1 .f32) = Ref.a11 U
  e12 : (m ((c : Thread nD τ).loc main_arg12) : FVec Ideal S1 .f32) = Ref.a12 U
  e13 : (m ((c : Thread nD τ).loc main_arg13) : FVec Ideal S256x3 .f32) = Ref.a13 U
  e14 : (m ((c : Thread nD τ).loc main_arg14) : FVec Ideal S3 .f32) = Ref.a14 U
  e15 : (m ((c : Thread nD τ).loc main_arg15) : FVec Ideal S256x1 .f32) = Ref.a15 U
  e16 : (m ((c : Thread nD τ).loc main_arg16) : FVec Ideal S1 .f32) = Ref.a16 U
  e17 : (m ((c : Thread nD τ).loc main_arg17) : FVec Ideal S256x64 .f32) = Ref.a17 U
  e18 : (m ((c : Thread nD τ).loc main_arg18) : FVec Ideal S64 .f32) = Ref.a18 U
  e19 : (m ((c : Thread nD τ).loc main_arg19) : FVec Ideal S256x1 .f32) = Ref.a19 U
  e20 : (m ((c : Thread nD τ).loc main_arg20) : FVec Ideal S1 .f32) = Ref.a20 U
  e21 : (m ((c : Thread nD τ).loc main_arg21) : FVec Ideal S256x1 .f32) = Ref.a21 U
  e22 : (m ((c : Thread nD τ).loc main_arg22) : FVec Ideal S1 .f32) = Ref.a22 U
  e23 : (m ((c : Thread nD τ).loc main_arg23) : FVec Ideal S256x3 .f32) = Ref.a23 U
  e24 : (m ((c : Thread nD τ).loc main_arg24) : FVec Ideal S3 .f32) = Ref.a24 U
  e25 : (m ((c : Thread nD τ).loc main_arg25) : FVec Ideal S256x1 .f32) = Ref.a25 U
  e26 : (m ((c : Thread nD τ).loc main_arg26) : FVec Ideal S1 .f32) = Ref.a26 U
  e27 : (m ((c : Thread nD τ).loc main_arg27) : FVec Ideal S256x64 .f32) = Ref.a27 U
  e28 : (m ((c : Thread nD τ).loc main_arg28) : FVec Ideal S64 .f32) = Ref.a28 U
  e29 : (m ((c : Thread nD τ).loc main_arg29) : FVec Ideal S256x64 .f32) = Ref.a29 U
  e30 : (m ((c : Thread nD τ).loc main_arg30) : FVec Ideal S64 .f32) = Ref.a30 U

variable (hA : Agr m c U)
include hA

theorem x9_arg5 : (X9 m ρ c main_arg5 : FVec Ideal S192x256 .f32) = Ref.a5 U := (W9_args m ρ c main_arg5 (by decide +kernel)).trans hA.e5
theorem x9_arg7 : (X9 m ρ c main_arg7 : FVec Ideal S256x64 .f32) = Ref.a7 U := (W9_args m ρ c main_arg7 (by decide +kernel)).trans hA.e7
theorem x9_arg17 : (X9 m ρ c main_arg17 : FVec Ideal S256x64 .f32) = Ref.a17 U := (W9_args m ρ c main_arg17 (by decide +kernel)).trans hA.e17
theorem x9_arg27 : (X9 m ρ c main_arg27 : FVec Ideal S256x64 .f32) = Ref.a27 U := (W9_args m ρ c main_arg27 (by decide +kernel)).trans hA.e27
theorem x9_arg29 : (X9 m ρ c main_arg29 : FVec Ideal S256x64 .f32) = Ref.a29 U := (W9_args m ρ c main_arg29 (by decide +kernel)).trans hA.e29
theorem x9_v0 : (X9 m ρ c main_v0 : FVec Ideal S64x192 .f32) = Ref.cat U := by
  refine ((W9_of m ρ c main_v0 (by decide +kernel)).trans ((W8_of m ρ c main_v0 (by decide +kernel)).trans ((W7_of m ρ c main_v0 (by decide +kernel)).trans ((W6_of m ρ c main_v0 (by decide +kernel)).trans ((W5_of m ρ c main_v0 (by decide +kernel)).trans ((W4_of m ρ c main_v0 (by decide +kernel)).trans ((W3_of m ρ c main_v0 (by decide +kernel)).trans ((W2_of m ρ c main_v0 (by decide +kernel)).trans ((s0_v0 (W0 m ρ c)).trans ?_)))))))))
  unfold Ref.cat
  rw [← hA.e0, ← hA.e4]
theorem x9_v2 : (X9 m ρ c main_v2 : FVec Ideal S256x128 .f32) = pwR U := by
  refine ((W9_of m ρ c main_v2 (by decide +kernel)).trans ((W8_of m ρ c main_v2 (by decide +kernel)).trans ((W7_of m ρ c main_v2 (by decide +kernel)).trans ((W6_of m ρ c main_v2 (by decide +kernel)).trans ((W5_of m ρ c main_v2 (by decide +kernel)).trans ((W4_of m ρ c main_v2 (by decide +kernel)).trans ((W3_of m ρ c main_v2 (by decide +kernel)).trans ((s1_v2 (W1 m ρ c)).trans ?_))))))))
  have h0 : W1 m ρ c (Proc.devRef .tc main_v1) = _ := s0_v1 (W0 m ρ c)
  have h1 : W1 m ρ c (Proc.devRef .tc main_c) = _ := s0_c (W0 m ρ c)
  rw [h0, h1, W0_args m ρ c main_arg9 (by decide +kernel), W0_args m ρ c main_arg11 (by decide +kernel), W0_args m ρ c main_arg15 (by decide +kernel), W0_args m ρ c main_arg13 (by decide +kernel)]
  unfold pwR
  rw [← hA.e9, ← hA.e11, ← hA.e15, ← hA.e13]
  rfl
theorem x9_v7 : (X9 m ρ c main_v7 : FVec Ideal S256x128 .f32) = pwW U := by
  refine ((W9_of m ρ c main_v7 (by decide +kernel)).trans ((W8_of m ρ c main_v7 (by decide +kernel)).trans ((W7_of m ρ c main_v7 (by decide +kernel)).trans ((s5_v7 (W5 m ρ c)).trans ?_))))
  have h0 : W5 m ρ c (Proc.devRef .tc main_v6) = _ := s4_v6 (W4 m ρ c)
  have h1 : W5 m ρ c (Proc.devRef .tc main_c_1) = _ := s4_c (W4 m ρ c)
  rw [h0, h1, W4_args m ρ c main_arg19 (by decide +kernel), W4_args m ρ c main_arg21 (by decide +kernel), W4_args m ρ c main_arg25 (by decide +kernel), W4_args m ρ c main_arg23 (by decide +kernel)]
  unfold pwW
  rw [← hA.e19, ← hA.e21, ← hA.e25, ← hA.e23]
  rfl
theorem x9_v5 : (X9 m ρ c main_v5 : FVec Ideal S1x128 .f32) = pbR U := by
  refine ((W9_of m ρ c main_v5 (by decide +kernel)).trans ((W8_of m ρ c main_v5 (by decide +kernel)).trans ((W7_of m ρ c main_v5 (by decide +kernel)).trans ((W6_of m ρ c main_v5 (by decide +kernel)).trans ((s4_v5 (W4 m ρ c)).trans ?_)))))
  have h0 : W4 m ρ c (Proc.devRef .tc main_v4) = _ := s3_v4 (W3 m ρ c)
  have h1 : W3 m ρ c (Proc.devRef .tc main_v3) = _ := s2_v3 (W2 m ρ c)
  have h2 : W3 m ρ c (Proc.devRef .tc main_c_0) = _ := s2_c (W2 m ρ c)
  rw [h0, h1, h2, W2_args m ρ c main_arg10 (by decide +kernel), W2_args m ρ c main_arg12 (by decide +kernel), W2_args m ρ c main_arg16 (by decide +kernel), W2_args m ρ c main_arg14 (by decide +kernel)]
  unfold pbR
  rw [← hA.e10, ← hA.e12, ← hA.e16, ← hA.e14]
  rfl
theorem x9_v10 : (X9 m ρ c main_v10 : FVec Ideal S1x128 .f32) = pbW U := by
  refine ((s8_v10 (W8 m ρ c)).trans ?_)
  have h0 : W8 m ρ c (Proc.devRef .tc main_v9) = _ := s7_v9 (W7 m ρ c)
  have h1 : W7 m ρ c (Proc.devRef .tc main_v8) = _ := s6_v8 (W6 m ρ c)
  have h2 : W7 m ρ c (Proc.devRef .tc main_c_2) = _ := s6_c (W6 m ρ c)
  rw [h0, h1, h2, W6_args m ρ c main_arg20 (by decide +kernel), W6_args m ρ c main_arg22 (by decide +kernel), W6_args m ρ c main_arg26 (by decide +kernel), W6_args m ρ c main_arg24 (by decide +kernel)]
  unfold pbW
  rw [← hA.e20, ← hA.e22, ← hA.e26, ← hA.e24]
  rfl
theorem x9_v11 : (X9 m ρ c main_v11 : FVec Ideal S1x256 .f32) = sc256 (Ref.a6 U) := by
  refine (s8_v11 (W8 m ρ c)).trans ?_
  rw [W8_args m ρ c main_arg6 (by decide +kernel), ← hA.e6]
  rfl
theorem x9_v12 : (X9 m ρ c main_v12 : FVec Ideal S1x64 .f32) = sc64 (Ref.a8 U) := by
  refine (s8_v12 (W8 m ρ c)).trans ?_
  rw [W8_args m ρ c main_arg8 (by decide +kernel), ← hA.e8]
  rfl
theorem x9_v13 : (X9 m ρ c main_v13 : FVec Ideal S1x64 .f32) = sc64 (Ref.a18 U) := by
  refine (s8_v13 (W8 m ρ c)).trans ?_
  rw [W8_args m ρ c main_arg18 (by decide +kernel), ← hA.e18]
  rfl
theorem x9_v14 : (X9 m ρ c main_v14 : FVec Ideal S1x64 .f32) = sc64 (Ref.a28 U) := by
  refine (s8_v14 (W8 m ρ c)).trans ?_
  rw [W8_args m ρ c main_arg28 (by decide +kernel), ← hA.e28]
  rfl
theorem x9_v15 : (X9 m ρ c main_v15 : FVec Ideal S1x64 .f32) = sc64 (Ref.a30 U) := by
  refine (s8_v15 (W8 m ρ c)).trans ?_
  rw [W8_args m ρ c main_arg30 (by decide +kernel), ← hA.e30]
  rfl
theorem x10_v16_0 : (W10 m ρ c (Proc.devRef .tc main_v16_0) : Vec Ideal S64x256 .f32) = O15 U := by
  refine (W10_arr m ρ c 15).trans ((arr0_15 (X9 m ρ) c).trans ((after0_15 (X9 m ρ) c t0_0).trans ?_))
  rw [ib0_0 (X9 m ρ) c, ib0_1 (X9 m ρ) c, ib0_2 (X9 m ρ) c, ib0_3 (X9 m ρ) c, ib0_4 (X9 m ρ) c, ib0_5 (X9 m ρ) c, ib0_6 (X9 m ρ) c, ib0_7 (X9 m ρ) c, ib0_8 (X9 m ρ) c, ib0_9 (X9 m ρ) c, ib0_10 (X9 m ρ) c, ib0_11 (X9 m ρ) c, ib0_12 (X9 m ρ) c, ib0_13 (X9 m ρ) c, ib0_14 (X9 m ρ) c]
  rw [x9_v0 m ρ c U hA, x9_arg5 m ρ c U hA, x9_v11 m ρ c U hA, x9_arg7 m ρ c U hA, x9_v12 m ρ c U hA, x9_arg17 m ρ c U hA, x9_v13 m ρ c U hA, x9_arg27 m ρ c U hA, x9_v14 m ρ c U hA, x9_arg29 m ρ c U hA, x9_v15 m ρ c U hA, x9_v2 m ρ c U hA, x9_v5 m ρ c U hA, x9_v7 m ρ c U hA, x9_v10 m ρ c U hA]
  rfl
theorem x10_v16_1 : (W10 m ρ c (Proc.devRef .tc main_v16_1) : Vec Ideal S64x64 .f32) = O16 U := by
  refine (W10_arr m ρ c 16).trans ((arr0_16 (X9 m ρ) c).trans ((after0_16 (X9 m ρ) c t0_0).trans ?_))
  rw [ib0_0 (X9 m ρ) c, ib0_1 (X9 m ρ) c, ib0_2 (X9 m ρ) c, ib0_3 (X9 m ρ) c, ib0_4 (X9 m ρ) c, ib0_5 (X9 m ρ) c, ib0_6 (X9 m ρ) c, ib0_7 (X9 m ρ) c, ib0_8 (X9 m ρ) c, ib0_9 (X9 m ρ) c, ib0_10 (X9 m ρ) c, ib0_11 (X9 m ρ) c, ib0_12 (X9 m ρ) c, ib0_13 (X9 m ρ) c, ib0_14 (X9 m ρ) c]
  rw [x9_v0 m ρ c U hA, x9_arg5 m ρ c U hA, x9_v11 m ρ c U hA, x9_arg7 m ρ c U hA, x9_v12 m ρ c U hA, x9_arg17 m ρ c U hA, x9_v13 m ρ c U hA, x9_arg27 m ρ c U hA, x9_v14 m ρ c U hA, x9_arg29 m ρ c U hA, x9_v15 m ρ c U hA, x9_v2 m ρ c U hA, x9_v5 m ρ c U hA, x9_v7 m ρ c U hA, x9_v10 m ρ c U hA]
  rfl
theorem x10_v16_2 : (W10 m ρ c (Proc.devRef .tc main_v16_2) : Vec Ideal S64x64 .f32) = O17 U := by
  refine (W10_arr m ρ c 17).trans ((arr0_17 (X9 m ρ) c).trans ((after0_17 (X9 m ρ) c t0_0).trans ?_))
  rw [ib0_0 (X9 m ρ) c, ib0_1 (X9 m ρ) c, ib0_2 (X9 m ρ) c, ib0_3 (X9 m ρ) c, ib0_4 (X9 m ρ) c, ib0_5 (X9 m ρ) c, ib0_6 (X9 m ρ) c, ib0_7 (X9 m ρ) c, ib0_8 (X9 m ρ) c, ib0_9 (X9 m ρ) c, ib0_10 (X9 m ρ) c, ib0_11 (X9 m ρ) c, ib0_12 (X9 m ρ) c, ib0_13 (X9 m ρ) c, ib0_14 (X9 m ρ) c]
  rw [x9_v0 m ρ c U hA, x9_arg5 m ρ c U hA, x9_v11 m ρ c U hA, x9_arg7 m ρ c U hA, x9_v12 m ρ c U hA, x9_arg17 m ρ c U hA, x9_v13 m ρ c U hA, x9_arg27 m ρ c U hA, x9_v14 m ρ c U hA, x9_arg29 m ρ c U hA, x9_v15 m ρ c U hA, x9_v2 m ρ c U hA, x9_v5 m ρ c U hA, x9_v7 m ρ c U hA, x9_v10 m ρ c U hA]
  rfl
theorem x10_v16_3 : (W10 m ρ c (Proc.devRef .tc main_v16_3) : Vec Ideal S64x8x64 .bf16) = O18 U := by
  refine (W10_arr m ρ c 18).trans ((arr0_18 (X9 m ρ) c).trans ((after0_18 (X9 m ρ) c t0_0).trans ?_))
  rw [ib0_0 (X9 m ρ) c, ib0_1 (X9 m ρ) c, ib0_2 (X9 m ρ) c, ib0_3 (X9 m ρ) c, ib0_4 (X9 m ρ) c, ib0_5 (X9 m ρ) c, ib0_6 (X9 m ρ) c, ib0_7 (X9 m ρ) c, ib0_8 (X9 m ρ) c, ib0_9 (X9 m ρ) c, ib0_10 (X9 m ρ) c, ib0_11 (X9 m ρ) c, ib0_12 (X9 m ρ) c, ib0_13 (X9 m ρ) c, ib0_14 (X9 m ρ) c]
  rw [x9_v0 m ρ c U hA, x9_arg5 m ρ c U hA, x9_v11 m ρ c U hA, x9_arg7 m ρ c U hA, x9_v12 m ρ c U hA, x9_arg17 m ρ c U hA, x9_v13 m ρ c U hA, x9_arg27 m ρ c U hA, x9_v14 m ρ c U hA, x9_arg29 m ρ c U hA, x9_v15 m ρ c U hA, x9_v2 m ρ c U hA, x9_v5 m ρ c U hA, x9_v7 m ρ c U hA, x9_v10 m ρ c U hA]
  rfl
theorem x10_v16_4 : (W10 m ρ c (Proc.devRef .tc main_v16_4) : Vec Ideal S64x8x64 .bf16) = O19 U := by
  refine (W10_arr m ρ c 19).trans ((arr0_19 (X9 m ρ) c).trans ((after0_19 (X9 m ρ) c t0_0).trans ?_))
  rw [ib0_0 (X9 m ρ) c, ib0_1 (X9 m ρ) c, ib0_2 (X9 m ρ) c, ib0_3 (X9 m ρ) c, ib0_4 (X9 m ρ) c, ib0_5 (X9 m ρ) c, ib0_6 (X9 m ρ) c, ib0_7 (X9 m ρ) c, ib0_8 (X9 m ρ) c, ib0_9 (X9 m ρ) c, ib0_10 (X9 m ρ) c, ib0_11 (X9 m ρ) c, ib0_12 (X9 m ρ) c, ib0_13 (X9 m ρ) c, ib0_14 (X9 m ρ) c]
  rw [x9_v0 m ρ c U hA, x9_arg5 m ρ c U hA, x9_v11 m ρ c U hA, x9_arg7 m ρ c U hA, x9_v12 m ρ c U hA, x9_arg17 m ρ c U hA, x9_v13 m ρ c U hA, x9_arg27 m ρ c U hA, x9_v14 m ρ c U hA, x9_arg29 m ρ c U hA, x9_v15 m ρ c U hA, x9_v2 m ρ c U hA, x9_v5 m ρ c U hA, x9_v7 m ρ c U hA, x9_v10 m ρ c U hA]
  rfl
theorem x10_v16_5 : (W10 m ρ c (Proc.devRef .tc main_v16_5) : Vec Ideal S64x128 .f32) = O20 U := by
  refine (W10_arr m ρ c 20).trans ((arr0_20 (X9 m ρ) c).trans ((after0_20 (X9 m ρ) c t0_0).trans ?_))
  rw [ib0_0 (X9 m ρ) c, ib0_1 (X9 m ρ) c, ib0_2 (X9 m ρ) c, ib0_3 (X9 m ρ) c, ib0_4 (X9 m ρ) c, ib0_5 (X9 m ρ) c, ib0_6 (X9 m ρ) c, ib0_7 (X9 m ρ) c, ib0_8 (X9 m ρ) c, ib0_9 (X9 m ρ) c, ib0_10 (X9 m ρ) c, ib0_11 (X9 m ρ) c, ib0_12 (X9 m ρ) c, ib0_13 (X9 m ρ) c, ib0_14 (X9 m ρ) c]
  rw [x9_v0 m ρ c U hA, x9_arg5 m ρ c U hA, x9_v11 m ρ c U hA, x9_arg7 m ρ c U hA, x9_v12 m ρ c U hA, x9_arg17 m ρ c U hA, x9_v13 m ρ c U hA, x9_arg27 m ρ c U hA, x9_v14 m ρ c U hA, x9_arg29 m ρ c U hA, x9_v15 m ρ c U hA, x9_v2 m ρ c U hA, x9_v5 m ρ c U hA, x9_v7 m ρ c U hA, x9_v10 m ρ c U hA]
  rfl
theorem x10_v16_6 : (W10 m ρ c (Proc.devRef .tc main_v16_6) : Vec Ideal S64x128 .f32) = O21 U := by
  refine (W10_arr m ρ c 21).trans ((arr0_21 (X9 m ρ) c).trans ((after0_21 (X9 m ρ) c t0_0).trans ?_))
  rw [ib0_0 (X9 m ρ) c, ib0_1 (X9 m ρ) c, ib0_2 (X9 m ρ) c, ib0_3 (X9 m ρ) c, ib0_4 (X9 m ρ) c, ib0_5 (X9 m ρ) c, ib0_6 (X9 m ρ) c, ib0_7 (X9 m ρ) c, ib0_8 (X9 m ρ) c, ib0_9 (X9 m ρ) c, ib0_10 (X9 m ρ) c, ib0_11 (X9 m ρ) c, ib0_12 (X9 m ρ) c, ib0_13 (X9 m ρ) c, ib0_14 (X9 m ρ) c]
  rw [x9_v0 m ρ c U hA, x9_arg5 m ρ c U hA, x9_v11 m ρ c U hA, x9_arg7 m ρ c U hA, x9_v12 m ρ c U hA, x9_arg17 m ρ c U hA, x9_v13 m ρ c U hA, x9_arg27 m ρ c U hA, x9_v14 m ρ c U hA, x9_arg29 m ρ c U hA, x9_v15 m ρ c U hA, x9_v2 m ρ c U hA, x9_v5 m ρ c U hA, x9_v7 m ρ c U hA, x9_v10 m ρ c U hA]
  rfl
theorem x11_v16_1 : (X11 m ρ c main_v16_1 : Vec Ideal S64x64 .f32) = O16 U := (W11_of m ρ c main_v16_1 (by decide +kernel)).trans (x10_v16_1 m ρ c U hA)
theorem x11_v16_2 : (X11 m ρ c main_v16_2 : Vec Ideal S64x64 .f32) = O17 U := (W11_of m ρ c main_v16_2 (by decide +kernel)).trans (x10_v16_2 m ρ c U hA)
theorem x11_v16_3 : (X11 m ρ c main_v16_3 : Vec Ideal S64x8x64 .bf16) = O18 U := (W11_of m ρ c main_v16_3 (by decide +kernel)).trans (x10_v16_3 m ρ c U hA)
theorem x11_v16_4 : (X11 m ρ c main_v16_4 : Vec Ideal S64x8x64 .bf16) = O19 U := (W11_of m ρ c main_v16_4 (by decide +kernel)).trans (x10_v16_4 m ρ c U hA)
theorem x11_v16_5 : (X11 m ρ c main_v16_5 : Vec Ideal S64x128 .f32) = O20 U := (W11_of m ρ c main_v16_5 (by decide +kernel)).trans (x10_v16_5 m ρ c U hA)
theorem x11_v16_6 : (X11 m ρ c main_v16_6 : Vec Ideal S64x128 .f32) = O21 U := (W11_of m ρ c main_v16_6 (by decide +kernel)).trans (x10_v16_6 m ρ c U hA)
theorem x11_arg2 : (X11 m ρ c main_arg2 : FVec Ideal S64x8192 .f32) = Ref.a2 U := (W11_args m ρ c main_arg2 (by decide +kernel)).trans hA.e2
theorem x11_arg3 : (X11 m ρ c main_arg3 : FVec Ideal S64x8192 .f32) = Ref.a3 U := (W11_args m ρ c main_arg3 (by decide +kernel)).trans hA.e3
theorem x11_v17 : (X11 m ρ c main_v17 : FVec Ideal S64x64x8192 .f32) = transpose S64x64x8192 [0, 2, 1] (Ref.a1 U) transposes_S64x8192x64_S64x64x8192_0_2_1 := by
  refine (t1_v17 (W10 m ρ c)).trans ?_
  rw [W10_args m ρ c main_arg1 (by decide +kernel), ← hA.e1]
theorem x11_v17_at (b : Fin 64) (d : Fin 64) (n : Fin 8192) : (X11 m ρ c main_v17 : FVec Ideal S64x64x8192 .f32) (ix3 b d n) = Ref.a1 U (ix3 b n d) := by
  rw [x11_v17 m ρ c U hA]
  generalize Ref.a1 U = p
  pointwise

/-- The program's result. -/
theorem x13_v19 : (W13 m ρ c (Proc.devRef .tc main_v19) : FVec Ideal S64x320 .f32)
    = concatenate S64x320 1 [⟨S64x256, O15 U⟩, ⟨S64x64, outG (X11 m ρ) c⟩] concatenates_S64x256_S64x64_S64x320_d1 := by
  refine (t2_v19 (W12 m ρ c)).trans ?_
  have h0 : (W12 m ρ c (Proc.devRef .tc main_v16_0) : Vec Ideal S64x256 .f32) = O15 U :=
    (W12_of_ne m ρ c main_v16_0 (by decide +kernel)).trans ((W11_of m ρ c main_v16_0 (by decide +kernel)).trans (x10_v16_0 m ρ c U hA))
  have h1 : (W12 m ρ c (Proc.devRef .tc main_v18) : Vec Ideal S64x64 .f32) = outG (X11 m ρ) c := (W12_arr m ρ c 9).trans (arr1_9 (X11 m ρ) c)
  rw [h0, h1]

end Cert.Val

end
-- ==== Proof.VRead.lean ====
/- The family rows and the read of the memory, read at one place. -/
module

public import proofs.«01_k».proof.Proof.IAcc
public import proofs.«01_k».proof.Proof.VMath

@[expose] public section

set_option maxRecDepth 16384

noncomputable section

namespace Cert.Val

open Cert.KernelIdeal Cert.KernelIdeal.Gen Cert.KernelIdeal.Hand
open Idealize.ShloMosaic

/-! ### The family rows -/

theorem blk0_at (x0 : Vec Ideal S8x64x4096 .f32) (b : Fin 8) (d : Fin 64) (n : Fin 4096) : blk0 x0 b (ix3 0 d n) = x0 (ix3 b d n) := by
  show x0 _ = x0 _
  congr 1
  funext a
  apply Fin.ext
  match a with
  | 0 => show b.val + 1 * 0 = b.val; omega
  | 1 => show 0 + 1 * d.val = d.val; omega
  | 2 => show 0 + 1 * n.val = n.val; omega
theorem row0_at (x1 : Vec Ideal S8x8x64 .bf16) (b f : Fin 8) (d : Fin 64) : row0 x1 b (ix3 0 f d) = x1 (ix3 b f d) := by
  show x1 _ = x1 _
  congr 1
  funext a
  apply Fin.ext
  match a with
  | 0 => show b.val + 1 * 0 = b.val; omega
  | 1 => show 0 + 1 * f.val = f.val; omega
  | 2 => show 0 + 1 * d.val = d.val; omega

theorem pay21_at (v : Vec Ideal S1x64x4096 .f32) (c : Vec Ideal S1x8x64 .bf16) (f : Fin 8) (n : Fin 4096) :
    k1_pay21 v c (ix2 f n) = ∑ d : Fin 64, c (ix3 0 f d) * v (ix3 0 d n) := by
  pointwise [k1_pay21, k1_pay20]
theorem pay22_at (v : Vec Ideal S1x64x4096 .f32) (c : Vec Ideal S1x8x64 .bf16) (f : Fin 8) (n : Fin 4096) :
    k1_pay22 v c (ix2 f n) = ∑ d : Fin 64, c (ix3 0 f d) * (v (ix3 0 d n) * v (ix3 0 d n)) := by
  pointwise [k1_pay22, k1_pay20]

section
variable (x0 : Vec Ideal S8x64x4096 .f32) (x1 x2 : Vec Ideal S8x8x64 .bf16) (b : Fin 8) (n : Fin 4096)

theorem famRow_lo (f : Fin 8) (h : f.val < 5) : famRow x0 x1 x2 f b (ix3 0 0 n) = ∑ d : Fin 64, x1 (ix3 b f d) * x0 (ix3 b d n) := by
  unfold famRow
  rw [if_pos h]
  simp only [← blk0_at x0, ← row0_at x1]
  rw [← pay21_at]
  generalize k1_pay21 (blk0 x0 b) (row0 x1 b) = p
  pointwise
theorem famRow_hi (f g : Fin 8) (h : f.val = g.val + 5) :
    famRow x0 x1 x2 f b (ix3 0 0 n) = ∑ d : Fin 64, x2 (ix3 b g d) * (x0 (ix3 b d n) * x0 (ix3 b d n)) := by
  unfold famRow
  rw [if_neg (by omega)]
  simp only [← blk0_at x0, ← row0_at x2]
  rw [← pay22_at]
  generalize k1_pay22 (blk0 x0 b) (row0 x2 b) = p
  pointwise
  exact congrArg (fun i => p (ix2 i n)) (Fin.ext (show f.val - 5 = g.val by omega))
end

/-! ### The accumulators -/

theorem accSlab_at (acc : Vec Ideal S8x64x128 .f32) (b : Fin 8) (d : Fin 64) (l : Fin 128) : accSlab acc b (ix3 0 d l) = acc (ix3 b d l) := by
  show acc _ = acc _
  congr 1
  funext a
  apply Fin.ext
  match a with
  | 0 => show b.val + 1 * 0 = b.val; omega
  | 1 => show 0 + 1 * d.val = d.val; omega
  | 2 => show 0 + 1 * l.val = l.val; omega

theorem chunkSum_at (p : FVec Ideal S64x4096 .f32) (d : Fin 64) (l : Fin 128) : ∀ (n : ℕ) (h : n ≤ 32),
    chunkSum p n h (ix2 d l) = ∑ j : Fin n, p (ix2 d ⟨128 * j.val + l.val, by omega⟩)
  | 0, _ => by
      show (Scalar.ofBits .f32 0x00000000#32 : Ideal .f32) = _
      rw [Fin.sum_univ_zero]; exact Ideal.ofBits_zero_f32
  | n + 1, h => by
      rw [Fin.sum_univ_castSucc]
      have e : chunkSum p (n + 1) h (ix2 d l) = chunkSum p n (Nat.le_of_succ_le h) (ix2 d l) + extractStridedSlice S64x128 ![0, 128 * n] p (chunk_slices n h) (ix2 d l) := rfl
      rw [e, chunkSum_at p d l n]
      congr 1
      pointwise
      rfl

section
variable (i : grid1.Coords) (h : k1_cond3 i = 1#1) (x0 : Vec Ideal S8x64x4096 .f32) (w : Vec Ideal S8x8192 .f32) (acc : Vec Ideal S8x64x128 .f32) (b : Fin 8) (d : Fin 64)

include h in
theorem off_lt (n : Fin 4096) : offR i + n.val < 8192 := by
  have := k1_off65_inb i h 1
  have h8 : offR i + 4096 ≤ 8192 := this
  omega
theorem prodAt_at (n : Fin 4096) : prodAt i h x0 w b (ix2 d n) = x0 (ix3 b d n) * w (ix2 b ⟨offR i + n.val, off_lt i h n⟩) := by
  rw [← blk0_at x0]
  have e : (View.ld (Val := Elt Ideal) w (Rect.unit (s := S8x8192) ![b.val, offR i] S1x4096.size (offR_inb i h b)) : Vec Ideal S1x4096 .f32) (ix2 0 n) = w (ix2 b ⟨offR i + n.val, off_lt i h n⟩) := by
    show w _ = w _
    congr 1
    funext a
    apply Fin.ext
    match a with
    | 0 => show b.val + 1 * 0 = b.val; omega
    | 1 => show offR i + 1 * n.val = offR i + n.val; omega
  rw [← e]
  unfold prodAt
  generalize blk0 x0 b = p
  generalize (View.ld (Val := Elt Ideal) w (Rect.unit (s := S8x8192) ![b.val, offR i] S1x4096.size (offR_inb i h b)) : Vec Ideal S1x4096 .f32) = q
  pointwise
theorem accVal_at (l : Fin 128) : accVal i h x0 w acc (ix3 b d l)
    = acc (ix3 b d l) + ∑ j : Fin 32, prodAt i h x0 w b (ix2 d ⟨128 * j.val + l.val, by omega⟩) := by
  rw [← chunkSum_at (prodAt i h x0 w b) d l 32 (Nat.le_refl 32), ← accSlab_at acc]
  show accRow i h x0 w acc b (ix3 0 d l) = _
  unfold accRow
  generalize accSlab acc b = p
  generalize chunkSum (F := Ideal) _ _ _ = q
  pointwise
end

/-- Lanes and chunks together are every place of the half. -/
theorem sum_lanes (f : Fin 4096 → EReal) : (∑ l : Fin 128, ∑ j : Fin 32, f ⟨128 * j.val + l.val, by omega⟩) = ∑ n : Fin 4096, f n := by
  rw [Finset.sum_comm, ← Fintype.sum_prod_type' (f := fun (j : Fin 32) (l : Fin 128) => f ⟨128 * j.val + l.val, by omega⟩)]
  refine Fintype.sum_equiv (finProdFinEquiv (m := 32) (n := 128)) _ _ fun x => ?_
  congr 1
  apply Fin.ext
  show 128 * x.1.val + x.2.val = x.2.val + 128 * x.1.val
  omega
/-- The two halves are every place. -/
theorem sum_halves (f : Fin 8192 → EReal) : (∑ n : Fin 4096, f ⟨n.val, by omega⟩) + (∑ n : Fin 4096, f ⟨4096 + n.val, by omega⟩) = ∑ n : Fin 8192, f n := by
  rw [show (∑ n : Fin 8192, f n) = ∑ n : Fin (4096 + 4096), f n from rfl, Fin.sum_univ_add]
  rfl

/-- An accumulator's lanes after both halves, from nothing. -/
theorem acc_both (i i' : grid1.Coords) (h : k1_cond3 i = 1#1) (h' : k1_cond3 i' = 1#1) (ho : offR i = 0) (ho' : offR i' = 4096)
    (x0 x0' : Vec Ideal S8x64x4096 .f32) (w : Vec Ideal S8x8192 .f32) (M : Fin 8192 → EReal) (b : Fin 8) (d : Fin 64)
    (hM : ∀ n : Fin 4096, x0 (ix3 b d n) = M ⟨n.val, by omega⟩) (hM' : ∀ n : Fin 4096, x0' (ix3 b d n) = M ⟨4096 + n.val, by omega⟩) :
    (∑ l : Fin 128, accVal i' h' x0' w (accVal i h x0 w acc0) (ix3 b d l)) = ∑ n : Fin 8192, M n * w (ix2 b n) := by
  have e0 : ∀ l : Fin 128, (acc0 : Vec Ideal S8x64x128 .f32) (ix3 b d l) = 0 := fun l => by
    show (k1_pay5 : FVec Ideal S8x64x128 .f32) (ix3 b d l) = 0
    pointwise [k1_pay5]
  simp only [accVal_at, e0, zero_add, prodAt_at]
  rw [Finset.sum_add_distrib, ← sum_halves]
  congr 1
  · rw [sum_lanes fun n => x0 (ix3 b d n) * w (ix2 b ⟨offR i + n.val, off_lt i h n⟩)]
    refine Finset.sum_congr rfl fun n _ => ?_
    rw [hM]
    congr 3
    apply Fin.ext
    show offR i + n.val = n.val
    omega
  · rw [sum_lanes fun n => x0' (ix3 b d n) * w (ix2 b ⟨offR i' + n.val, off_lt i' h' n⟩)]
    refine Finset.sum_congr rfl fun n _ => ?_
    rw [hM']
    congr 3
    apply Fin.ext
    show offR i' + n.val = 4096 + n.val
    omega

/-! ### The output -/

theorem outVal_at (A1 A2 : Vec Ideal S8x64x128 .f32) (s : Vec Ideal S8x1 .f32) (x7 x8 : Vec Ideal S8x64 .f32) (b : Fin 8) (d : Fin 64) :
    outVal A1 A2 s x7 x8 (ix2 b d) = (∑ l : Fin 128, A1 (ix3 b d l)) - x7 (ix2 b d) * (∑ l : Fin 128, A2 (ix3 b d l)) + s (ix2 b 0) * x8 (ix2 b d) := by
  unfold outVal
  rw [View.ld_unit_zero (S := S8x64) (off := ![0, 0]) (by funext a; fin_cases a <;> rfl) _ x7, View.ld_unit_zero (S := S8x64) (off := ![0, 0]) (by funext a; fin_cases a <;> rfl) _ x8,
    View.ld_unit_zero (S := S8x1) (off := ![0, 0]) (by funext a; fin_cases a <;> rfl) _ s]
  simp only [← accSlab_at A1, ← accSlab_at A2]
  have key : ∀ b : Fin 8, k1_pay8 (k1_pay468 (accSlab A1 0)) (k1_pay469 (accSlab A1 1)) (k1_pay470 (accSlab A1 2)) (k1_pay471 (accSlab A1 3)) (k1_pay472 (accSlab A1 4)) (k1_pay473 (accSlab A1 5)) (k1_pay474 (accSlab A1 6)) (k1_pay475 (accSlab A1 7))
    (k1_pay7 (k1_pay476 (accSlab A2 0)) (k1_pay477 (accSlab A2 1)) (k1_pay478 (accSlab A2 2)) (k1_pay479 (accSlab A2 3)) (k1_pay480 (accSlab A2 4)) (k1_pay481 (accSlab A2 5)) (k1_pay482 (accSlab A2 6)) (accSlab A2 7) x7) s x8 (ix2 b d)
      = (∑ l : Fin 128, accSlab A1 b (ix3 0 d l)) - x7 (ix2 b d) * (∑ l : Fin 128, accSlab A2 b (ix3 0 d l)) + s (ix2 b 0) * x8 (ix2 b d) := by
    generalize accSlab A1 = B1
    generalize accSlab A2 = B2
    intro b
    fin_cases b <;>
    pointwise [k1_pay8, k1_pay7, k1_pay468, k1_pay469, k1_pay470, k1_pay471, k1_pay472, k1_pay473, k1_pay474, k1_pay475, k1_pay476, k1_pay477, k1_pay478, k1_pay479, k1_pay480, k1_pay481, k1_pay482]
  exact key b

end Cert.Val

end
-- ==== Proof.VFin.lean ====
/- The reference's rows are real numbers when its arguments are, and its weights are those of an addressable row. -/
module

public import proofs.«01_k».proof.Proof.VRef

@[expose] public section

set_option maxRecDepth 16384

noncomputable section

namespace Cert.Val.Ref

open Cert.ReferenceIdeal Cert.ReferenceIdeal.Gen Cert.ReferenceIdeal.Value
open Idealize.ShloMosaic Idealize.ShloMosaic.TcCoe Idealize.ShloMosaic.StableHlo

/-- Being a real number. -/
def IsR (x : EReal) : Prop := ∃ r : ℝ, x = (r : EReal)

theorem IsR.fam {ι : Type} {f : ι → EReal} (h : ∀ i, IsR (f i)) : ∃ F : ι → ℝ, ∀ i, f i = (F i : EReal) :=
  ⟨fun i => (h i).choose, fun i => (h i).choose_spec⟩

theorem IsR.mul {x y : EReal} (hx : IsR x) (hy : IsR y) : IsR (x * y) := by
  obtain ⟨r, rfl⟩ := hx; obtain ⟨s, rfl⟩ := hy
  exact ⟨r * s, (EReal.coe_mul r s).symm⟩
theorem IsR.add {x y : EReal} (hx : IsR x) (hy : IsR y) : IsR (x + y) := by
  obtain ⟨r, rfl⟩ := hx; obtain ⟨s, rfl⟩ := hy
  exact ⟨r + s, (EReal.coe_add r s).symm⟩
theorem IsR.sum {n : ℕ} {f : Fin n → EReal} (h : ∀ i, IsR (f i)) : IsR (∑ i, f i) := by
  obtain ⟨F, hF⟩ := IsR.fam h
  simp only [hF, coe_sum]
  exact ⟨_, rfl⟩
theorem IsR.lin {n : ℕ} {h w : Fin n → EReal} {b : EReal} (hh : ∀ k, IsR (h k)) (hw : ∀ k, IsR (w k)) (hb : IsR b) : IsR (linE h w b) :=
  (IsR.sum fun k => (hh k).mul (hw k)).add hb
theorem IsR.max0 {x : EReal} (hx : IsR x) : IsR (max x 0) := by
  obtain ⟨r, rfl⟩ := hx
  exact ⟨max r 0, coe_max r 0⟩
theorem IsR.soft {x : EReal} (hx : IsR x) : IsR (soft x) := by
  obtain ⟨r, rfl⟩ := hx
  exact soft_real r
theorem IsR.gate {x : EReal} (hx : IsR x) : ∃ G : ℝ, 0 < G ∧ G < 1 ∧ Ideal.logistic x = (G : EReal) := by
  obtain ⟨r, rfl⟩ := hx
  exact logistic_real r
theorem IsR.one : IsR 1 := ⟨1, rfl⟩
theorem IsR.tanh {x : EReal} (hx : IsR x) : IsR (Ideal.tanh x) := by
  obtain ⟨r, rfl⟩ := hx
  exact ⟨Real.tanh r, Ideal.tanh_coe r⟩
theorem IsR.smax {l : Fin 3 → EReal} (h : ∀ i, IsR (l i)) (i : Fin 3) : ∃ S : ℝ, 0 < S ∧ smax l i = (S : EReal) := by
  obtain ⟨F, hF⟩ := IsR.fam h
  obtain rfl : l = fun i => (F i : EReal) := funext hF
  obtain ⟨s, hs, he⟩ := smax_real (by decide) F
  exact ⟨s i, hs i, he i⟩
/-- The similarities of real rows are real. -/
theorem IsR.sim {be : EReal} {M k : Fin 64 → EReal} (hb : IsR be) (hM : ∀ d, IsR (M d)) (hk : ∀ d, IsR (k d)) :
    IsR (simE be (∑ d, M d * k d) (∑ d, M d * M d) (∑ d, k d * k d)) := by
  obtain ⟨B, rfl⟩ := hb
  obtain ⟨M', hM'⟩ := IsR.fam hM
  obtain ⟨K, hK⟩ := IsR.fam hk
  obtain ⟨D, hD⟩ := IsR.sum fun d => (hM d).mul (hk d)
  obtain ⟨q, hq, hqe⟩ := sq_real M'
  obtain ⟨p, hp, hpe⟩ := sq_real K
  rw [hD]
  simp only [hM', hK]
  rw [hqe, hpe]
  exact sim_real B D q p hq hp

variable (U : Valuation τ sig (Elt Ideal))

/-- The arguments are real, and the previous weights not negative. -/
structure FinU : Prop where
  r0 : ∀ y, IsR (a0 U y)
  r1 : ∀ y, IsR (a1 U y)
  r2 : ∀ y, IsR (a2 U y)
  r3 : ∀ y, IsR (a3 U y)
  r4 : ∀ y, IsR (a4 U y)
  r5 : ∀ y, IsR (a5 U y)
  r6 : ∀ y, IsR (a6 U y)
  r7 : ∀ y, IsR (a7 U y)
  r8 : ∀ y, IsR (a8 U y)
  r9 : ∀ y, IsR (a9 U y)
  r10 : ∀ y, IsR (a10 U y)
  r11 : ∀ y, IsR (a11 U y)
  r12 : ∀ y, IsR (a12 U y)
  r13 : ∀ y, IsR (a13 U y)
  r14 : ∀ y, IsR (a14 U y)
  r15 : ∀ y, IsR (a15 U y)
  r16 : ∀ y, IsR (a16 U y)
  r17 : ∀ y, IsR (a17 U y)
  r18 : ∀ y, IsR (a18 U y)
  r19 : ∀ y, IsR (a19 U y)
  r20 : ∀ y, IsR (a20 U y)
  r21 : ∀ y, IsR (a21 U y)
  r22 : ∀ y, IsR (a22 U y)
  r23 : ∀ y, IsR (a23 U y)
  r24 : ∀ y, IsR (a24 U y)
  r25 : ∀ y, IsR (a25 U y)
  r26 : ∀ y, IsR (a26 U y)
  r27 : ∀ y, IsR (a27 U y)
  r28 : ∀ y, IsR (a28 U y)
  r29 : ∀ y, IsR (a29 U y)
  r30 : ∀ y, IsR (a30 U y)
  n2 : ∀ y, 0 ≤ a2 U y
  n3 : ∀ y, 0 ≤ a3 U y

variable {U} (H : FinU U) (b : Fin 64)
include H

theorem FinU.cat (k : Fin 192) : IsR (cat U (ix2 b k)) := by
  by_cases hk : k.val < 128
  · have e : Ref.cat U (ix2 b k) = a0 U (ix2 b ⟨k.val, hk⟩) := by
      unfold Ref.cat
      generalize a0 U = p
      generalize a4 U = q
      pointwise [hk]
    rw [e]; exact H.r0 _
  · have e : Ref.cat U (ix2 b k) = a4 U (ix2 b ⟨k.val - 128, by omega⟩) := by
      unfold Ref.cat
      generalize a0 U = p
      generalize a4 U = q
      pointwise [hk]
    rw [e]; exact H.r4 _
theorem FinU.hR (j : Fin 256) : IsR (hR U b j) := by
  rw [hR_eq]
  exact (IsR.lin (fun k => H.cat b k) (fun k => H.r5 _) (H.r6 _)).max0
theorem FinU.prj {n : ℕ} {W : FVec Ideal ⟨2, ![256, n]⟩ .f32} {c : FVec Ideal ⟨1, ![n]⟩ .f32} (hW : ∀ y, IsR (W y)) (hc : ∀ y, IsR (c y)) (j : Fin n) :
    IsR (prj U b n W c j) := IsR.lin (fun k => H.hR b k) (fun k => hW _) (hc _)

theorem FinU.er (d : Fin 64) : IsR (er U b d) := by
  obtain ⟨G, _, _, hG⟩ := (H.prj b H.r27 H.r28 d).gate
  exact ⟨G, hG⟩
theorem FinU.ad (d : Fin 64) : IsR (ad U b d) := (H.prj b H.r29 H.r30 d).tanh
theorem FinU.k_w (d : Fin 64) : IsR (k_w U b d) := H.prj b H.r17 H.r18 d
theorem FinU.k_r (d : Fin 64) : IsR (k_r U b d) := H.prj b H.r7 H.r8 d

theorem FinU.goodW : Good (z_w U b) (g_w U b) (ga_w U b) (s_w U b 0) (s_w U b 1) (s_w U b 2) (p_w U b) where
  z := IsR.fam fun n => IsR.sim (H.prj b H.r19 H.r20 0).soft (fun d => H.r1 _) (H.k_w b)
  g := (H.prj b H.r21 H.r22 0).gate
  gam := (H.prj b H.r25 H.r26 0).soft.add IsR.one
  s0 := IsR.smax (H.prj b H.r23 H.r24) 0
  s1 := IsR.smax (H.prj b H.r23 H.r24) 1
  s2 := IsR.smax (H.prj b H.r23 H.r24) 2
  pw := by
    obtain ⟨P, hP⟩ := IsR.fam fun n => H.r3 (ix2 b n)
    refine ⟨P, fun n => ⟨?_, hP n⟩⟩
    have := H.n3 (ix2 b n)
    rw [hP n] at this
    exact EReal.coe_nonneg.1 this

/-- The write weights. -/
theorem FinU.ww (n : Fin 8192) : wW U (ix3 b n 0)
    = addrE nxt prv (z_w U b) (g_w U b) (ga_w U b) (s_w U b 0) (s_w U b 1) (s_w U b 2) (p_w U b) n := by
  have hu : ∀ k, uW U (ix2 b k) = ueE nxt prv (z_w U b) (g_w U b) (ga_w U b) (s_w U b 0) (s_w U b 1) (s_w U b 2) (p_w U b) k := fun k =>
    (up_w_at U b k).trans ((H.goodW b).up nxt prv (by decide) k)
  rw [ww_at]
  simp only [hu]
  rfl
theorem FinU.ww_real (n : Fin 8192) : IsR (wW U (ix3 b n 0)) := by
  obtain ⟨A, hA⟩ := (H.goodW b).addr nxt prv (by decide)
  exact ⟨A n, (H.ww b n).trans (hA n)⟩
theorem FinU.mem (n : Fin 8192) (d : Fin 64) : IsR (nMem U (ix3 b n d)) := by
  obtain ⟨M, hM⟩ := H.r1 (ix3 b n d)
  obtain ⟨w, hw⟩ := H.ww_real b n
  obtain ⟨e, he⟩ := H.er b d
  obtain ⟨a, ha⟩ := H.ad b d
  rw [mem_at, hM, hw, he, ha, mem_real]
  exact ⟨_, rfl⟩

theorem FinU.goodR : Good (z_r U b) (g_r U b) (ga_r U b) (s_r U b 0) (s_r U b 1) (s_r U b 2) (p_r U b) where
  z := IsR.fam fun n => IsR.sim (H.prj b H.r9 H.r10 0).soft (fun d => H.mem b n d) (H.k_r b)
  g := (H.prj b H.r11 H.r12 0).gate
  gam := (H.prj b H.r15 H.r16 0).soft.add IsR.one
  s0 := IsR.smax (H.prj b H.r13 H.r14) 0
  s1 := IsR.smax (H.prj b H.r13 H.r14) 1
  s2 := IsR.smax (H.prj b H.r13 H.r14) 2
  pw := by
    obtain ⟨P, hP⟩ := IsR.fam fun n => H.r2 (ix2 b n)
    refine ⟨P, fun n => ⟨?_, hP n⟩⟩
    have := H.n2 (ix2 b n)
    rw [hP n] at this
    exact EReal.coe_nonneg.1 this

/-- The read weights. -/
def rW (U : Valuation τ sig (Elt Ideal)) (b : Fin 64) : Fin 8192 → EReal :=
  addrE nxt prv (z_r U b) (g_r U b) (ga_r U b) (s_r U b 0) (s_r U b 1) (s_r U b 2) (p_r U b)
theorem FinU.rw (n : Fin 8192) : Ideal.div (uR U (ix2 b n)) (∑ k : Fin 8192, uR U (ix2 b k) + eps) = rW U b n := by
  have hu : ∀ k, uR U (ix2 b k) = ueE nxt prv (z_r U b) (g_r U b) (ga_r U b) (s_r U b 0) (s_r U b 1) (s_r U b 2) (p_r U b) k := fun k =>
    (up_r_at U b k).trans ((H.goodR b).up nxt prv (by decide) k)
  simp only [hu]
  rfl
theorem FinU.rw_real (n : Fin 8192) : IsR (rW U b n) := by
  obtain ⟨A, hA⟩ := (H.goodR b).addr nxt prv (by decide)
  exact ⟨A n, hA n⟩

end Cert.Val.Ref

end
-- ==== Proof.VRow.lean ====
/- One row of the second call: its similarities, its weights and its read vector are the reference's. -/
module

public import proofs.«01_k».proof.Proof.VRun
public import proofs.«01_k».proof.Proof.VRead
public import proofs.«01_k».proof.Proof.VFin

@[expose] public section

set_option maxRecDepth 16384

noncomputable section

namespace Cert.Val

open Cert.KernelIdeal Cert.KernelIdeal.Gen Cert.KernelIdeal.Hand
open Idealize.ShloMosaic Idealize.ShloMosaic.TcCoe Idealize.ShloMosaic.StableHlo

/-! ### Where a row lies -/

/-- The first point of the group of row `b`, and the row's place in the group. -/
def gp (b : Fin 64) : ℕ := 4 * (b.val / 8)
def rr (b : Fin 64) : Fin 8 := ⟨b.val % 8, by omega⟩

theorem pt_val (b : Fin 64) (j : ℕ) (hj : j < 4) : (pt1 (gp b + j)).val = gp b + j := by
  show (gp b + j) % 32 = gp b + j
  unfold gp
  omega
theorem row_pt (b : Fin 64) (j : ℕ) (hj : j < 4) : rowOf (pt1 (gp b + j)) (rr b) = b := by
  apply Fin.ext
  rw [rowOf_val, pt_val b j hj]
  show 8 * ((gp b + j) / 4) + b.val % 8 = b.val
  unfold gp
  omega
theorem pt_last (b : Fin 64) : ptOf b = pt1 (gp b + 3) := by
  apply Fin.ext
  rw [pt_val b 3 (by omega)]
  rfl
theorem cond_pt : ∀ t : Fin cfg1.N, 2 ≤ t.val % 4 → k1_cond3 (grid1.coords t) = 1#1 :=
  (by decide +kernel : ∀ t : Fin grid1.N, 2 ≤ t.val % 4 → k1_cond3 (grid1.coords t) = 1#1)

variable (m : (ℓ : Loc nD τ sig) → Buf (Elt Ideal) ℓ) (ρ : Dev nD → PrngReg) (c : Dev nD)
  (U : Valuation Cert.ReferenceIdeal.τ Cert.ReferenceIdeal.sig (Elt Ideal)) (hA : Agr m c U) (H : Ref.FinU U) (b : Fin 64)

section
include hA

/-! ### The blocks of a row -/

theorem mem_blk (j : ℕ) (hj : j < 4) (d : Fin 64) (n : Fin 4096) :
    bl0 (X11 m ρ) c (pt1 (gp b + j)) (ix3 (rr b) d n) = Ref.a1 U (ix3 b ⟨4096 * (j % 2) + n.val, by omega⟩ d) := by
  rw [bl0_at, row_pt b j hj]
  refine (x11_v17_at m ρ c U hA b d _).trans ?_
  congr 2
  apply Fin.ext
  show 4096 * ((pt1 (gp b + j)).val % 2) + n.val = 4096 * (j % 2) + n.val
  rw [pt_val b j hj]
  unfold gp
  omega
theorem lm_blk (j : ℕ) (hj : j < 4) (f : Fin 8) (d : Fin 64) : bl1 (X11 m ρ) c (pt1 (gp b + j)) (ix3 (rr b) f d) = O18 U (ix3 b f d) := by
  rw [bl1_at, row_pt b j hj, x11_v16_3 m ρ c U hA]
theorem lsq_blk (j : ℕ) (hj : j < 4) (f : Fin 8) (d : Fin 64) : bl2 (X11 m ρ) c (pt1 (gp b + j)) (ix3 (rr b) f d) = O19 U (ix3 b f d) := by
  rw [bl2_at, row_pt b j hj, x11_v16_4 m ρ c U hA]
theorem parw_blk (j : ℕ) (hj : j < 4) (k : Fin 128) : bl3 (X11 m ρ) c (pt1 (gp b + j)) (ix2 (rr b) k) = O21 U (ix2 b k) := by
  rw [bl3_at, row_pt b j hj, x11_v16_6 m ρ c U hA]
theorem pw_blk (j : ℕ) (hj : j < 4) (k : Fin 8192) : bl4 (X11 m ρ) c (pt1 (gp b + j)) (ix2 (rr b) k) = Ref.a3 U (ix2 b k) := by
  rw [bl4_at, row_pt b j hj, x11_arg3 m ρ c U hA]
theorem parr_blk (j : ℕ) (hj : j < 4) (k : Fin 128) : bl5 (X11 m ρ) c (pt1 (gp b + j)) (ix2 (rr b) k) = O20 U (ix2 b k) := by
  rw [bl5_at, row_pt b j hj, x11_v16_5 m ρ c U hA]
theorem pr_blk (j : ℕ) (hj : j < 4) (k : Fin 8192) : bl6 (X11 m ρ) c (pt1 (gp b + j)) (ix2 (rr b) k) = Ref.a2 U (ix2 b k) := by
  rw [bl6_at, row_pt b j hj, x11_arg2 m ρ c U hA]
theorem er_blk (j : ℕ) (hj : j < 4) (d : Fin 64) : bl7 (X11 m ρ) c (pt1 (gp b + j)) (ix2 (rr b) d) = Ref.er U b d := by
  rw [bl7_at, row_pt b j hj, x11_v16_1 m ρ c U hA, O16_at]
theorem ad_blk (j : ℕ) (hj : j < 4) (d : Fin 64) : bl8 (X11 m ρ) c (pt1 (gp b + j)) (ix2 (rr b) d) = Ref.ad U b d := by
  rw [bl8_at, row_pt b j hj, x11_v16_2 m ρ c U hA, O17_at]

/-! ### The family -/

theorem lo_at (j : ℕ) (hj : j < 4) (f : Fin 8) (hf : f.val < 5) (n : Fin 4096) (k : Fin 8192) (hk : k.val = 4096 * (j % 2) + n.val) :
    famRow (bl0 (X11 m ρ) c (pt1 (gp b + j))) (bl1 (X11 m ρ) c (pt1 (gp b + j))) (bl2 (X11 m ρ) c (pt1 (gp b + j))) f (rr b) (ix3 0 0 n)
      = ∑ d : Fin 64, O18 U (ix3 b f d) * Ref.a1 U (ix3 b k d) := by
  rw [famRow_lo _ _ _ _ _ f hf]
  refine Finset.sum_congr rfl fun d _ => ?_
  rw [lm_blk m ρ c U hA b j hj, mem_blk m ρ c U hA b j hj]
  have e : (⟨4096 * (j % 2) + n.val, by omega⟩ : Fin 8192) = k := Fin.ext hk.symm
  rw [e]
theorem hi_at (j : ℕ) (hj : j < 4) (f g : Fin 8) (hf : f.val = g.val + 5) (n : Fin 4096) (k : Fin 8192) (hk : k.val = 4096 * (j % 2) + n.val) :
    famRow (bl0 (X11 m ρ) c (pt1 (gp b + j))) (bl1 (X11 m ρ) c (pt1 (gp b + j))) (bl2 (X11 m ρ) c (pt1 (gp b + j))) f (rr b) (ix3 0 0 n)
      = ∑ d : Fin 64, O19 U (ix3 b g d) * (Ref.a1 U (ix3 b k d) * Ref.a1 U (ix3 b k d)) := by
  rw [famRow_hi _ _ _ _ _ f g hf]
  refine Finset.sum_congr rfl fun d _ => ?_
  rw [lsq_blk m ρ c U hA b j hj, mem_blk m ρ c U hA b j hj]
  have e : (⟨4096 * (j % 2) + n.val, by omega⟩ : Fin 8192) = k := Fin.ext hk.symm
  rw [e]

theorem fam_lo (f : Fin 8) (hf : f.val < 5) (k : Fin 8192) :
    FamAt (X11 m ρ) c (gp b) (ix3 f (rr b) k) = ∑ d : Fin 64, O18 U (ix3 b f d) * Ref.a1 U (ix3 b k d) := by
  unfold FamAt famFull
  show (if k.val < 4096 then _ else _) = _
  by_cases hk : k.val < 4096
  · rw [if_pos hk]
    exact lo_at m ρ c U hA b 0 (by omega) f hf ⟨(k.val - 0) % 4096, Nat.mod_lt _ (by decide)⟩ k (by show k.val = 4096 * (0 % 2) + (k.val - 0) % 4096; omega)
  · rw [if_neg hk]
    exact lo_at m ρ c U hA b 1 (by omega) f hf ⟨(k.val - 4096) % 4096, Nat.mod_lt _ (by decide)⟩ k (by show k.val = 4096 * (1 % 2) + (k.val - 4096) % 4096; omega)
theorem fam_hi (f g : Fin 8) (hf : f.val = g.val + 5) (k : Fin 8192) :
    FamAt (X11 m ρ) c (gp b) (ix3 f (rr b) k) = ∑ d : Fin 64, O19 U (ix3 b g d) * (Ref.a1 U (ix3 b k d) * Ref.a1 U (ix3 b k d)) := by
  unfold FamAt famFull
  show (if k.val < 4096 then _ else _) = _
  by_cases hk : k.val < 4096
  · rw [if_pos hk]
    exact hi_at m ρ c U hA b 0 (by omega) f g hf ⟨(k.val - 0) % 4096, Nat.mod_lt _ (by decide)⟩ k (by show k.val = 4096 * (0 % 2) + (k.val - 0) % 4096; omega)
  · rw [if_neg hk]
    exact hi_at m ρ c U hA b 1 (by omega) f g hf ⟨(k.val - 4096) % 4096, Nat.mod_lt _ (by decide)⟩ k (by show k.val = 4096 * (1 % 2) + (k.val - 4096) % 4096; omega)
end

/-! ### The weights -/

section
include hA H

theorem sq_max {n : ℕ} {f : Fin n → EReal} (h : ∀ i, Ref.IsR (f i)) : max (∑ d, f d * f d) 0 = ∑ d, f d * f d := by
  obtain ⟨F, hF⟩ := Ref.IsR.fam h
  simp only [hF]
  obtain ⟨q, hq, hqe⟩ := sq_real F
  rw [hqe, max_eq_left (EReal.coe_nonneg.2 hq)]

theorem zW_row : zW (FamAt (X11 m ρ) c (gp b)) (bl3 (X11 m ρ) c (pt1 (gp b + 1))) (rr b) = Ref.z_w U b := by
  funext k
  unfold zW
  rw [parw_blk m ρ c U hA b 1 (by omega), parw_blk m ρ c U hA b 1 (by omega), fam_lo m ρ c U hA b 0 (by decide), fam_hi m ρ c U hA b 5 0 (by decide), O21_at0, O21_at6]
  simp only [O18_at0, O19_at0, one_mul]
  rw [sq_max m c U hA H fun d => H.r1 (ix3 b k d)]
  simp only [mul_comm (Ref.k_w U b _) (Ref.a1 U _)]
  rfl
theorem ww_row : wwE (FamAt (X11 m ρ) c (gp b)) (bl3 (X11 m ρ) c (pt1 (gp b + 1))) (bl4 (X11 m ρ) c (pt1 (gp b + 1))) (rr b)
    = fun n => Ref.wW U (ix3 b n 0) := by
  funext n
  rw [H.ww b n]
  unfold wwE
  rw [zW_row m ρ c U hA H b]
  simp only [parw_blk m ρ c U hA b 1 (by omega), pw_blk m ρ c U hA b 1 (by omega), O21_at1, O21_at2, O21_at3, O21_at4, O21_at5]
  rfl

theorem dot_row (k : Fin 8192) :
    dotE (FamAt (X11 m ρ) c (gp b)) (bl3 (X11 m ρ) c (pt1 (gp b + 1))) (bl4 (X11 m ρ) c (pt1 (gp b + 1))) (bl5 (X11 m ρ) c (pt1 (gp b + 1))) (rr b) k
      = ∑ d : Fin 64, Ref.nMem U (ix3 b k d) * Ref.k_r U b d := by
  unfold dotE
  rw [ww_row m ρ c U hA H b, fam_lo m ρ c U hA b 1 (by decide), fam_lo m ρ c U hA b 2 (by decide), parr_blk m ρ c U hA b 1 (by omega), O20_at7]
  obtain ⟨M, hM⟩ := Ref.IsR.fam fun d => H.r1 (ix3 b k d)
  obtain ⟨K, hK⟩ := Ref.IsR.fam (H.k_r b)
  obtain ⟨E, hE⟩ := Ref.IsR.fam (H.er b)
  obtain ⟨A, hAd⟩ := Ref.IsR.fam (H.ad b)
  obtain ⟨w, hw⟩ := H.ww_real b k
  simp only [O18_at1, O18_at2, Ref.mem_at, hM, hK, hE, hAd, hw]
  exact dots_expand M K E A w
theorem sqn_row (k : Fin 8192) :
    sqnE (FamAt (X11 m ρ) c (gp b)) (bl3 (X11 m ρ) c (pt1 (gp b + 1))) (bl4 (X11 m ρ) c (pt1 (gp b + 1))) (bl5 (X11 m ρ) c (pt1 (gp b + 1))) (rr b) k
      = ∑ d : Fin 64, Ref.nMem U (ix3 b k d) * Ref.nMem U (ix3 b k d) := by
  unfold sqnE
  rw [ww_row m ρ c U hA H b, fam_lo m ρ c U hA b 3 (by decide), fam_lo m ρ c U hA b 4 (by decide), fam_hi m ρ c U hA b 5 0 (by decide),
    fam_hi m ρ c U hA b 6 1 (by decide), fam_hi m ρ c U hA b 7 2 (by decide), parr_blk m ρ c U hA b 1 (by omega), O20_at8, two_eq]
  obtain ⟨M, hM⟩ := Ref.IsR.fam fun d => H.r1 (ix3 b k d)
  obtain ⟨E, hE⟩ := Ref.IsR.fam (H.er b)
  obtain ⟨A, hAd⟩ := Ref.IsR.fam (H.ad b)
  obtain ⟨w, hw⟩ := H.ww_real b k
  simp only [O18_at3, O18_at4, O19_at0, O19_at1, O19_at2, Ref.mem_at, hM, hE, hAd, hw]
  exact sqn_expand M E A w

theorem zR_row : zR (FamAt (X11 m ρ) c (gp b)) (bl3 (X11 m ρ) c (pt1 (gp b + 1))) (bl4 (X11 m ρ) c (pt1 (gp b + 1))) (bl5 (X11 m ρ) c (pt1 (gp b + 1))) (rr b)
    = Ref.z_r U b := by
  funext k
  unfold zR
  rw [dot_row m ρ c U hA H b, sqn_row m ρ c U hA H b, sq_max m c U hA H fun d => H.mem b k d, parr_blk m ρ c U hA b 1 (by omega),
    parr_blk m ρ c U hA b 1 (by omega), O20_at0, O20_at6]
  rfl
theorem wr_row : wrE (FamAt (X11 m ρ) c (gp b)) (bl3 (X11 m ρ) c (pt1 (gp b + 1))) (bl4 (X11 m ρ) c (pt1 (gp b + 1))) (bl5 (X11 m ρ) c (pt1 (gp b + 1)))
    (bl6 (X11 m ρ) c (pt1 (gp b + 1))) (rr b) = Ref.rW U b := by
  unfold wrE Ref.rW
  rw [zR_row m ρ c U hA H b]
  simp only [parr_blk m ρ c U hA b 1 (by omega), pr_blk m ρ c U hA b 1 (by omega), O20_at1, O20_at2, O20_at3, O20_at4, O20_at5]
  rfl

theorem WrAt_row (n : Fin 8192) : WrAt (X11 m ρ) c (gp b) (ix2 (rr b) n) = Ref.rW U b n := by
  unfold WrAt
  rw [wrVal_at, wr_row m ρ c U hA H b]
theorem WrwwAt_row (n : Fin 8192) : WrwwAt (X11 m ρ) c (gp b) (ix2 (rr b) n) = Ref.rW U b n * Ref.wW U (ix3 b n 0) := by
  unfold WrwwAt
  rw [wrwwVal_at, wr_row m ρ c U hA H b, ww_row m ρ c U hA H b]
theorem SwrAt_row : SwrAt (X11 m ρ) c (gp b) (ix2 (rr b) 0) = ∑ n : Fin 8192, Ref.rW U b n * Ref.wW U (ix3 b n 0) := by
  unfold SwrAt
  rw [swrVal_at, wr_row m ρ c U hA H b, ww_row m ρ c U hA H b]

/-! ### The read vector -/

theorem acc_row (w : Vec Ideal S8x8192 .f32) (d : Fin 64) :
    (∑ l : Fin 128, accAt (pt1 (gp b + 3)) (bl0 (X11 m ρ) c (pt1 (gp b + 3))) w (accAt (pt1 (gp b + 2)) (bl0 (X11 m ρ) c (pt1 (gp b + 2))) w acc0) (ix3 (rr b) d l))
      = ∑ n : Fin 8192, Ref.a1 U (ix3 b n d) * w (ix2 (rr b) n) := by
  have e2 := pt_val b 2 (by omega)
  have e3 := pt_val b 3 (by omega)
  have h2 : (pt1 (gp b + 2)).val % 4 = 2 := by rw [e2]; unfold gp; omega
  have h3 : (pt1 (gp b + 3)).val % 4 = 3 := by rw [e3]; unfold gp; omega
  rw [accAt_of _ (cond_pt _ (by omega)), accAt_of _ (cond_pt _ (by omega))]
  refine acc_both _ _ _ _ ?_ ?_ _ _ w (fun n => Ref.a1 U (ix3 b n d)) (rr b) d (fun n => ?_) (fun n => ?_)
  · rw [offR_eq _ (by omega), h2]
  · rw [offR_eq _ (by omega), h3]
  · rw [mem_blk m ρ c U hA b 2 (by omega)]
    exact congrArg (fun i => Ref.a1 U (ix3 b i d)) (Fin.ext (show 4096 * (2 % 2) + n.val = n.val by omega))
  · rw [mem_blk m ρ c U hA b 3 (by omega)]

/-- A row of the second call's result. -/
theorem out_row (d : Fin 64) : OutAt (X11 m ρ) c (ptOf b) (ix2 (rr b) d) = ∑ n : Fin 8192, Ref.nMem U (ix3 b n d) * Ref.rW U b n := by
  have e : (pt1 (gp b + 3)).val - 3 = gp b := by rw [pt_val b 3 (by omega)]; omega
  rw [pt_last]
  unfold OutAt
  rw [e]
  unfold Acc1At Acc2At
  rw [outVal_at, acc_row m ρ c U hA H b, acc_row m ρ c U hA H b, SwrAt_row m ρ c U hA H b, er_blk m ρ c U hA b 3 (by omega), ad_blk m ρ c U hA b 3 (by omega)]
  simp only [WrAt_row m ρ c U hA H b, WrwwAt_row m ρ c U hA H b]
  obtain ⟨M, hM⟩ := Ref.IsR.fam fun n => H.r1 (ix3 b n d)
  obtain ⟨R, hR⟩ := Ref.IsR.fam (H.rw_real b)
  obtain ⟨W, hW⟩ := Ref.IsR.fam (H.ww_real b)
  obtain ⟨E, hE⟩ := H.er b d
  obtain ⟨A, hAd⟩ := H.ad b d
  simp only [Ref.mem_at, hM, hR, hW, hE, hAd]
  exact read_expand M W R E A
end

end Cert.Val

end
-- ==== Proof.VPre.lean ====
/- What the precondition says: every argument is a real number at every place, and the previous weights are not negative. -/
module

public import proofs.«01_k».proof.Pre_finite_inputs
public import proofs.«01_k».proof.Proof.VMath
public import Idealize.ShloMosaic.Lib.ReduceAll

@[expose] public section

set_option maxRecDepth 16384

noncomputable section

namespace Cert.Val.Pre

open Cert.Pre_finite_inputs
open Idealize.ShloMosaic Idealize.ShloMosaic.StableHlo

/-- The shape relations of the precondition's operations. -/
instance facts : Cert.Pre_finite_inputs.Facts where
  bcast_S_S64x8192 := by decide
  reducesTo_S64x8192_S_d0_1 := by decide
  h_S_ := by decide
  bcast_S_S64x128 := by decide
  reducesTo_S64x128_S_d0_1 := by decide
  bcast_S_S64x8192x64 := by decide
  reducesTo_S64x8192x64_S_d0_1_2 := by decide
  bcast_S_S64x64 := by decide
  reducesTo_S64x64_S_d0_1 := by decide
  bcast_S_S192x256 := by decide
  reducesTo_S192x256_S_d0_1 := by decide
  bcast_S_S256 := by decide
  reducesTo_S256_S_d0 := by decide
  bcast_S_S256x64 := by decide
  reducesTo_S256x64_S_d0_1 := by decide
  bcast_S_S64 := by decide
  reducesTo_S64_S_d0 := by decide
  bcast_S_S256x1 := by decide
  reducesTo_S256x1_S_d0_1 := by decide
  bcast_S_S1 := by decide
  reducesTo_S1_S_d0 := by decide
  bcast_S_S256x3 := by decide
  reducesTo_S256x3_S_d0_1 := by decide
  bcast_S_S3 := by decide
  reducesTo_S3_S_d0 := by decide

/-- The one index of a scalar. -/
def i0 : S_.Idx := fun a => a.elim0
instance : Subsingleton S_.Idx := ⟨fun _ _ => funext fun a => a.elim0⟩

theorem and_split {x y : IVec S_ 1} (h : andi x y i0 = 1#1) : x i0 = 1#1 ∧ y i0 = 1#1 := IntOp.andi_eq_one.1 h
theorem ofBool_true {b : Bool} (h : BitVec.ofBool b = 1#1) : b = true := by
  cases b
  · exact absurd h (by decide)
  · rfl

/-- An array all of whose absolute values lie below infinity is real at every place. -/
theorem real_of {S : Shape} {axes : List (Fin S.rank)} (hb : S_.BroadcastsInDim S (![] : Fin 0 → Fin S.rank)) (hr : S.ReducesTo axes S_) (hu : 0 < S_.numel) (x : FVec Ideal S .f32)
    (e : Host.reduce IntOp.andi (cmpf (F := Ideal) .olt (Host.absf x) (broadcastInDim S ![] hb (constant S_ .f32 0x7F800000#32))) (constantI S_ 1 1#1) hr hu i0 = 1#1)
    (y : S.Idx) : ∃ r : ℝ, x y = (r : EReal) := by
  have h := Host.reduce_andi_all _ _ hr hu i0 e y
  have h' : Ideal.cmp .olt (max (x y) (-(x y))) (Ideal.ofBits .f32 0x7F800000#32) = 1#1 := h
  rw [inf_eq] at h'
  exact real_of_abs_lt _ (of_decide_eq_true (ofBool_true h'))
/-- An array compared with nought is not negative at any place. -/
theorem nonneg_of {S : Shape} {axes : List (Fin S.rank)} (hb : S_.BroadcastsInDim S (![] : Fin 0 → Fin S.rank)) (hr : S.ReducesTo axes S_) (hu : 0 < S_.numel) (x : FVec Ideal S .f32)
    (e : Host.reduce IntOp.andi (cmpf (F := Ideal) .oge x (broadcastInDim S ![] hb (constant S_ .f32 0x00000000#32))) (constantI S_ 1 1#1) hr hu i0 = 1#1)
    (y : S.Idx) : 0 ≤ x y := by
  have h := Host.reduce_andi_all _ _ hr hu i0 e y
  have h' : Ideal.cmp .oge (x y) (Ideal.ofBits .f32 0x00000000#32) = 1#1 := h
  rw [Ideal.ofBits_zero_f32] at h'
  exact of_decide_eq_true (ofBool_true h')

variable (x0 : FVec Ideal S64x128 .f32)
  (x1 : FVec Ideal S64x8192x64 .f32)
  (x2 : FVec Ideal S64x8192 .f32)
  (x3 : FVec Ideal S64x8192 .f32)
  (x4 : FVec Ideal S64x64 .f32)
  (x5 : FVec Ideal S192x256 .f32)
  (x6 : FVec Ideal S256 .f32)
  (x7 : FVec Ideal S256x64 .f32)
  (x8 : FVec Ideal S64 .f32)
  (x9 : FVec Ideal S256x1 .f32)
  (x10 : FVec Ideal S1 .f32)
  (x11 : FVec Ideal S256x1 .f32)
  (x12 : FVec Ideal S1 .f32)
  (x13 : FVec Ideal S256x3 .f32)
  (x14 : FVec Ideal S3 .f32)
  (x15 : FVec Ideal S256x1 .f32)
  (x16 : FVec Ideal S1 .f32)
  (x17 : FVec Ideal S256x64 .f32)
  (x18 : FVec Ideal S64 .f32)
  (x19 : FVec Ideal S256x1 .f32)
  (x20 : FVec Ideal S1 .f32)
  (x21 : FVec Ideal S256x1 .f32)
  (x22 : FVec Ideal S1 .f32)
  (x23 : FVec Ideal S256x3 .f32)
  (x24 : FVec Ideal S3 .f32)
  (x25 : FVec Ideal S256x1 .f32)
  (x26 : FVec Ideal S1 .f32)
  (x27 : FVec Ideal S256x64 .f32)
  (x28 : FVec Ideal S64 .f32)
  (x29 : FVec Ideal S256x64 .f32)
  (x30 : FVec Ideal S64 .f32)

/-- The precondition, read back. -/
structure Says : Prop where
  r0 : ∀ y, ∃ r : ℝ, x0 y = (r : EReal)
  r1 : ∀ y, ∃ r : ℝ, x1 y = (r : EReal)
  r2 : ∀ y, ∃ r : ℝ, x2 y = (r : EReal)
  r3 : ∀ y, ∃ r : ℝ, x3 y = (r : EReal)
  r4 : ∀ y, ∃ r : ℝ, x4 y = (r : EReal)
  r5 : ∀ y, ∃ r : ℝ, x5 y = (r : EReal)
  r6 : ∀ y, ∃ r : ℝ, x6 y = (r : EReal)
  r7 : ∀ y, ∃ r : ℝ, x7 y = (r : EReal)
  r8 : ∀ y, ∃ r : ℝ, x8 y = (r : EReal)
  r9 : ∀ y, ∃ r : ℝ, x9 y = (r : EReal)
  r10 : ∀ y, ∃ r : ℝ, x10 y = (r : EReal)
  r11 : ∀ y, ∃ r : ℝ, x11 y = (r : EReal)
  r12 : ∀ y, ∃ r : ℝ, x12 y = (r : EReal)
  r13 : ∀ y, ∃ r : ℝ, x13 y = (r : EReal)
  r14 : ∀ y, ∃ r : ℝ, x14 y = (r : EReal)
  r15 : ∀ y, ∃ r : ℝ, x15 y = (r : EReal)
  r16 : ∀ y, ∃ r : ℝ, x16 y = (r : EReal)
  r17 : ∀ y, ∃ r : ℝ, x17 y = (r : EReal)
  r18 : ∀ y, ∃ r : ℝ, x18 y = (r : EReal)
  r19 : ∀ y, ∃ r : ℝ, x19 y = (r : EReal)
  r20 : ∀ y, ∃ r : ℝ, x20 y = (r : EReal)
  r21 : ∀ y, ∃ r : ℝ, x21 y = (r : EReal)
  r22 : ∀ y, ∃ r : ℝ, x22 y = (r : EReal)
  r23 : ∀ y, ∃ r : ℝ, x23 y = (r : EReal)
  r24 : ∀ y, ∃ r : ℝ, x24 y = (r : EReal)
  r25 : ∀ y, ∃ r : ℝ, x25 y = (r : EReal)
  r26 : ∀ y, ∃ r : ℝ, x26 y = (r : EReal)
  r27 : ∀ y, ∃ r : ℝ, x27 y = (r : EReal)
  r28 : ∀ y, ∃ r : ℝ, x28 y = (r : EReal)
  r29 : ∀ y, ∃ r : ℝ, x29 y = (r : EReal)
  r30 : ∀ y, ∃ r : ℝ, x30 y = (r : EReal)
  n2 : ∀ y, 0 ≤ x2 y
  n3 : ∀ y, 0 ≤ x3 y

theorem readBack (h : Cert.Pre_finite_inputs.fn (F := Ideal) x0 x1 x2 x3 x4 x5 x6 x7 x8 x9 x10 x11 x12 x13 x14 x15 x16 x17 x18 x19 x20 x21 x22 x23 x24 x25 x26 x27 x28 x29 x30 = fun _ => 1#1) :
    Says x0 x1 x2 x3 x4 x5 x6 x7 x8 x9 x10 x11 x12 x13 x14 x15 x16 x17 x18 x19 x20 x21 x22 x23 x24 x25 x26 x27 x28 x29 x30 := by
  have h := congrFun h i0
  simp only [Cert.Pre_finite_inputs.fn, fn_part1, fn_part2, fn_part3, fn_part4, fn_part5, fn_part6, fn_part7, fn_part8, fn_part9] at h
  have e30 := (and_split h).2
  replace h := (and_split h).1
  have e29 := (and_split h).2
  replace h := (and_split h).1
  have e28 := (and_split h).2
  replace h := (and_split h).1
  have e27 := (and_split h).2
  replace h := (and_split h).1
  have e26 := (and_split h).2
  replace h := (and_split h).1
  have e25 := (and_split h).2
  replace h := (and_split h).1
  have e24 := (and_split h).2
  replace h := (and_split h).1
  have e23 := (and_split h).2
  replace h := (and_split h).1
  have e22 := (and_split h).2
  replace h := (and_split h).1
  have e21 := (and_split h).2
  replace h := (and_split h).1
  have e20 := (and_split h).2
  replace h := (and_split h).1
  have e19 := (and_split h).2
  replace h := (and_split h).1
  have e18 := (and_split h).2
  replace h := (and_split h).1
  have e17 := (and_split h).2
  replace h := (and_split h).1
  have e16 := (and_split h).2
  replace h := (and_split h).1
  have e15 := (and_split h).2
  replace h := (and_split h).1
  have e14 := (and_split h).2
  replace h := (and_split h).1
  have e13 := (and_split h).2
  replace h := (and_split h).1
  have e12 := (and_split h).2
  replace h := (and_split h).1
  have e11 := (and_split h).2
  replace h := (and_split h).1
  have e10 := (and_split h).2
  replace h := (and_split h).1
  have e9 := (and_split h).2
  replace h := (and_split h).1
  have e8 := (and_split h).2
  replace h := (and_split h).1
  have e7 := (and_split h).2
  replace h := (and_split h).1
  have e6 := (and_split h).2
  replace h := (and_split h).1
  have e5 := (and_split h).2
  replace h := (and_split h).1
  have e4 := (and_split h).2
  replace h := (and_split h).1
  have e3 := (and_split h).2
  replace h := (and_split h).1
  have e2 := (and_split h).2
  replace h := (and_split h).1
  have e1 := (and_split h).2
  replace h := (and_split h).1
  have e0 := (and_split h).2
  replace h := (and_split h).1
  obtain ⟨p2, p3⟩ := and_split h
  exact ⟨real_of _ _ _ x0 e0, real_of _ _ _ x1 e1, real_of _ _ _ x2 e2, real_of _ _ _ x3 e3, real_of _ _ _ x4 e4, real_of _ _ _ x5 e5, real_of _ _ _ x6 e6, real_of _ _ _ x7 e7, real_of _ _ _ x8 e8, real_of _ _ _ x9 e9, real_of _ _ _ x10 e10, real_of _ _ _ x11 e11, real_of _ _ _ x12 e12, real_of _ _ _ x13 e13, real_of _ _ _ x14 e14, real_of _ _ _ x15 e15, real_of _ _ _ x16 e16, real_of _ _ _ x17 e17, real_of _ _ _ x18 e18, real_of _ _ _ x19 e19, real_of _ _ _ x20 e20, real_of _ _ _ x21 e21, real_of _ _ _ x22 e22, real_of _ _ _ x23 e23, real_of _ _ _ x24 e24, real_of _ _ _ x25 e25, real_of _ _ _ x26 e26, real_of _ _ _ x27 e27, real_of _ _ _ x28 e28, real_of _ _ _ x29 e29, real_of _ _ _ x30 e30, nonneg_of _ _ _ x2 p2, nonneg_of _ _ _ x3 p3⟩

end Cert.Val.Pre

end
-- ==== Proof.VEnd.lean ====
/- The program's result is the reference's. -/
module

public import proofs.«01_k».proof.Defs
public import proofs.«01_k».proof.Proof.VRow
public import proofs.«01_k».proof.Proof.VPre

@[expose] public section

set_option maxRecDepth 16384

noncomputable section

namespace Cert.Val.Ref

open Cert.ReferenceIdeal Cert.ReferenceIdeal.Gen Cert.ReferenceIdeal.Value
open Idealize.ShloMosaic Idealize.ShloMosaic.TcCoe Idealize.ShloMosaic.StableHlo

variable (U : Valuation τ sig (Elt Ideal))

/-- The reference's two parts of the result. -/
abbrev ctl : FVec Ideal S64x256 .f32 := res_main_v5 U
abbrev rd : FVec Ideal S64x64 .f32 :=
  Host.dotGeneral (F := Ideal) dot_S64x8192x64_S64x8192_S64x64_1_1_2_n_0_0 none (nMem U) (Host.divf (uR U) (broadcastInDim S64x8192 ![0, 1] bcast_S64x1_S64x8192_0_1 (addf (broadcastInDim S64x1 ![0] bcast_S64_S64x1_0 (Host.reduceAdd (uR U) (constant S_ .f32 0x00000000#32) reducesTo_S64x8192_S64_d1 h_S_)) (broadcastInDim S64x1 ![] bcast_S_S64x1 (constant S_ .f32 0x322BCC77#32)))))
/-- The reference's result. -/
abbrev res : FVec Ideal S64x320 .f32 := concatenate S64x320 1 [⟨S64x256, ctl U⟩, ⟨S64x64, rd U⟩] concatenates_S64x256_S64x64_S64x320_d1

end Cert.Val.Ref

namespace Cert.Val

open Cert.KernelIdeal Cert.KernelIdeal.Gen Cert.KernelIdeal.Hand
open Idealize.ShloMosaic Idealize.ShloMosaic.TcCoe Idealize.ShloMosaic.StableHlo

section
variable (m : (ℓ : Loc nD τ sig) → Buf (Elt Ideal) ℓ) (ρ : Dev nD → PrngReg) (c : Dev nD)
  (U : Valuation Cert.ReferenceIdeal.τ Cert.ReferenceIdeal.sig (Elt Ideal)) (hA : Agr m c U) (H : Ref.FinU U)

theorem ctl_eq : O15 U = Ref.ctl U := by
  funext y
  have hy : y = ix2 (y 0) (y 1) := by funext a; fin_cases a <;> rfl
  rw [hy]
  exact O15_at U (y 0) (y 1)
include hA H
theorem rd_eq : outG (X11 m ρ) c = Ref.rd U := by
  funext y
  have hy : y = ix2 (y 0) (y 1) := by funext a; fin_cases a <;> rfl
  refine (out_row m ρ c U hA H (y 0) (y 1)).trans ?_
  conv_rhs => rw [hy]
  refine Eq.trans ?_ (Ref.out_at U (y 0) (y 1)).symm
  exact Finset.sum_congr rfl fun n _ => congrArg _ (H.rw (y 0) n).symm
/-- The buffer of the result, at the end of the program. -/
theorem result : (W13 m ρ c (Proc.devRef .tc main_v19) : FVec Ideal S64x320 .f32) = Ref.res U := by
  rw [x13_v19 m ρ c U hA, ctl_eq, rd_eq m ρ c U hA H]
end

set_option maxHeartbeats 2000000 in
/-- The precondition, on arguments that are the reference's. -/
theorem finU (m : (ℓ : Loc nD τ sig) → Buf (Elt Ideal) ℓ) (c : Dev nD) (U : Valuation Cert.ReferenceIdeal.τ Cert.ReferenceIdeal.sig (Elt Ideal))
    (hA : Agr m c U) (hp : Cert.Pre_KernelIdeal_finite_inputs m) : Ref.FinU U := by
  have S := Pre.readBack _ _ _ _ _ _ _ _ _ _ _ _ _ _ _ _ _ _ _ _ _ _ _ _ _ _ _ _ _ _ _ (hp c)
  exact {
    r0 := by rw [← hA.e0]; exact S.r0
    r1 := by rw [← hA.e1]; exact S.r1
    r2 := by rw [← hA.e2]; exact S.r2
    r3 := by rw [← hA.e3]; exact S.r3
    r4 := by rw [← hA.e4]; exact S.r4
    r5 := by rw [← hA.e5]; exact S.r5
    r6 := by rw [← hA.e6]; exact S.r6
    r7 := by rw [← hA.e7]; exact S.r7
    r8 := by rw [← hA.e8]; exact S.r8
    r9 := by rw [← hA.e9]; exact S.r9
    r10 := by rw [← hA.e10]; exact S.r10
    r11 := by rw [← hA.e11]; exact S.r11
    r12 := by rw [← hA.e12]; exact S.r12
    r13 := by rw [← hA.e13]; exact S.r13
    r14 := by rw [← hA.e14]; exact S.r14
    r15 := by rw [← hA.e15]; exact S.r15
    r16 := by rw [← hA.e16]; exact S.r16
    r17 := by rw [← hA.e17]; exact S.r17
    r18 := by rw [← hA.e18]; exact S.r18
    r19 := by rw [← hA.e19]; exact S.r19
    r20 := by rw [← hA.e20]; exact S.r20
    r21 := by rw [← hA.e21]; exact S.r21
    r22 := by rw [← hA.e22]; exact S.r22
    r23 := by rw [← hA.e23]; exact S.r23
    r24 := by rw [← hA.e24]; exact S.r24
    r25 := by rw [← hA.e25]; exact S.r25
    r26 := by rw [← hA.e26]; exact S.r26
    r27 := by rw [← hA.e27]; exact S.r27
    r28 := by rw [← hA.e28]; exact S.r28
    r29 := by rw [← hA.e29]; exact S.r29
    r30 := by rw [← hA.e30]; exact S.r30
    n2 := by rw [← hA.e2]; exact S.n2
    n3 := by rw [← hA.e3]; exact S.n3
  }

end Cert.Val

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KFold
public import proofs.«01_k».proof.Proof.IFold
public import proofs.«01_k».proof.Proof.VEnd
public import Idealize.ShloMosaic.Adequacy
public import Idealize.ShloMosaic.Init

@[expose] public section

noncomputable section

namespace Cert.Proof

open Idealize.ShloMosaic Idealize.SL.Sem

/-- The reference is host operations only: its run's arguments, and no semaphore. -/
theorem frame_ref : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealization's result is the reference's, for arguments that are real and previous weights that are not negative. -/
theorem value : Cert.algebraic_KernelIdeal_ReferenceIdeal_pre_finite_inputs (hKernelIdeal := Cert.KernelIdeal.Gen.facts)
    (hReferenceIdeal := Cert.ReferenceIdeal.Gen.facts) (hPre_finite_inputs := Cert.Val.Pre.facts) := by
  intro m g m' g' hp hm
  have hA : ∀ c, Cert.Val.Agr m c (StableHlo.launchContents m' c) := fun c => by
    obtain ⟨h0, h1, h2, h3, h4, h5, h6, h7, h8, h9, h10, h11, h12, h13, h14, h15, h16, h17, h18, h19, h20, h21, h22, h23, h24, h25, h26, h27, h28, h29, h30⟩ := hm c
    exact ⟨h0.symm, h1.symm, h2.symm, h3.symm, h4.symm, h5.symm, h6.symm, h7.symm, h8.symm, h9.symm, h10.symm, h11.symm, h12.symm, h13.symm, h14.symm, h15.symm, h16.symm, h17.symm, h18.symm, h19.symm, h20.symm, h21.symm, h22.symm, h23.symm, h24.symm, h25.symm, h26.symm, h27.symm, h28.symm, h29.symm, h30.symm⟩
  refine ⟨fun c => Cert.KernelIdeal.Hand.W13 m g c (Proc.devRef .tc Cert.KernelIdeal.main_v19), ?_, ?_⟩
  · refine (θ_run Cert.KernelIdeal.defs _ _).mono (fun r h c => ?_) (Cert.KernelIdeal.Hand.run m g)
    have a : ∀ b ∈ Cert.KernelIdeal.Hand.argRefs, ¬ (Proc.devRef .tc b : DevRef Cert.KernelIdeal.τ Cert.KernelIdeal.sig).isScoped →
        r.2.mem ((c.tc : Thread Cert.KernelIdeal.nD Cert.KernelIdeal.τ).loc b) = m ((c.tc : Thread Cert.KernelIdeal.nD Cert.KernelIdeal.τ).loc b) := fun b hb hs =>
      (h.1 c _ (Cert.KernelIdeal.Hand.mem_uc b hs)).trans (Cert.KernelIdeal.Hand.W13_args m g c b hb)
    exact ⟨h.1 c _ (Cert.KernelIdeal.Hand.mem_uc Cert.KernelIdeal.main_v19 (by decide)),
      a Cert.KernelIdeal.main_arg0 (by decide +kernel) (by decide),
      a Cert.KernelIdeal.main_arg1 (by decide +kernel) (by decide),
      a Cert.KernelIdeal.main_arg2 (by decide +kernel) (by decide),
      a Cert.KernelIdeal.main_arg3 (by decide +kernel) (by decide),
      a Cert.KernelIdeal.main_arg4 (by decide +kernel) (by decide),
      a Cert.KernelIdeal.main_arg5 (by decide +kernel) (by decide),
      a Cert.KernelIdeal.main_arg6 (by decide +kernel) (by decide),
      a Cert.KernelIdeal.main_arg7 (by decide +kernel) (by decide),
      a Cert.KernelIdeal.main_arg8 (by decide +kernel) (by decide),
      a Cert.KernelIdeal.main_arg9 (by decide +kernel) (by decide),
      a Cert.KernelIdeal.main_arg10 (by decide +kernel) (by decide),
      a Cert.KernelIdeal.main_arg11 (by decide +kernel) (by decide),
      a Cert.KernelIdeal.main_arg12 (by decide +kernel) (by decide),
      a Cert.KernelIdeal.main_arg13 (by decide +kernel) (by decide),
      a Cert.KernelIdeal.main_arg14 (by decide +kernel) (by decide),
      a Cert.KernelIdeal.main_arg15 (by decide +kernel) (by decide),
      a Cert.KernelIdeal.main_arg16 (by decide +kernel) (by decide),
      a Cert.KernelIdeal.main_arg17 (by decide +kernel) (by decide),
      a Cert.KernelIdeal.main_arg18 (by decide +kernel) (by decide),
      a Cert.KernelIdeal.main_arg19 (by decide +kernel) (by decide),
      a Cert.KernelIdeal.main_arg20 (by decide +kernel) (by decide),
      a Cert.KernelIdeal.main_arg21 (by decide +kernel) (by decide),
      a Cert.KernelIdeal.main_arg22 (by decide +kernel) (by decide),
      a Cert.KernelIdeal.main_arg23 (by decide +kernel) (by decide),
      a Cert.KernelIdeal.main_arg24 (by decide +kernel) (by decide),
      a Cert.KernelIdeal.main_arg25 (by decide +kernel) (by decide),
      a Cert.KernelIdeal.main_arg26 (by decide +kernel) (by decide),
      a Cert.KernelIdeal.main_arg27 (by decide +kernel) (by decide),
      a Cert.KernelIdeal.main_arg28 (by decide +kernel) (by decide),
      a Cert.KernelIdeal.main_arg29 (by decide +kernel) (by decide),
      a Cert.KernelIdeal.main_arg30 (by decide +kernel) (by decide)⟩
  · refine (θ_run Cert.ReferenceIdeal.defs _ _).mono (fun r h c => ⟨(h c).1.trans ?_, (h c).2⟩) (Cert.ReferenceIdeal.Value.run (F := Ideal) m' g')
    exact (Cert.Val.result m g c _ (hA c) (Cert.Val.finU m c _ (hA c) hp)).symm

theorem claim : Cert.Claim := ⟨Cert.Kernel.Gen.facts, Cert.KernelIdeal.Gen.facts, Cert.ReferenceIdeal.Gen.facts, Cert.Val.Pre.facts,
  fun m ρ _ => Cert.Kernel.Hand.frame m ρ, fun m ρ _ => Cert.KernelIdeal.Hand.frame m ρ, fun m ρ _ => Cert.KernelIdeal.Hand.frame m ρ, frame_ref,
  fun m ρ _ => frame_ref m ρ trivial, trivial, value⟩

end Cert.Proof

end
